-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def preserves_Kernel_KernelIdeal : Prop :=
  True

def algebraic_KernelIdeal_ReferenceIdeal_on_gates_written [hKernelIdeal : Cert.KernelIdeal.Facts] [hReferenceIdeal : Cert.ReferenceIdeal.Facts] [hOn_gates_written : Cert.On_gates_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)) (v4 : (c : Dev Cert.KernelIdeal.nD) → Buf (Elt Ideal) ((c.tc : Thread Cert.KernelIdeal.nD Cert.KernelIdeal.τ).loc Cert.KernelIdeal.main_v32_4)) (v5 : (c : Dev Cert.KernelIdeal.nD) → Buf (Elt Ideal) ((c.tc : Thread Cert.KernelIdeal.nD Cert.KernelIdeal.τ).loc Cert.KernelIdeal.main_v32_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![18, 8192, 512]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v32_0) i = v0 c i)
          ∧ (∀ i : (⟨2, ![8192, 512]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v32_1) i = v1 c i)
          ∧ (∀ i : (⟨2, ![8192, 512]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.KernelIdeal.nD Cert.KernelIdeal.τ).loc Cert.KernelIdeal.main_v32_2) i = v2 c i)
          ∧ (∀ i : (⟨2, ![8192, 512]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.KernelIdeal.nD Cert.KernelIdeal.τ).loc Cert.KernelIdeal.main_v32_3) i = v3 c i)
          ∧ (∀ i : (⟨2, ![1, 1024]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.KernelIdeal.nD Cert.KernelIdeal.τ).loc Cert.KernelIdeal.main_v32_4) i = v4 c i)
          ∧ (∀ i : (⟨2, ![2560, 1024]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 i = 1#1 → r.2.mem ((c.tc : Thread Cert.KernelIdeal.nD Cert.KernelIdeal.τ).loc Cert.KernelIdeal.main_v32_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![18, 8192, 512]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v96) i = v0 c i)
          ∧ (∀ i : (⟨2, ![8192, 512]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v89) i = v1 c i)
          ∧ (∀ i : (⟨2, ![8192, 512]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.ReferenceIdeal.nD Cert.ReferenceIdeal.τ).loc Cert.ReferenceIdeal.main_v86) i = v2 c i)
          ∧ (∀ i : (⟨2, ![8192, 512]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.ReferenceIdeal.nD Cert.ReferenceIdeal.τ).loc Cert.ReferenceIdeal.main_v83) i = v3 c i)
          ∧ (∀ i : (⟨2, ![1, 1024]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.ReferenceIdeal.nD Cert.ReferenceIdeal.τ).loc Cert.ReferenceIdeal.main_v97) i = v4 c i)
          ∧ (∀ i : (⟨2, ![2560, 1024]⟩ : Shape).Idx, (Cert.On_gates_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 i = 1#1 → r.2.mem ((c.tc : Thread Cert.ReferenceIdeal.nD Cert.ReferenceIdeal.τ).loc Cert.ReferenceIdeal.main_v95) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_v43) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_v9_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_v51) = v3 c
          ∧ r.2.mem ((c.tc : Thread Cert.Reference6Ideal.nD Cert.Reference6Ideal.τ).loc Cert.Reference6Ideal.main_v53) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v101) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v269) = v0 c
          ∧ r.2.mem ((c.tc : Thread Cert.Reference8Ideal.nD Cert.Reference8Ideal.τ).loc Cert.Reference8Ideal.main_v231) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_v14) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hOn_gates_written : Cert.On_gates_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_on_gates_written (hKernelIdeal := hKernelIdeal) (hReferenceIdeal := hReferenceIdeal) (hOn_gates_written := hOn_gates_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== On_gates_written.lean ====
abbrev S8192x1024 : Shape := ⟨2, ![8192, 1024]⟩
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1024 : Shape := ⟨1, ![1024]⟩
abbrev S18 : Shape := ⟨1, ![18]⟩
abbrev S_ : Shape := ⟨0, ![]⟩
abbrev S18x1x1 : Shape := ⟨3, ![18, 1, 1]⟩
abbrev S18x8192x512 : Shape := ⟨3, ![18, 8192, 512]⟩
abbrev S1x1024 : Shape := ⟨2, ![1, 1024]⟩
abbrev S2560x1024 : Shape := ⟨2, ![2560, 1024]⟩

class Facts : Prop where
  bcast_S_S18 : S_.BroadcastsInDim S18 (![] : Fin 0 → Fin S18.rank)
  bcast_S18_S18x1x1_0 : S18.BroadcastsInDim S18x1x1 (![0] : Fin 1 → Fin S18x1x1.rank)
  bcast_S18x1x1_S18x8192x512_0_1_2 : S18x1x1.BroadcastsInDim S18x8192x512 (![0, 1, 2] : Fin 3 → Fin S18x8192x512.rank)
  bcast_S_S8192x512 : S_.BroadcastsInDim S8192x512 (![] : Fin 0 → Fin S8192x512.rank)
  bcast_S_S1x1024 : S_.BroadcastsInDim S1x1024 (![] : Fin 0 → Fin S1x1024.rank)
  bcast_S_S2560x1024 : S_.BroadcastsInDim S2560x1024 (![] : Fin 0 → Fin S2560x1024.rank)

variable [Facts]

def fn {F : FTy → Type} [FloatOps F] (main_arg0 : FVec F S8192x1024 .f32) (main_arg1 : FVec F S8192x512 .f32) (main_arg2 : FVec F S8192x512 .f32) (main_arg3 : FVec F S8192x512 .f32) (main_arg4 : FVec F S8192x7680 .f32) (main_arg5 : FVec F S512x1024 .f32) (main_arg6 : FVec F S512x1024 .f32) (main_arg7 : FVec F S512x1024 .f32) (main_arg8 : FVec F S1024x1024 .f32) (main_arg9 : FVec F S1024 .f32) : IVec S18x8192x512 1 × IVec S8192x512 1 × IVec S8192x512 1 × IVec S8192x512 1 × IVec S1x1024 1 × IVec S2560x1024 1 :=
  let main_v0 : IVec S18 32 := iotaInDim S18 32 0
  let main_c : IVec S_ 32 := constantI S_ 32 12#32
  let main_v1 : IVec S18 32 := broadcastInDim S18 ![] bcast_S_S18 main_c
  let main_v2 : IVec S18 1 := cmpi .sge main_v0 main_v1
  let main_v3 : IVec S18x1x1 1 := broadcastInDim S18x1x1 ![0] bcast_S18_S18x1x1_0 main_v2
  let main_v4 : IVec S18x8192x512 1 := broadcastInDim S18x8192x512 ![0, 1, 2] bcast_S18x1x1_S18x8192x512_0_1_2 main_v3
  let main_c_0 : IVec S_ 1 := constantI S_ 1 1#1
  let main_v5 : IVec S8192x512 1 := broadcastInDim S8192x512 ![] bcast_S_S8192x512 main_c_0
  let main_c_1 : IVec S_ 1 := constantI S_ 1 1#1
  let main_v6 : IVec S1x1024 1 := broadcastInDim S1x1024 ![] bcast_S_S1x1024 main_c_1
  let main_c_2 : IVec S_ 1 := constantI S_ 1 1#1
  let main_v7 : IVec S2560x1024 1 := broadcastInDim S2560x1024 ![] bcast_S_S2560x1024 main_c_2
  (main_v4, main_v5, main_v5, main_v5, main_v6, main_v7)
-- ==== Kernel.lean ====
abbrev S8192x1024 : Shape := ⟨2, ![8192, 1024]⟩
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1024 : Shape := ⟨1, ![1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S1x1024 : Shape := ⟨2, ![1, 1024]⟩
abbrev S18x8192x512 : Shape := ⟨3, ![18, 8192, 512]⟩
abbrev S2560x1024 : Shape := ⟨2, ![2560, 1024]⟩
abbrev S256x1024 : Shape := ⟨2, ![256, 1024]⟩
abbrev S256x512 : Shape := ⟨2, ![256, 512]⟩
abbrev S256x1536 : Shape := ⟨2, ![256, 1536]⟩
abbrev S6x256x512 : Shape := ⟨3, ![6, 256, 512]⟩
abbrev S256 : Shape := ⟨1, ![256]⟩
abbrev S256x1 : Shape := ⟨2, ![256, 1]⟩
abbrev S1x256x512 : Shape := ⟨3, ![1, 256, 512]⟩

abbrev nBuf : Space → Nat
  | .hbm => 50
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7680, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S8192x3072, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S8192x3x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S512x1024, .bf16⟩
  | .hbm, ⟨36, _⟩ => ⟨S512x1024, .bf16⟩
  | .hbm, ⟨37, _⟩ => ⟨S512x1024, .bf16⟩
  | .hbm, ⟨38, _⟩ => ⟨S1024x1024, .bf16⟩
  | .hbm, ⟨39, _⟩ => ⟨S1x1024, .f32⟩
  | .hbm, ⟨40, _⟩ => ⟨S8192x1024, .bf16⟩
  | .hbm, ⟨41, _⟩ => ⟨S8192x512, .bf16⟩
  | .hbm, ⟨42, _⟩ => ⟨S8192x512, .bf16⟩
  | .hbm, ⟨43, _⟩ => ⟨S8192x512, .bf16⟩
  | .hbm, ⟨44, _⟩ => ⟨S18x8192x512, .bf16⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S1x1024, .f32⟩
  | .hbm, ⟨49, _⟩ => ⟨S2560x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S6x256x512, .bf16⟩
  | .local _ .vmem, ⟨22, _⟩ => ⟨S6x256x512, .bf16⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S1x1024, .f32⟩
  | .local _ .vmem, ⟨30, _⟩ => ⟨S2560x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_v32_3 : Ref sig .tc := ⟨.hbm, 47, rfl⟩
abbrev main_v32_4 : Ref sig .tc := ⟨.hbm, 48, rfl⟩
abbrev main_v32_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2560x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S8192x1024 : Shape := ⟨2, ![8192, 1024]⟩
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1024 : Shape := ⟨1, ![1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩
abbrev S1x1024 : Shape := ⟨2, ![1, 1024]⟩
abbrev S1024x512 : Shape := ⟨2, ![1024, 512]⟩
abbrev S12x8192x512 : Shape := ⟨3, ![12, 8192, 512]⟩
abbrev S8192x6x512 : Shape := ⟨3, ![8192, 6, 512]⟩
abbrev S6x8192x512 : Shape := ⟨3, ![6, 8192, 512]⟩
abbrev S18x8192x512 : Shape := ⟨3, ![18, 8192, 512]⟩
abbrev S2560x1024 : Shape := ⟨2, ![2560, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7680, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S8192x3072, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S1024x1024, .f32⟩
  | .hbm, ⟨85, _⟩ => ⟨S1024x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1x1024, .f32⟩
  | .hbm, ⟨90, _⟩ => ⟨S_, .f32⟩
  | .hbm, ⟨91, _⟩ => ⟨S8192x3x1024, .f32⟩
  | .hbm, ⟨92, _⟩ => ⟨S8192x1024, .f32⟩
  | .hbm, ⟨93, _⟩ => ⟨S8192x1024, .f32⟩
  | .hbm, ⟨94, _⟩ => ⟨S8192x1x1024, .f32⟩
  | .hbm, ⟨95, _⟩ => ⟨S_, .f32⟩
  | .hbm, ⟨96, _⟩ => ⟨S8192x3x1024, .f32⟩
  | .hbm, ⟨97, _⟩ => ⟨S8192x3x1024, .f32⟩
  | .hbm, ⟨98, _⟩ => ⟨S8192x1024, .f32⟩
  | .hbm, ⟨99, _⟩ => ⟨S8192x1024, .f32⟩
  | .hbm, ⟨100, _⟩ => ⟨S8192x1x1024, .f32⟩
  | .hbm, ⟨101, _⟩ => ⟨S_, .f32⟩
  | .hbm, ⟨102, _⟩ => ⟨S8192x3x1024, .f32⟩
  | .hbm, ⟨103, _⟩ => ⟨S8192x3x1024, .f32⟩
  | .hbm, ⟨104, _⟩ => ⟨S8192x3072, .f32⟩
  | .hbm, ⟨105, _⟩ => ⟨S8192x3072, .f32⟩
  | .hbm, ⟨106, _⟩ => ⟨S1024x512, .f32⟩
  | .hbm, ⟨107, _⟩ => ⟨S512x1024, .f32⟩
  | .hbm, ⟨108, _⟩ => ⟨S8192x512, .f32⟩
  | .hbm, ⟨109, _⟩ => ⟨S1024x512, .f32⟩
  | .hbm, ⟨110, _⟩ => ⟨S512x1024, .f32⟩
  | .hbm, ⟨111, _⟩ => ⟨S8192x512, .f32⟩
  | .hbm, ⟨112, _⟩ => ⟨S1024x512, .f32⟩
  | .hbm, ⟨113, _⟩ => ⟨S512x1024, .f32⟩
  | .hbm, ⟨114, _⟩ => ⟨S8192x512, .f32⟩
  | .hbm, ⟨115, _⟩ => ⟨S_, .f32⟩
  | .hbm, ⟨116, _⟩ => ⟨S12x8192x512, .f32⟩
  | .hbm, ⟨117, _⟩ => ⟨S8192x6x512, .f32⟩
  | .hbm, ⟨118, _⟩ => ⟨S6x8192x512, .f32⟩
  | .hbm, ⟨119, _⟩ => ⟨S18x8192x512, .f32⟩
  | .hbm, ⟨120, _⟩ => ⟨S1024x1024, .f32⟩
  | .hbm, ⟨121, _⟩ => ⟨S2560x1024, .f32⟩
  | .hbm, ⟨122, _⟩ => ⟨S18x8192x512, .bf16⟩
  | .hbm, ⟨123, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_14 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S8192x15x512 : Shape := ⟨3, ![8192, 15, 512]⟩
abbrev S15x8192x512 : Shape := ⟨3, ![15, 8192, 512]⟩
abbrev S_ : Shape := ⟨0, ![]⟩
abbrev S1x8192x512 : Shape := ⟨3, ![1, 8192, 512]⟩
abbrev S3x8192x512 : Shape := ⟨3, ![3, 8192, 512]⟩
abbrev S6x8192x512 : Shape := ⟨3, ![6, 8192, 512]⟩
abbrev S18x8192x512 : Shape := ⟨3, ![18, 8192, 512]⟩
abbrev S1x1024 : Shape := ⟨2, ![1, 1024]⟩
abbrev S8x128 : Shape := ⟨2, ![8, 128]⟩
abbrev S3x512x512 : Shape := ⟨3, ![3, 512, 512]⟩
abbrev S4x512x512 : Shape := ⟨3, ![4, 512, 512]⟩
abbrev S2x512x512 : Shape := ⟨3, ![2, 512, 512]⟩
abbrev S6x512x512 : Shape := ⟨3, ![6, 512, 512]⟩
abbrev S512x1024 : Shape := ⟨2, ![512, 1024]⟩
abbrev S1x512x512 : Shape := ⟨3, ![1, 512, 512]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .f32⟩
  | .hbm, ⟨4, _⟩ => ⟨S8192x1024, .f32⟩
  | .hbm, ⟨5, _⟩ => ⟨S8192x15x512, .f32⟩
  | .hbm, ⟨6, _⟩ => ⟨S15x8192x512, .f32⟩
  | .hbm, ⟨7, _⟩ => ⟨S_, .f32⟩
  | .hbm, ⟨8, _⟩ => ⟨S1x8192x512, .f32⟩
  | .hbm, ⟨9, _⟩ => ⟨S3x8192x512, .f32⟩
  | .hbm, ⟨10, _⟩ => ⟨S6x8192x512, .f32⟩
  | .hbm, ⟨11, _⟩ => ⟨S6x8192x512, .f32⟩
  | .hbm, ⟨12, _⟩ => ⟨S18x8192x512, .f32⟩
  | .hbm, ⟨13, _⟩ => ⟨S18x8192x512, .bf16⟩
  | .hbm, ⟨14, _⟩ => ⟨S1024x7680, .bf16⟩
  | .hbm, ⟨15, _⟩ => ⟨S1x1024, .f32⟩
  | .hbm, ⟨16, _⟩ => ⟨S_, .f32⟩
  | .hbm, ⟨17, _⟩ => ⟨S8x128, .f32⟩
  | .hbm, ⟨18, _⟩ => ⟨S8192x1024, .f32⟩
  | .hbm, ⟨19, _⟩ => ⟨S1x1024, .f32⟩
  | .local _ .vmem, ⟨0, _⟩ => ⟨S3x512x512, .bf16⟩
  | .local _ .vmem, ⟨1, _⟩ => ⟨S3x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S2x512x512, .bf16⟩
  | .local _ .vmem, ⟨5, _⟩ => ⟨S2x512x512, .bf16⟩
  | .local _ .vmem, ⟨6, _⟩ => ⟨S6x512x512, .bf16⟩
  | .local _ .vmem, ⟨7, _⟩ => ⟨S6x512x512, .bf16⟩
  | .local _ .vmem, ⟨8, _⟩ => ⟨S1024x7680, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x7680 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x7680, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S8192x15x512 : Shape := ⟨3, ![8192, 15, 512]⟩
abbrev S15x8192x512 : Shape := ⟨3, ![15, 8192, 512]⟩
abbrev S1x8192x512 : Shape := ⟨3, ![1, 8192, 512]⟩
abbrev S3x8192x512 : Shape := ⟨3, ![3, 8192, 512]⟩
abbrev S6x8192x512 : Shape := ⟨3, ![6, 8192, 512]⟩
abbrev S18x8192x512 : Shape := ⟨3, ![18, 8192, 512]⟩
abbrev S8x128 : Shape := ⟨2, ![8, 128]⟩
abbrev S1024x512 : Shape := ⟨2, ![1024, 512]⟩
abbrev S8192x512 : Shape := ⟨2, ![8192, 512]⟩

abbrev nBuf : Space → Nat
  | .hbm => 34
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x8192, .f32⟩
  | .hbm, ⟨21, _⟩ => ⟨S1024x8192, .bf16⟩
  | .hbm, ⟨22, _⟩ => ⟨S8192x15x512, .f32⟩
  | .hbm, ⟨23, _⟩ => ⟨S15x8192x512, .f32⟩
  | .hbm, ⟨24, _⟩ => ⟨S_, .f32⟩
  | .hbm, ⟨25, _⟩ => ⟨S1x8192x512, .f32⟩
  | .hbm, ⟨26, _⟩ => ⟨S3x8192x512, .f32⟩
  | .hbm, ⟨27, _⟩ => ⟨S6x8192x512, .f32⟩
  | .hbm, ⟨28, _⟩ => ⟨S6x8192x512, .f32⟩
  | .hbm, ⟨29, _⟩ => ⟨S18x8192x512, .f32⟩
  | .hbm, ⟨30, _⟩ => ⟨S18x8192x512, .bf16⟩
  | .hbm, ⟨31, _⟩ => ⟨S_, .f32⟩
  | .hbm, ⟨32, _⟩ => ⟨S8x128, .f32⟩
  | .hbm, ⟨33, _⟩ => ⟨S1024x7680, .bf16⟩
  | .local _ .vmem, ⟨0, _⟩ => ⟨S1024x8192, .bf16⟩
  | .local _ .vmem, ⟨1, _⟩ => ⟨S1x8192x512, .bf16⟩
  | .local _ .vmem, ⟨2, _⟩ => ⟨S1x8192x512, .bf16⟩
  | .local _ .vmem, ⟨3, _⟩ => ⟨S1024x512, .bf16⟩
  | .local _ .vmem, ⟨4, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 1 := Scalar.cmpi .sge arg0 c3_i32
  let v1 : BitVec 32 := Scalar.extui v0
  let v2 : BitVec 32 := Scalar.addi arg0 v1
  let c9_i32 : BitVec 32 := 9#32
  let v3 : BitVec 1 := Scalar.cmpi .sge arg0 c9_i32
  let v4 : BitVec 32 := Scalar.extui v3
  let c2_i32 : BitVec 32 := 2#32
  let v5 : BitVec 32 := Scalar.muli c2_i32 v4
  let v6 : BitVec 32 := Scalar.addi v2 v5
  let c0_i32 : BitVec 32 := 0#32
  let c0_i32_0 : BitVec 32 := 0#32
  let c0_i32_1 : BitVec 32 := 0#32
  ![v6.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S8192x1024 : Shape := ⟨2, ![8192, 1024]⟩
abbrev S1024 : Shape := ⟨1, ![1024]⟩
abbrev S1024x7680 : Shape := ⟨2, ![1024, 7680]⟩
abbrev S8192x7680 : Shape := ⟨2, ![8192, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7680x1024 : Shape := ⟨2, ![7680, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x7680, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x7680, .f32⟩
  | .hbm, ⟨21, _⟩ => ⟨S7680x1024, .f32⟩
  | .hbm, ⟨22, _⟩ => ⟨S1024x7680, .f32⟩
  | .hbm, ⟨23, _⟩ => ⟨S1024x7680, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x7680 : Shape := ⟨2, ![1024, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩
abbrev S8192x7680 : Shape := ⟨2, ![8192, 7680]⟩
abbrev S512x1024 : Shape := ⟨2, ![512, 1024]⟩
abbrev S512x7680 : Shape := ⟨2, ![512, 7680]⟩
abbrev S1024x1536 : Shape := ⟨2, ![1024, 1536]⟩
abbrev S512x1536 : Shape := ⟨2, ![512, 1536]⟩

abbrev nBuf : Space → Nat
  | .hbm => 24
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x7680, .bf16⟩
  | .hbm, ⟨21, _⟩ => ⟨S_, .f32⟩
  | .hbm, ⟨22, _⟩ => ⟨S8x128, .f32⟩
  | .hbm, ⟨23, _⟩ => ⟨S8192x7680, .f32⟩
  | .local _ .vmem, ⟨0, _⟩ => ⟨S512x1024, .bf16⟩
  | .local _ .vmem, ⟨1, _⟩ => ⟨S512x1024, .bf16⟩
  | .local _ .vmem, ⟨2, _⟩ => ⟨S1024x7680, .bf16⟩
  | .local _ .vmem, ⟨3, _⟩ => ⟨S512x7680, .f32⟩
  | .local _ .vmem, ⟨4, _⟩ => ⟨S512x7680, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x7680 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8192x1024 : Shape := ⟨2, ![8192, 1024]⟩
abbrev S1024 : Shape := ⟨1, ![1024]⟩
abbrev S1024x7680 : Shape := ⟨2, ![1024, 7680]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x7680 : Shape := ⟨2, ![8192, 7680]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7680, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x7680, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S256x512 : Shape := ⟨2, ![256, 512]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7680, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1024, .f32⟩
  | .local _ .vmem, ⟨11, _⟩ => ⟨S256x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference5Ideal.lean ====
abbrev S8192x1024 : Shape := ⟨2, ![8192, 1024]⟩
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1024 : Shape := ⟨1, ![1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7680, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S8192x3072, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S8192x3x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel6.lean ====
abbrev S8192x1024 : Shape := ⟨2, ![8192, 1024]⟩
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S256x512 : Shape := ⟨2, ![256, 512]⟩
abbrev S256x1536 : Shape := ⟨2, ![256, 1536]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 25
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7680, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S1x1024, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8192x1024, .bf16⟩
  | .hbm, ⟨24, _⟩ => ⟨S1024x8192, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1024, .f32⟩
  | .local _ .vmem, ⟨11, _⟩ => ⟨S256x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S1024x256, .bf16⟩
  | .local _ .vmem, ⟨27, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference6Ideal.lean ====
abbrev S8192x1024 : Shape := ⟨2, ![8192, 1024]⟩
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1024 : Shape := ⟨1, ![1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7680, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S8192x3072, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S8192x3x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S8192x1024, .bf16⟩
  | .hbm, ⟨71, _⟩ => ⟨S1024x8192, .f32⟩
  | .hbm, ⟨72, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel7.lean ====
abbrev S8192x7680 : Shape := ⟨2, ![8192, 7680]⟩
abbrev S4x128x128 : Shape := ⟨3, ![4, 128, 128]⟩
abbrev S4x128 : Shape := ⟨2, ![4, 128]⟩
abbrev S512 : Shape := ⟨1, ![512]⟩
abbrev S1x512 : Shape := ⟨2, ![1, 512]⟩
abbrev S2x512 : Shape := ⟨2, ![2, 512]⟩
abbrev S_ : Shape := ⟨0, ![]⟩
abbrev S8x512 : Shape := ⟨2, ![8, 512]⟩
abbrev S8192x512 : Shape := ⟨2, ![8192, 512]⟩
abbrev S2048x512 : Shape := ⟨2, ![2048, 512]⟩
abbrev S2064x512 : Shape := ⟨2, ![2064, 512]⟩
abbrev S16x512 : Shape := ⟨2, ![16, 512]⟩
abbrev S256x512 : Shape := ⟨2, ![256, 512]⟩
abbrev S272x512 : Shape := ⟨2, ![272, 512]⟩
abbrev S272x384 : Shape := ⟨2, ![272, 384]⟩
abbrev S272x256 : Shape := ⟨2, ![272, 256]⟩
abbrev S272x128 : Shape := ⟨2, ![272, 128]⟩
abbrev S256x128 : Shape := ⟨2, ![256, 128]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 13
  | .vmem => 9
  | .smem => 0
  | _ => 0

abbrev bufTy : (tb : Table) → Fin (tcTables nBuf tb) → BufTy
  | .hbm, ⟨0, _⟩ => ⟨S8192x7680, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S4x128x128, .bf16⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S2x512, .f32⟩
  | .hbm, ⟨9, _⟩ => ⟨S_, .i32⟩
  | .hbm, ⟨10, _⟩ => ⟨S_, .f32⟩
  | .hbm, ⟨11, _⟩ => ⟨S8x512, .f32⟩
  | .hbm, ⟨12, _⟩ => ⟨S8192x512, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S4x128x128, .bf16⟩
  | .local _ .vmem, ⟨5, _⟩ => ⟨S8x512, .f32⟩
  | .local _ .vmem, ⟨6, _⟩ => ⟨S2048x512, .bf16⟩
  | .local _ .vmem, ⟨7, _⟩ => ⟨S2048x512, .bf16⟩
  | .local _ .vmem, ⟨8, _⟩ => ⟨S2064x512, .f32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  v6
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  let v7 : BitVec 32 := v6
  let v8 : Index := Scalar.indexCast v7
  let c0_6 : Index := 0#32
  ![v8.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v6 : BitVec 32 := Scalar.muli arg7 c256_i32
  let v7 : BitVec 32 := v6
  let c16_i32 : BitVec 32 := 16#32
  let v10 : BitVec 32 := Scalar.addi v7 c16_i32
  let v11 : Index := Scalar.indexCast v10
  let c0_7 : Index := 0#32
  ![v11.toNat, 0]
@[reducible] def k0_t2_loop : Scf.Loop 32 :=
  let c0_i32_2 : BitVec 32 := 0#32
  let c8_i32_3 : BitVec 32 := 8#32
  let v5 : BitVec 32 := Scalar.addi c0_i32_2 c8_i32_3
  let c1_i32_4 : BitVec 32 := 1#32
  ⟨c0_i32_2, v5, c1_i32_4⟩
def k0_mult2 (k0_t2 : Fin k0_t2_loop.trips) : BitVec 32 :=
  let c0_i32_2 : BitVec 32 := 0#32
  let c1_i32_4 : BitVec 32 := 1#32
  let arg7 : BitVec 32 := Scf.iv c0_i32_2 c1_i32_4 k0_t2
  let c256_i32 : BitVec 32 := 256#32
  let v6 : BitVec 32 := Scalar.muli arg7 c256_i32
  v6
def k0_off3 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c256_i32 : BitVec 32 := 256#32
  let v6 : BitVec 32 := Scalar.muli arg7 c256_i32
  let v7 : BitVec 32 := v6
  let v8 : Index := Scalar.indexCast v7
  let c0_6 : Index := 0#32
  ![v8.toNat, 0]
def k0_off4 (k0_t2 : Fin k0_t2_loop.trips) : Fin 2 → Nat :=
  let c0_i32_2 : BitVec 32 := 0#32
  let c1_i32_4 : BitVec 32 := 1#32
  let arg7 : BitVec 32 := Scf.iv c0_i32_2 c1_i32_4 k0_t2
  let c256_i32 : BitVec 32 := 256#32
  let v6 : BitVec 32 := Scalar.muli arg7 c256_i32
  let v7 : BitVec 32 := v6
  let v44 : Index := Scalar.indexCast v7
  let c0_13 : Index := 0#32
  ![v44.toNat, 0]
def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x7680 : Shape := ⟨2, ![8192, 7680]⟩
abbrev S4x128x128 : Shape := ⟨3, ![4, 128, 128]⟩
abbrev S4x128 : Shape := ⟨2, ![4, 128]⟩
abbrev S512 : Shape := ⟨1, ![512]⟩
abbrev S8192x512 : Shape := ⟨2, ![8192, 512]⟩
abbrev S4x2048x512 : Shape := ⟨3, ![4, 2048, 512]⟩
abbrev S_ : Shape := ⟨0, ![]⟩
abbrev S4x2063x512 : Shape := ⟨3, ![4, 2063, 512]⟩
abbrev S2048 : Shape := ⟨1, ![2048]⟩
abbrev S1x2048x1 : Shape := ⟨3, ![1, 2048, 1]⟩
abbrev S4x2048x128 : Shape := ⟨3, ![4, 2048, 128]⟩
abbrev S8192x128 : Shape := ⟨2, ![8192, 128]⟩
abbrev S1x128x128 : Shape := ⟨3, ![1, 128, 128]⟩
abbrev S128x128 : Shape := ⟨2, ![128, 128]⟩
abbrev S1x512 : Shape := ⟨2, ![1, 512]⟩

abbrev nBuf : Space → Nat
  | .hbm => 115
  | .vmem => 0
  | .smem => 0
  | _ => 0

abbrev bufTy : (tb : Table) → Fin (tcTables nBuf tb) → BufTy
  | .hbm, ⟨0, _⟩ => ⟨S8192x7680, .f32⟩
  | .hbm, ⟨1, _⟩ => ⟨S4x128x128, .f32⟩
  | .hbm, ⟨2, _⟩ => ⟨S4x128, .f32⟩
  | .hbm, ⟨3, _⟩ => ⟨S512, .f32⟩
  | .hbm, ⟨4, _⟩ => ⟨S8192x512, .f32⟩
  | .hbm, ⟨5, _⟩ => ⟨S4x2048x512, .f32⟩
  | .hbm, ⟨6, _⟩ => ⟨S8192x512, .f32⟩
  | .hbm, ⟨7, _⟩ => ⟨S_, .i32⟩
  | .hbm, ⟨8, _⟩ => ⟨S_, .f32⟩
  | .hbm, ⟨9, _⟩ => ⟨S4x2063x512, .f32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S4x2048x512, .f32⟩
  | .hbm, ⟨15, _⟩ => ⟨S4x2048x512, .f32⟩
  | .hbm, ⟨16, _⟩ => ⟨S4x2048x512, .f32⟩
  | .hbm, ⟨17, _⟩ => ⟨S4x2048x512, .f32⟩
  | .hbm, ⟨18, _⟩ => ⟨S4x2048x512, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S4x2048x512, .f32⟩
  | .hbm, ⟨37, _⟩ => ⟨S4x2048x512, .f32⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S4x2048x512, .f32⟩
  | .hbm, ⟨42, _⟩ => ⟨S4x2048x512, .f32⟩
  | .hbm, ⟨43, _⟩ => ⟨S4x2048x512, .f32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .f32⟩
  | .hbm, ⟨48, _⟩ => ⟨S1x2048x1, .f32⟩
  | .hbm, ⟨49, _⟩ => ⟨S4x2048x512, .f32⟩
  | .hbm, ⟨50, _⟩ => ⟨S4x2048x512, .f32⟩
  | .hbm, ⟨51, _⟩ => ⟨S4x2048x512, .f32⟩
  | .hbm, ⟨52, _⟩ => ⟨S4x2048x128, .f32⟩
  | .hbm, ⟨53, _⟩ => ⟨S8192x128, .f32⟩
  | .hbm, ⟨54, _⟩ => ⟨S1x128x128, .f32⟩
  | .hbm, ⟨55, _⟩ => ⟨S128x128, .f32⟩
  | .hbm, ⟨56, _⟩ => ⟨S8192x128, .f32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .f32⟩
  | .hbm, ⟨61, _⟩ => ⟨S1x2048x1, .f32⟩
  | .hbm, ⟨62, _⟩ => ⟨S4x2048x512, .f32⟩
  | .hbm, ⟨63, _⟩ => ⟨S4x2048x512, .f32⟩
  | .hbm, ⟨64, _⟩ => ⟨S4x2048x512, .f32⟩
  | .hbm, ⟨65, _⟩ => ⟨S4x2048x128, .f32⟩
  | .hbm, ⟨66, _⟩ => ⟨S8192x128, .f32⟩
  | .hbm, ⟨67, _⟩ => ⟨S1x128x128, .f32⟩
  | .hbm, ⟨68, _⟩ => ⟨S128x128, .f32⟩
  | .hbm, ⟨69, _⟩ => ⟨S8192x128, .f32⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .f32⟩
  | .hbm, ⟨74, _⟩ => ⟨S1x2048x1, .f32⟩
  | .hbm, ⟨75, _⟩ => ⟨S4x2048x512, .f32⟩
  | .hbm, ⟨76, _⟩ => ⟨S4x2048x512, .f32⟩
  | .hbm, ⟨77, _⟩ => ⟨S4x2048x512, .f32⟩
  | .hbm, ⟨78, _⟩ => ⟨S4x2048x128, .f32⟩
  | .hbm, ⟨79, _⟩ => ⟨S8192x128, .f32⟩
  | .hbm, ⟨80, _⟩ => ⟨S1x128x128, .f32⟩
  | .hbm, ⟨81, _⟩ => ⟨S128x128, .f32⟩
  | .hbm, ⟨82, _⟩ => ⟨S8192x128, .f32⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .f32⟩
  | .hbm, ⟨87, _⟩ => ⟨S1x2048x1, .f32⟩
  | .hbm, ⟨88, _⟩ => ⟨S4x2048x512, .f32⟩
  | .hbm, ⟨89, _⟩ => ⟨S4x2048x512, .f32⟩
  | .hbm, ⟨90, _⟩ => ⟨S4x2048x512, .f32⟩
  | .hbm, ⟨91, _⟩ => ⟨S4x2048x128, .f32⟩
  | .hbm, ⟨92, _⟩ => ⟨S8192x128, .f32⟩
  | .hbm, ⟨93, _⟩ => ⟨S1x128x128, .f32⟩
  | .hbm, ⟨94, _⟩ => ⟨S128x128, .f32⟩
  | .hbm, ⟨95, _⟩ => ⟨S8192x128, .f32⟩
  | .hbm, ⟨96, _⟩ => ⟨S8192x512, .f32⟩
  | .hbm, ⟨97, _⟩ => ⟨S512, .f32⟩
  | .hbm, ⟨98, _⟩ => ⟨S1x512, .f32⟩
  | .hbm, ⟨99, _⟩ => ⟨S8192x512, .f32⟩
  | .hbm, ⟨100, _⟩ => ⟨S8192x512, .f32⟩
  | .hbm, ⟨101, _⟩ => ⟨S1x512, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S8192x512, .f32⟩
  | .hbm, ⟨106, _⟩ => ⟨S_, .f32⟩
  | .hbm, ⟨107, _⟩ => ⟨S8192x512, .f32⟩
  | .hbm, ⟨108, _⟩ => ⟨S8192x512, .f32⟩
  | .hbm, ⟨109, _⟩ => ⟨S_, .f32⟩
  | .hbm, ⟨110, _⟩ => ⟨S8192x512, .f32⟩
  | .hbm, ⟨111, _⟩ => ⟨S8192x512, .f32⟩
  | .hbm, ⟨112, _⟩ => ⟨S8192x512, .f32⟩
  | .hbm, ⟨113, _⟩ => ⟨S8192x512, .f32⟩
  | .hbm, ⟨114, _⟩ => ⟨S8192x512, .bf16⟩
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c_2 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_c_3 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_c_4 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst : Ref sig .tc := ⟨.hbm, 106, rfl⟩
abbrev main_v95 : Ref sig .tc := ⟨.hbm, 107, rfl⟩
abbrev main_v96 : Ref sig .tc := ⟨.hbm, 108, rfl⟩
abbrev main_cst_5 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩

abbrev nD : Nat := 1
abbrev τ : Topo := Topo.v7x

variable {F : FTy → Type} [FloatOps F]
-- ==== Kernel8.lean ====
abbrev S8192x7680 : Shape := ⟨2, ![8192, 7680]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S3x512 : Shape := ⟨2, ![3, 512]⟩
abbrev S8x512 : Shape := ⟨2, ![8, 512]⟩
abbrev S8192x512 : Shape := ⟨2, ![8192, 512]⟩
abbrev S2048x512 : Shape := ⟨2, ![2048, 512]⟩
abbrev S2080x512 : Shape := ⟨2, ![2080, 512]⟩
abbrev S256x512 : Shape := ⟨2, ![256, 512]⟩
abbrev S288x512 : Shape := ⟨2, ![288, 512]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x7680, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S32x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S3x512, .f32⟩
  | .hbm, ⟨12, _⟩ => ⟨S_, .i32⟩
  | .hbm, ⟨13, _⟩ => ⟨S_, .f32⟩
  | .hbm, ⟨14, _⟩ => ⟨S8x512, .f32⟩
  | .hbm, ⟨15, _⟩ => ⟨S8192x512, .bf16⟩
  | .hbm, ⟨16, _⟩ => ⟨S8192x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S32x512, .f32⟩
  | .local _ .vmem, ⟨7, _⟩ => ⟨S8x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .f32⟩
  | .local _ .vmem, ⟨11, _⟩ => ⟨S2048x512, .f32⟩
  | .local _ .vmem, ⟨12, _⟩ => ⟨S2080x512, .f32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v6 : BitVec 32 := Scalar.muli arg9 c256_i32
  v6
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v6 : BitVec 32 := Scalar.muli arg9 c256_i32
  let v7 : BitVec 32 := v6
  let v8 : Index := Scalar.indexCast v7
  let c0_6 : Index := 0#32
  ![v8.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v6 : BitVec 32 := Scalar.muli arg9 c256_i32
  let v7 : BitVec 32 := v6
  let c32_i32 : BitVec 32 := 32#32
  let v20 : BitVec 32 := Scalar.addi v7 c32_i32
  let v21 : Index := Scalar.indexCast v20
  let c0_11 : Index := 0#32
  ![v21.toNat, 0]
@[reducible] def k0_t2_loop : Scf.Loop 32 :=
  let c0_i32_2 : BitVec 32 := 0#32
  let c8_i32_3 : BitVec 32 := 8#32
  let v5 : BitVec 32 := Scalar.addi c0_i32_2 c8_i32_3
  let c1_i32_4 : BitVec 32 := 1#32
  ⟨c0_i32_2, v5, c1_i32_4⟩
def k0_mult2 (k0_t2 : Fin k0_t2_loop.trips) : BitVec 32 :=
  let c0_i32_2 : BitVec 32 := 0#32
  let c1_i32_4 : BitVec 32 := 1#32
  let arg9 : BitVec 32 := Scf.iv c0_i32_2 c1_i32_4 k0_t2
  let c256_i32 : BitVec 32 := 256#32
  let v6 : BitVec 32 := Scalar.muli arg9 c256_i32
  v6
def k0_off3 (k0_t2 : Fin k0_t2_loop.trips) : Fin 2 → Nat :=
  let c0_i32_2 : BitVec 32 := 0#32
  let c1_i32_4 : BitVec 32 := 1#32
  let arg9 : BitVec 32 := Scf.iv c0_i32_2 c1_i32_4 k0_t2
  let c256_i32 : BitVec 32 := 256#32
  let v6 : BitVec 32 := Scalar.muli arg9 c256_i32
  let v7 : BitVec 32 := v6
  let v8 : Index := Scalar.indexCast v7
  let c0_6 : Index := 0#32
  ![v8.toNat, 0]
def k0_off4 (k0_t2 : Fin k0_t2_loop.trips) : Fin 2 → Nat :=
  let c0_i32_2 : BitVec 32 := 0#32
  let c1_i32_4 : BitVec 32 := 1#32
  let arg9 : BitVec 32 := Scf.iv c0_i32_2 c1_i32_4 k0_t2
  let c256_i32 : BitVec 32 := 256#32
  let v6 : BitVec 32 := Scalar.muli arg9 c256_i32
  let v7 : BitVec 32 := v6
  let v206 : Index := Scalar.indexCast v7
  let c0_42 : Index := 0#32
  ![v206.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8192x7680 : Shape := ⟨2, ![8192, 7680]⟩
abbrev S31x512 : Shape := ⟨2, ![31, 512]⟩
abbrev S512 : Shape := ⟨1, ![512]⟩
abbrev S8192x512 : Shape := ⟨2, ![8192, 512]⟩
abbrev S_ : Shape := ⟨0, ![]⟩
abbrev S4x2048x512 : Shape := ⟨3, ![4, 2048, 512]⟩
abbrev S4x2078x512 : Shape := ⟨3, ![4, 2078, 512]⟩
abbrev S1x512 : Shape := ⟨2, ![1, 512]⟩
abbrev S1x1x512 : Shape := ⟨3, ![1, 1, 512]⟩
abbrev S8192 : Shape := ⟨1, ![8192]⟩
abbrev S8192x1 : Shape := ⟨2, ![8192, 1]⟩

abbrev nBuf : Space → Nat
  | .hbm => 288
  | .vmem => 0
  | .smem => 0
  | _ => 0

abbrev hbmTy0_0 (i : Nat) : BufTy := match i % 128 with
  | 0 => ⟨S8192x7680, .f32⟩
  | 1 => ⟨S31x512, .f32⟩
  | 2 => ⟨S512, .f32⟩
  | 3 => ⟨S512, .f32⟩
  | 4 => ⟨S512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S4x2048x512, .f32⟩
  | 17 => ⟨S8192x512, .f32⟩
  | 18 => ⟨S_, .i32⟩
  | 19 => ⟨S_, .f32⟩
  | 20 => ⟨S4x2078x512, .f32⟩
  | 21 => ⟨S4x2048x512, .f32⟩
  | 22 => ⟨S1x512, .f32⟩
  | 23 => ⟨S512, .f32⟩
  | 24 => ⟨S1x1x512, .f32⟩
  | 25 => ⟨S4x2048x512, .f32⟩
  | 26 => ⟨S4x2048x512, .f32⟩
  | 27 => ⟨S4x2048x512, .f32⟩
  | 28 => ⟨S1x512, .f32⟩
  | 29 => ⟨S512, .f32⟩
  | 30 => ⟨S1x1x512, .f32⟩
  | 31 => ⟨S4x2048x512, .f32⟩
  | 32 => ⟨S4x2048x512, .f32⟩
  | 33 => ⟨S4x2048x512, .f32⟩
  | 34 => ⟨S4x2048x512, .f32⟩
  | 35 => ⟨S1x512, .f32⟩
  | 36 => ⟨S512, .f32⟩
  | 37 => ⟨S1x1x512, .f32⟩
  | 38 => ⟨S4x2048x512, .f32⟩
  | 39 => ⟨S4x2048x512, .f32⟩
  | 40 => ⟨S4x2048x512, .f32⟩
  | 41 => ⟨S4x2048x512, .f32⟩
  | 42 => ⟨S1x512, .f32⟩
  | 43 => ⟨S512, .f32⟩
  | 44 => ⟨S1x1x512, .f32⟩
  | 45 => ⟨S4x2048x512, .f32⟩
  | 46 => ⟨S4x2048x512, .f32⟩
  | 47 => ⟨S4x2048x512, .f32⟩
  | 48 => ⟨S4x2048x512, .f32⟩
  | 49 => ⟨S1x512, .f32⟩
  | 50 => ⟨S512, .f32⟩
  | 51 => ⟨S1x1x512, .f32⟩
  | 52 => ⟨S4x2048x512, .f32⟩
  | 53 => ⟨S4x2048x512, .f32⟩
  | 54 => ⟨S4x2048x512, .f32⟩
  | 55 => ⟨S4x2048x512, .f32⟩
  | 56 => ⟨S1x512, .f32⟩
  | 57 => ⟨S512, .f32⟩
  | 58 => ⟨S1x1x512, .f32⟩
  | 59 => ⟨S4x2048x512, .f32⟩
  | 60 => ⟨S4x2048x512, .f32⟩
  | 61 => ⟨S4x2048x512, .f32⟩
  | 62 => ⟨S4x2048x512, .f32⟩
  | 63 => ⟨S1x512, .f32⟩
  | 64 => ⟨S512, .f32⟩
  | 65 => ⟨S1x1x512, .f32⟩
  | 66 => ⟨S4x2048x512, .f32⟩
  | 67 => ⟨S4x2048x512, .f32⟩
  | 68 => ⟨S4x2048x512, .f32⟩
  | 69 => ⟨S4x2048x512, .f32⟩
  | 70 => ⟨S1x512, .f32⟩
  | 71 => ⟨S512, .f32⟩
  | 72 => ⟨S1x1x512, .f32⟩
  | 73 => ⟨S4x2048x512, .f32⟩
  | 74 => ⟨S4x2048x512, .f32⟩
  | 75 => ⟨S4x2048x512, .f32⟩
  | 76 => ⟨S4x2048x512, .f32⟩
  | 77 => ⟨S1x512, .f32⟩
  | 78 => ⟨S512, .f32⟩
  | 79 => ⟨S1x1x512, .f32⟩
  | 80 => ⟨S4x2048x512, .f32⟩
  | 81 => ⟨S4x2048x512, .f32⟩
  | 82 => ⟨S4x2048x512, .f32⟩
  | 83 => ⟨S4x2048x512, .f32⟩
  | 84 => ⟨S1x512, .f32⟩
  | 85 => ⟨S512, .f32⟩
  | 86 => ⟨S1x1x512, .f32⟩
  | 87 => ⟨S4x2048x512, .f32⟩
  | 88 => ⟨S4x2048x512, .f32⟩
  | 89 => ⟨S4x2048x512, .f32⟩
  | 90 => ⟨S4x2048x512, .f32⟩
  | 91 => ⟨S1x512, .f32⟩
  | 92 => ⟨S512, .f32⟩
  | 93 => ⟨S1x1x512, .f32⟩
  | 94 => ⟨S4x2048x512, .f32⟩
  | 95 => ⟨S4x2048x512, .f32⟩
  | 96 => ⟨S4x2048x512, .f32⟩
  | 97 => ⟨S4x2048x512, .f32⟩
  | 98 => ⟨S1x512, .f32⟩
  | 99 => ⟨S512, .f32⟩
  | 100 => ⟨S1x1x512, .f32⟩
  | 101 => ⟨S4x2048x512, .f32⟩
  | 102 => ⟨S4x2048x512, .f32⟩
  | 103 => ⟨S4x2048x512, .f32⟩
  | 104 => ⟨S4x2048x512, .f32⟩
  | 105 => ⟨S1x512, .f32⟩
  | 106 => ⟨S512, .f32⟩
  | 107 => ⟨S1x1x512, .f32⟩
  | 108 => ⟨S4x2048x512, .f32⟩
  | 109 => ⟨S4x2048x512, .f32⟩
  | 110 => ⟨S4x2048x512, .f32⟩
  | 111 => ⟨S4x2048x512, .f32⟩
  | 112 => ⟨S1x512, .f32⟩
  | 113 => ⟨S512, .f32⟩
  | 114 => ⟨S1x1x512, .f32⟩
  | 115 => ⟨S4x2048x512, .f32⟩
  | 116 => ⟨S4x2048x512, .f32⟩
  | 117 => ⟨S4x2048x512, .f32⟩
  | 118 => ⟨S4x2048x512, .f32⟩
  | 119 => ⟨S1x512, .f32⟩
  | 120 => ⟨S512, .f32⟩
  | 121 => ⟨S1x1x512, .f32⟩
  | 122 => ⟨S4x2048x512, .f32⟩
  | 123 => ⟨S4x2048x512, .f32⟩
  | 124 => ⟨S4x2048x512, .f32⟩
  | 125 => ⟨S4x2048x512, .f32⟩
  | 126 => ⟨S1x512, .f32⟩
  | 127 => ⟨S512, .f32⟩
  | _ => ⟨S8192x7680, .f32⟩

abbrev hbmTy0_1 (i : Nat) : BufTy := match i % 128 with
  | 0 => ⟨S1x1x512, .f32⟩
  | 1 => ⟨S4x2048x512, .f32⟩
  | 2 => ⟨S4x2048x512, .f32⟩
  | 3 => ⟨S4x2048x512, .f32⟩
  | 4 => ⟨S4x2048x512, .f32⟩
  | 5 => ⟨S1x512, .f32⟩
  | 6 => ⟨S512, .f32⟩
  | 7 => ⟨S1x1x512, .f32⟩
  | 8 => ⟨S4x2048x512, .f32⟩
  | 9 => ⟨S4x2048x512, .f32⟩
  | 10 => ⟨S4x2048x512, .f32⟩
  | 11 => ⟨S4x2048x512, .f32⟩
  | 12 => ⟨S1x512, .f32⟩
  | 13 => ⟨S512, .f32⟩
  | 14 => ⟨S1x1x512, .f32⟩
  | 15 => ⟨S4x2048x512, .f32⟩
  | 16 => ⟨S4x2048x512, .f32⟩
  | 17 => ⟨S4x2048x512, .f32⟩
  | 18 => ⟨S4x2048x512, .f32⟩
  | 19 => ⟨S1x512, .f32⟩
  | 20 => ⟨S512, .f32⟩
  | 21 => ⟨S1x1x512, .f32⟩
  | 22 => ⟨S4x2048x512, .f32⟩
  | 23 => ⟨S4x2048x512, .f32⟩
  | 24 => ⟨S4x2048x512, .f32⟩
  | 25 => ⟨S4x2048x512, .f32⟩
  | 26 => ⟨S1x512, .f32⟩
  | 27 => ⟨S512, .f32⟩
  | 28 => ⟨S1x1x512, .f32⟩
  | 29 => ⟨S4x2048x512, .f32⟩
  | 30 => ⟨S4x2048x512, .f32⟩
  | 31 => ⟨S4x2048x512, .f32⟩
  | 32 => ⟨S4x2048x512, .f32⟩
  | 33 => ⟨S1x512, .f32⟩
  | 34 => ⟨S512, .f32⟩
  | 35 => ⟨S1x1x512, .f32⟩
  | 36 => ⟨S4x2048x512, .f32⟩
  | 37 => ⟨S4x2048x512, .f32⟩
  | 38 => ⟨S4x2048x512, .f32⟩
  | 39 => ⟨S4x2048x512, .f32⟩
  | 40 => ⟨S1x512, .f32⟩
  | 41 => ⟨S512, .f32⟩
  | 42 => ⟨S1x1x512, .f32⟩
  | 43 => ⟨S4x2048x512, .f32⟩
  | 44 => ⟨S4x2048x512, .f32⟩
  | 45 => ⟨S4x2048x512, .f32⟩
  | 46 => ⟨S4x2048x512, .f32⟩
  | 47 => ⟨S1x512, .f32⟩
  | 48 => ⟨S512, .f32⟩
  | 49 => ⟨S1x1x512, .f32⟩
  | 50 => ⟨S4x2048x512, .f32⟩
  | 51 => ⟨S4x2048x512, .f32⟩
  | 52 => ⟨S4x2048x512, .f32⟩
  | 53 => ⟨S4x2048x512, .f32⟩
  | 54 => ⟨S1x512, .f32⟩
  | 55 => ⟨S512, .f32⟩
  | 56 => ⟨S1x1x512, .f32⟩
  | 57 => ⟨S4x2048x512, .f32⟩
  | 58 => ⟨S4x2048x512, .f32⟩
  | 59 => ⟨S4x2048x512, .f32⟩
  | 60 => ⟨S4x2048x512, .f32⟩
  | 61 => ⟨S1x512, .f32⟩
  | 62 => ⟨S512, .f32⟩
  | 63 => ⟨S1x1x512, .f32⟩
  | 64 => ⟨S4x2048x512, .f32⟩
  | 65 => ⟨S4x2048x512, .f32⟩
  | 66 => ⟨S4x2048x512, .f32⟩
  | 67 => ⟨S4x2048x512, .f32⟩
  | 68 => ⟨S1x512, .f32⟩
  | 69 => ⟨S512, .f32⟩
  | 70 => ⟨S1x1x512, .f32⟩
  | 71 => ⟨S4x2048x512, .f32⟩
  | 72 => ⟨S4x2048x512, .f32⟩
  | 73 => ⟨S4x2048x512, .f32⟩
  | 74 => ⟨S4x2048x512, .f32⟩
  | 75 => ⟨S1x512, .f32⟩
  | 76 => ⟨S512, .f32⟩
  | 77 => ⟨S1x1x512, .f32⟩
  | 78 => ⟨S4x2048x512, .f32⟩
  | 79 => ⟨S4x2048x512, .f32⟩
  | 80 => ⟨S4x2048x512, .f32⟩
  | 81 => ⟨S4x2048x512, .f32⟩
  | 82 => ⟨S1x512, .f32⟩
  | 83 => ⟨S512, .f32⟩
  | 84 => ⟨S1x1x512, .f32⟩
  | 85 => ⟨S4x2048x512, .f32⟩
  | 86 => ⟨S4x2048x512, .f32⟩
  | 87 => ⟨S4x2048x512, .f32⟩
  | 88 => ⟨S4x2048x512, .f32⟩
  | 89 => ⟨S1x512, .f32⟩
  | 90 => ⟨S512, .f32⟩
  | 91 => ⟨S1x1x512, .f32⟩
  | 92 => ⟨S4x2048x512, .f32⟩
  | 93 => ⟨S4x2048x512, .f32⟩
  | 94 => ⟨S4x2048x512, .f32⟩
  | 95 => ⟨S4x2048x512, .f32⟩
  | 96 => ⟨S1x512, .f32⟩
  | 97 => ⟨S512, .f32⟩
  | 98 => ⟨S1x1x512, .f32⟩
  | 99 => ⟨S4x2048x512, .f32⟩
  | 100 => ⟨S4x2048x512, .f32⟩
  | 101 => ⟨S4x2048x512, .f32⟩
  | 102 => ⟨S4x2048x512, .f32⟩
  | 103 => ⟨S1x512, .f32⟩
  | 104 => ⟨S512, .f32⟩
  | 105 => ⟨S1x1x512, .f32⟩
  | 106 => ⟨S4x2048x512, .f32⟩
  | 107 => ⟨S4x2048x512, .f32⟩
  | 108 => ⟨S4x2048x512, .f32⟩
  | 109 => ⟨S8192x512, .f32⟩
  | 110 => ⟨S1x512, .f32⟩
  | 111 => ⟨S8192x512, .f32⟩
  | 112 => ⟨S8192x512, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S8192x512, .f32⟩
  | 120 => ⟨S8192x512, .f32⟩
  | 121 => ⟨S8192x512, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x7680, .f32⟩

abbrev hbmTy0_2 (i : Nat) : BufTy := match i % 128 with
  | 0 => ⟨S_, .f32⟩
  | 1 => ⟨S8192x1, .f32⟩
  | 2 => ⟨S8192x1, .f32⟩
  | 3 => ⟨S8192x1, .f32⟩
  | 4 => ⟨S8192x512, .f32⟩
  | 5 => ⟨S8192x512, .f32⟩
  | 6 => ⟨S1x512, .f32⟩
  | 7 => ⟨S8192x512, .f32⟩
  | 8 => ⟨S8192x512, .f32⟩
  | 9 => ⟨S1x512, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S8192x512, .f32⟩
  | 31 => ⟨S8192x512, .bf16⟩
  | _ => ⟨S8192x7680, .f32⟩

abbrev hbmTy (i : Nat) : BufTy := match i / 128 with
  | 0 => hbmTy0_0 i
  | 1 => hbmTy0_1 i
  | 2 => hbmTy0_2 i
  | _ => ⟨S8192x7680, .f32⟩

abbrev bufTy : (tb : Table) → Fin (tcTables nBuf tb) → BufTy
  | .hbm, ⟨i, _⟩ => hbmTy i
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_1 : Ref sig .tc := ⟨.hbm, 241, rfl⟩
abbrev main_v232 : Ref sig .tc := ⟨.hbm, 242, rfl⟩
abbrev main_v233 : Ref sig .tc := ⟨.hbm, 243, rfl⟩
abbrev main_cst_2 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_3 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_cst_6 : Ref sig .tc := ⟨.hbm, 270, rfl⟩
abbrev main_v256 : Ref sig .tc := ⟨.hbm, 271, rfl⟩
abbrev main_v257 : Ref sig .tc := ⟨.hbm, 272, rfl⟩
abbrev main_cst_7 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_cst_8 : Ref sig .tc := ⟨.hbm, 279, rfl⟩
abbrev main_v263 : Ref sig .tc := ⟨.hbm, 280, rfl⟩
abbrev main_v264 : Ref sig .tc := ⟨.hbm, 281, rfl⟩
abbrev main_cst_9 : Ref sig .tc := ⟨.hbm, 282, rfl⟩
abbrev main_v265 : Ref sig .tc := ⟨.hbm, 283, rfl⟩
abbrev main_v266 : Ref sig .tc := ⟨.hbm, 284, rfl⟩
abbrev main_v267 : Ref sig .tc := ⟨.hbm, 285, rfl⟩
abbrev main_v268 : Ref sig .tc := ⟨.hbm, 286, rfl⟩
abbrev main_v269 : Ref sig .tc := ⟨.hbm, 287, rfl⟩

abbrev nD : Nat := 1
abbrev τ : Topo := Topo.v7x

variable {F : FTy → Type} [FloatOps F]
-- ==== Kernel9.lean ====
abbrev S2x1024x1920 : Shape := ⟨3, ![2, 1024, 1920]⟩
abbrev S2048x1920 : Shape := ⟨2, ![2048, 1920]⟩
abbrev S256x1920 : Shape := ⟨2, ![256, 1920]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1920, .f32⟩
  | .hbm, ⟨1, _⟩ => ⟨S2x1024x1920, .f32⟩
  | .hbm, ⟨2, _⟩ => ⟨S2x1024x1920, .f32⟩
  | .hbm, ⟨3, _⟩ => ⟨S2x1024x1920, .f32⟩
  | .hbm, ⟨4, _⟩ => ⟨S2048x1920, .f32⟩
  | .hbm, ⟨5, _⟩ => ⟨S2048x1920, .f32⟩
  | .hbm, ⟨6, _⟩ => ⟨S2048x1920, .f32⟩
  | .hbm, ⟨7, _⟩ => ⟨S2048x1920, .f32⟩
  | .hbm, ⟨8, _⟩ => ⟨S2048x1920, .f32⟩
  | .hbm, ⟨9, _⟩ => ⟨S2048x1920, .f32⟩
  | .hbm, ⟨10, _⟩ => ⟨S2048x1920, .f32⟩
  | .local _ .vmem, ⟨0, _⟩ => ⟨S256x1920, .f32⟩
  | .local _ .vmem, ⟨1, _⟩ => ⟨S256x1920, .f32⟩
  | .local _ .vmem, ⟨2, _⟩ => ⟨S256x1920, .f32⟩
  | .local _ .vmem, ⟨3, _⟩ => ⟨S256x1920, .f32⟩
  | .local _ .vmem, ⟨4, _⟩ => ⟨S256x1920, .f32⟩
  | .local _ .vmem, ⟨5, _⟩ => ⟨S256x1920, .f32⟩
  | .local _ .vmem, ⟨6, _⟩ => ⟨S256x1920, .f32⟩
  | .local _ .vmem, ⟨7, _⟩ => ⟨S256x1920, .f32⟩
  | .local _ .vmem, ⟨8, _⟩ => ⟨S256x1920, .f32⟩
  | .local _ .vmem, ⟨9, _⟩ => ⟨S256x1920, .f32⟩
  | .local _ .vmem, ⟨10, _⟩ => ⟨S256x1920, .f32⟩
  | .local _ .vmem, ⟨11, _⟩ => ⟨S256x1920, .f32⟩
  | .local _ .vmem, ⟨12, _⟩ => ⟨S256x1920, .f32⟩
  | .local _ .vmem, ⟨13, _⟩ => ⟨S256x1920, .f32⟩
  | _, _ => ⟨S2x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S2x1024x1920 : Shape := ⟨3, ![2, 1024, 1920]⟩
abbrev S_ : Shape := ⟨0, ![]⟩
abbrev S2048x1920 : Shape := ⟨2, ![2048, 1920]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1920, .f32⟩
  | .hbm, ⟨1, _⟩ => ⟨S2x1024x1920, .f32⟩
  | .hbm, ⟨2, _⟩ => ⟨S2x1024x1920, .f32⟩
  | .hbm, ⟨3, _⟩ => ⟨S2x1024x1920, .f32⟩
  | .hbm, ⟨4, _⟩ => ⟨S_, .f32⟩
  | .hbm, ⟨5, _⟩ => ⟨S2x1024x1920, .f32⟩
  | .hbm, ⟨6, _⟩ => ⟨S2x1024x1920, .f32⟩
  | .hbm, ⟨7, _⟩ => ⟨S_, .f32⟩
  | .hbm, ⟨8, _⟩ => ⟨S2x1024x1920, .f32⟩
  | .hbm, ⟨9, _⟩ => ⟨S2x1024x1920, .f32⟩
  | .hbm, ⟨10, _⟩ => ⟨S2x1024x1920, .f32⟩
  | .hbm, ⟨11, _⟩ => ⟨S_, .f32⟩
  | .hbm, ⟨12, _⟩ => ⟨S2x1024x1920, .f32⟩
  | .hbm, ⟨13, _⟩ => ⟨S2x1024x1920, .f32⟩
  | .hbm, ⟨14, _⟩ => ⟨S2x1024x1920, .f32⟩
  | .hbm, ⟨15, _⟩ => ⟨S_, .f32⟩
  | .hbm, ⟨16, _⟩ => ⟨S2x1024x1920, .f32⟩
  | .hbm, ⟨17, _⟩ => ⟨S2x1024x1920, .f32⟩
  | .hbm, ⟨18, _⟩ => ⟨S2x1024x1920, .f32⟩
  | .hbm, ⟨19, _⟩ => ⟨S_, .f32⟩
  | .hbm, ⟨20, _⟩ => ⟨S2x1024x1920, .f32⟩
  | .hbm, ⟨21, _⟩ => ⟨S2x1024x1920, .f32⟩
  | .hbm, ⟨22, _⟩ => ⟨S_, .f32⟩
  | .hbm, ⟨23, _⟩ => ⟨S2x1024x1920, .f32⟩
  | .hbm, ⟨24, _⟩ => ⟨S2x1024x1920, .f32⟩
  | .hbm, ⟨25, _⟩ => ⟨S2x1024x1920, .f32⟩
  | .hbm, ⟨26, _⟩ => ⟨S_, .f32⟩
  | .hbm, ⟨27, _⟩ => ⟨S2x1024x1920, .f32⟩
  | .hbm, ⟨28, _⟩ => ⟨S2x1024x1920, .f32⟩
  | .hbm, ⟨29, _⟩ => ⟨S2x1024x1920, .f32⟩
  | .hbm, ⟨30, _⟩ => ⟨S_, .f32⟩
  | .hbm, ⟨31, _⟩ => ⟨S2x1024x1920, .f32⟩
  | .hbm, ⟨32, _⟩ => ⟨S2x1024x1920, .f32⟩
  | .hbm, ⟨33, _⟩ => ⟨S2x1024x1920, .f32⟩
  | .hbm, ⟨34, _⟩ => ⟨S_, .f32⟩
  | .hbm, ⟨35, _⟩ => ⟨S2x1024x1920, .f32⟩
  | .hbm, ⟨36, _⟩ => ⟨S2x1024x1920, .f32⟩
  | .hbm, ⟨37, _⟩ => ⟨S2048x1920, .f32⟩
  | .hbm, ⟨38, _⟩ => ⟨S2048x1920, .f32⟩
  | .hbm, ⟨39, _⟩ => ⟨S2048x1920, .f32⟩
  | _, _ => ⟨S2x1024x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel10.lean ====
abbrev S2x512x256 : Shape := ⟨3, ![2, 512, 256]⟩
abbrev S1024x256 : Shape := ⟨2, ![1024, 256]⟩
abbrev S512x256 : Shape := ⟨2, ![512, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2x512x256 : Shape := ⟨3, ![2, 512, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S1024x256, .f32⟩
  | .hbm, ⟨38, _⟩ => ⟨S1024x256, .f32⟩
  | .hbm, ⟨39, _⟩ => ⟨S1024x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel11.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S2x31x128 : Shape := ⟨3, ![2, 31, 128]⟩
abbrev S62x128 : Shape := ⟨2, ![62, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S62x128, .f32⟩
  | .hbm, ⟨5, _⟩ => ⟨S62x128, .f32⟩
  | .hbm, ⟨6, _⟩ => ⟨S62x128, .f32⟩
  | .hbm, ⟨7, _⟩ => ⟨S62x128, .f32⟩
  | .hbm, ⟨8, _⟩ => ⟨S62x128, .f32⟩
  | .hbm, ⟨9, _⟩ => ⟨S62x128, .f32⟩
  | .hbm, ⟨10, _⟩ => ⟨S62x128, .f32⟩
  | .local _ .vmem, ⟨0, _⟩ => ⟨S62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | _, _ => ⟨S2x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S2x31x128 : Shape := ⟨3, ![2, 31, 128]⟩
abbrev S_ : Shape := ⟨0, ![]⟩
abbrev S62x128 : Shape := ⟨2, ![62, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S_, .f32⟩
  | .hbm, ⟨5, _⟩ => ⟨S2x31x128, .f32⟩
  | .hbm, ⟨6, _⟩ => ⟨S2x31x128, .f32⟩
  | .hbm, ⟨7, _⟩ => ⟨S_, .f32⟩
  | .hbm, ⟨8, _⟩ => ⟨S2x31x128, .f32⟩
  | .hbm, ⟨9, _⟩ => ⟨S2x31x128, .f32⟩
  | .hbm, ⟨10, _⟩ => ⟨S2x31x128, .f32⟩
  | .hbm, ⟨11, _⟩ => ⟨S_, .f32⟩
  | .hbm, ⟨12, _⟩ => ⟨S2x31x128, .f32⟩
  | .hbm, ⟨13, _⟩ => ⟨S2x31x128, .f32⟩
  | .hbm, ⟨14, _⟩ => ⟨S2x31x128, .f32⟩
  | .hbm, ⟨15, _⟩ => ⟨S_, .f32⟩
  | .hbm, ⟨16, _⟩ => ⟨S2x31x128, .f32⟩
  | .hbm, ⟨17, _⟩ => ⟨S2x31x128, .f32⟩
  | .hbm, ⟨18, _⟩ => ⟨S2x31x128, .f32⟩
  | .hbm, ⟨19, _⟩ => ⟨S_, .f32⟩
  | .hbm, ⟨20, _⟩ => ⟨S2x31x128, .f32⟩
  | .hbm, ⟨21, _⟩ => ⟨S2x31x128, .f32⟩
  | .hbm, ⟨22, _⟩ => ⟨S_, .f32⟩
  | .hbm, ⟨23, _⟩ => ⟨S2x31x128, .f32⟩
  | .hbm, ⟨24, _⟩ => ⟨S2x31x128, .f32⟩
  | .hbm, ⟨25, _⟩ => ⟨S2x31x128, .f32⟩
  | .hbm, ⟨26, _⟩ => ⟨S_, .f32⟩
  | .hbm, ⟨27, _⟩ => ⟨S2x31x128, .f32⟩
  | .hbm, ⟨28, _⟩ => ⟨S2x31x128, .f32⟩
  | .hbm, ⟨29, _⟩ => ⟨S2x31x128, .f32⟩
  | .hbm, ⟨30, _⟩ => ⟨S_, .f32⟩
  | .hbm, ⟨31, _⟩ => ⟨S2x31x128, .f32⟩
  | .hbm, ⟨32, _⟩ => ⟨S2x31x128, .f32⟩
  | .hbm, ⟨33, _⟩ => ⟨S2x31x128, .f32⟩
  | .hbm, ⟨34, _⟩ => ⟨S_, .f32⟩
  | .hbm, ⟨35, _⟩ => ⟨S2x31x128, .f32⟩
  | .hbm, ⟨36, _⟩ => ⟨S2x31x128, .f32⟩
  | .hbm, ⟨37, _⟩ => ⟨S62x128, .f32⟩
  | .hbm, ⟨38, _⟩ => ⟨S62x128, .f32⟩
  | .hbm, ⟨39, _⟩ => ⟨S62x128, .f32⟩
  | _, _ => ⟨S2x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S448x512 : Shape := ⟨2, ![448, 512]⟩
abbrev S64x512 : Shape := ⟨2, ![64, 512]⟩

abbrev nBuf : Space → Nat
  | .hbm => 7
  | .vmem => 14
  | .smem => 0
  | _ => 0

abbrev bufTy : (tb : Table) → Fin (tcTables nBuf tb) → BufTy
  | .hbm, ⟨0, _⟩ => ⟨S448x512, .f32⟩
  | .hbm, ⟨1, _⟩ => ⟨S448x512, .f32⟩
  | .hbm, ⟨2, _⟩ => ⟨S448x512, .f32⟩
  | .hbm, ⟨3, _⟩ => ⟨S448x512, .f32⟩
  | .hbm, ⟨4, _⟩ => ⟨S448x512, .f32⟩
  | .hbm, ⟨5, _⟩ => ⟨S448x512, .f32⟩
  | .hbm, ⟨6, _⟩ => ⟨S448x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | _, _ => ⟨S448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S448x512 : Shape := ⟨2, ![448, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S448x512, .f32⟩
  | .hbm, ⟨1, _⟩ => ⟨S448x512, .f32⟩
  | .hbm, ⟨2, _⟩ => ⟨S448x512, .f32⟩
  | .hbm, ⟨3, _⟩ => ⟨S448x512, .f32⟩
  | .hbm, ⟨4, _⟩ => ⟨S_, .f32⟩
  | .hbm, ⟨5, _⟩ => ⟨S448x512, .f32⟩
  | .hbm, ⟨6, _⟩ => ⟨S448x512, .f32⟩
  | .hbm, ⟨7, _⟩ => ⟨S_, .f32⟩
  | .hbm, ⟨8, _⟩ => ⟨S448x512, .f32⟩
  | .hbm, ⟨9, _⟩ => ⟨S448x512, .f32⟩
  | .hbm, ⟨10, _⟩ => ⟨S448x512, .f32⟩
  | .hbm, ⟨11, _⟩ => ⟨S_, .f32⟩
  | .hbm, ⟨12, _⟩ => ⟨S448x512, .f32⟩
  | .hbm, ⟨13, _⟩ => ⟨S448x512, .f32⟩
  | .hbm, ⟨14, _⟩ => ⟨S448x512, .f32⟩
  | .hbm, ⟨15, _⟩ => ⟨S_, .f32⟩
  | .hbm, ⟨16, _⟩ => ⟨S448x512, .f32⟩
  | .hbm, ⟨17, _⟩ => ⟨S448x512, .f32⟩
  | .hbm, ⟨18, _⟩ => ⟨S448x512, .f32⟩
  | .hbm, ⟨19, _⟩ => ⟨S_, .f32⟩
  | .hbm, ⟨20, _⟩ => ⟨S448x512, .f32⟩
  | .hbm, ⟨21, _⟩ => ⟨S448x512, .f32⟩
  | .hbm, ⟨22, _⟩ => ⟨S_, .f32⟩
  | .hbm, ⟨23, _⟩ => ⟨S448x512, .f32⟩
  | .hbm, ⟨24, _⟩ => ⟨S448x512, .f32⟩
  | .hbm, ⟨25, _⟩ => ⟨S448x512, .f32⟩
  | .hbm, ⟨26, _⟩ => ⟨S_, .f32⟩
  | .hbm, ⟨27, _⟩ => ⟨S448x512, .f32⟩
  | .hbm, ⟨28, _⟩ => ⟨S448x512, .f32⟩
  | .hbm, ⟨29, _⟩ => ⟨S448x512, .f32⟩
  | .hbm, ⟨30, _⟩ => ⟨S_, .f32⟩
  | .hbm, ⟨31, _⟩ => ⟨S448x512, .f32⟩
  | .hbm, ⟨32, _⟩ => ⟨S448x512, .f32⟩
  | .hbm, ⟨33, _⟩ => ⟨S448x512, .f32⟩
  | .hbm, ⟨34, _⟩ => ⟨S_, .f32⟩
  | .hbm, ⟨35, _⟩ => ⟨S448x512, .f32⟩
  | .hbm, ⟨36, _⟩ => ⟨S448x512, .f32⟩
  | _, _ => ⟨S448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1x1024 : Shape := ⟨2, ![1, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .hbm, ⟨4, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel15.lean ====
abbrev S8x224x512 : Shape := ⟨3, ![8, 224, 512]⟩
abbrev S224x512 : Shape := ⟨2, ![224, 512]⟩
abbrev S8x32x512 : Shape := ⟨3, ![8, 32, 512]⟩
abbrev S32x512 : Shape := ⟨2, ![32, 512]⟩
abbrev S1x32x512 : Shape := ⟨3, ![1, 32, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x224x512, .f32⟩
  | .hbm, ⟨1, _⟩ => ⟨S224x512, .f32⟩
  | .local _ .vmem, ⟨0, _⟩ => ⟨S8x32x512, .f32⟩
  | .local _ .vmem, ⟨1, _⟩ => ⟨S8x32x512, .f32⟩
  | .local _ .vmem, ⟨2, _⟩ => ⟨S32x512, .f32⟩
  | .local _ .vmem, ⟨3, _⟩ => ⟨S32x512, .f32⟩
  | _, _ => ⟨S8x224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference15Ideal.lean ====
abbrev S8x224x512 : Shape := ⟨3, ![8, 224, 512]⟩
abbrev S_ : Shape := ⟨0, ![]⟩
abbrev S224x512 : Shape := ⟨2, ![224, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x224x512, .f32⟩
  | .hbm, ⟨1, _⟩ => ⟨S_, .f32⟩
  | .hbm, ⟨2, _⟩ => ⟨S224x512, .f32⟩
  | _, _ => ⟨S8x224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference16Ideal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.RmsGrad.lean ====
module

public import Idealize.ShloMosaic.Lib.IdealHost

/-! # The gradient of a root-mean-square norm, in the two forms it is written

For a row `y` and the cotangent `e` of its normalised entries, the chain rule through `x ↦ x · rsqrt (mean x² + ε)` gives
`e ρ + y w + w y` with `w` the cotangent of the mean.  The closed form `ρ (e − (y ρ) · mean (e · (y ρ)))` is the same number on
the extended reals: where an entry of the row is infinite both are zero, and elsewhere `ρ` is a positive real number. -/

@[expose] public section

noncomputable section

open Idealize.ShloMosaic

namespace RmsGrad

theorem mul_self_nonneg (x : EReal) : 0 ≤ x * x := by
  rcases le_total 0 x with h | h
  · exact mul_nonneg h h
  · have : 0 ≤ (-x) * (-x) := mul_nonneg (EReal.neg_nonneg.mpr h) (EReal.neg_nonneg.mpr h)
    simpa using this

theorem mul_self_top {x : EReal} (h : x = ⊤ ∨ x = ⊥) : x * x = ⊤ := by
  rcases h with rfl | rfl
  · exact EReal.top_mul_top
  · exact EReal.bot_mul_bot

theorem add_self (x : EReal) : x + x = ((2 : ℝ) : EReal) * x := by
  induction x using EReal.rec with
  | bot => rw [EReal.coe_mul_bot_of_pos (by norm_num)]; rfl
  | top => rw [EReal.coe_mul_top_of_pos (by norm_num)]; rfl
  | coe r => rw [← EReal.coe_add, ← EReal.coe_mul, two_mul]

theorem coe_mul_sum {n : Nat} (p : ℝ) (hp : 0 ≤ p) (f : Fin n → EReal) : ∑ x, (p : EReal) * f x = (p : EReal) * ∑ x, f x := by
  classical
  refine Finset.induction_on (Finset.univ : Finset (Fin n)) (by simp) fun a s ha ih => ?_
  rw [Finset.sum_insert ha, Finset.sum_insert ha, ih,
    EReal.left_distrib_of_nonneg_of_ne_top (EReal.coe_nonneg.mpr hp) (EReal.coe_ne_top p)]

theorem coe_sum {n : Nat} (f : Fin n → ℝ) : ((∑ x, f x : ℝ) : EReal) = ∑ x, (f x : EReal) := by
  classical
  refine Finset.induction_on (Finset.univ : Finset (Fin n)) (by simp) fun a s ha ih => ?_
  rw [Finset.sum_insert ha, Finset.sum_insert ha, EReal.coe_add, ih]

theorem coe_mul_sub (p : ℝ) (hp : 0 ≤ p) (x y : EReal) : (p : EReal) * (x - y) = p * x + ((-p : ℝ) : EReal) * y := by
  rw [sub_eq_add_neg, EReal.left_distrib_of_nonneg_of_ne_top (EReal.coe_nonneg.mpr hp) (EReal.coe_ne_top p), EReal.coe_neg,
    mul_neg, neg_mul]

/-- A row is finite, or its sum of squares is infinite. -/
theorem finite_or_top {n : Nat} (y : Fin n → EReal) : (∃ a : Fin n → ℝ, y = fun x => (a x : EReal)) ∨ ∑ x, y x * y x = ⊤ := by
  by_cases h : ∃ x, y x = ⊤ ∨ y x = ⊥
  · obtain ⟨x, hx⟩ := h
    refine Or.inr (top_le_iff.mp ?_)
    calc (⊤ : EReal) = y x * y x := (mul_self_top hx).symm
      _ ≤ _ := Finset.single_le_sum (f := fun x => y x * y x) (fun i _ => mul_self_nonneg (y i)) (Finset.mem_univ x)
  · refine Or.inl ⟨fun x => (y x).toReal, funext fun x => (EReal.coe_toReal ?_ ?_).symm⟩
    · exact fun e => h ⟨x, Or.inl e⟩
    · exact fun e => h ⟨x, Or.inr e⟩

/-- The two forms of the gradient of the norm agree, for every row and every cotangent. -/
theorem closed_eq_chain {n : Nat} (N ε : ℝ) (hN : 0 < N) (hε : 0 < ε) (y e : Fin n → EReal) (l : Fin n) :
    Ideal.rsqrt (Ideal.div (∑ x, y x * y x) N + ε) *
        (e l - y l * Ideal.rsqrt (Ideal.div (∑ x, y x * y x) N + ε) *
          Ideal.div (∑ x, e x * (y x * Ideal.rsqrt (Ideal.div (∑ x, y x * y x) N + ε))) N)
      = e l * Ideal.rsqrt (Ideal.div (∑ x, y x * y x) N + ε)
        + y l * Ideal.div ((∑ x, y x * e x) * (((-1 / 2 : ℝ) : EReal) *
            Ideal.div (Ideal.rsqrt (Ideal.div (∑ x, y x * y x) N + ε)) (Ideal.div (∑ x, y x * y x) N + ε))) N
        + Ideal.div ((∑ x, y x * e x) * (((-1 / 2 : ℝ) : EReal) *
            Ideal.div (Ideal.rsqrt (Ideal.div (∑ x, y x * y x) N + ε)) (Ideal.div (∑ x, y x * y x) N + ε))) N * y l := by
  rcases finite_or_top y with ⟨a, rfl⟩ | h
  · have hq : ∑ x, (a x : EReal) * (a x : EReal) = ((∑ x, a x * a x : ℝ) : EReal) := by
      simp only [← EReal.coe_mul]; exact (coe_sum _).symm
    obtain ⟨σ, hσ, hs⟩ : ∃ σ : ℝ, 0 < σ ∧ Ideal.div (∑ x, (a x : EReal) * (a x : EReal)) N + ε = (σ : EReal) := by
      refine ⟨(∑ x, a x * a x) * (1 / N) + ε, ?_, ?_⟩
      · have : 0 ≤ ∑ x, a x * a x := Finset.sum_nonneg fun i _ => _root_.mul_self_nonneg (a i)
        positivity
      · rw [hq, Ideal.div_coe hN.ne', ← EReal.coe_mul, ← EReal.coe_add]
    set p : ℝ := (Real.sqrt σ)⁻¹ with hp
    have hp0 : 0 < p := inv_pos.mpr (Real.sqrt_pos.mpr hσ)
    have hpp : p * p = 1 / σ := by
      rw [hp, ← mul_inv, Real.mul_self_sqrt hσ.le, one_div]
    have hr : Ideal.rsqrt (σ : EReal) = (p : EReal) := by
      rw [Ideal.rsqrt_coe, if_neg hσ.not_gt, if_neg hσ.ne']
    rw [hs, hr, Ideal.div_coe hσ.ne']
    have hsum : ∑ x, e x * ((a x : EReal) * (p : EReal)) = (p : EReal) * ∑ x, (a x : EReal) * e x := by
      rw [← coe_mul_sum p hp0.le]
      exact Finset.sum_congr rfl fun x _ => by ac_rfl
    rw [hsum]
    generalize ∑ x, (a x : EReal) * e x = S
    simp only [Ideal.div_coe hN.ne']
    rw [coe_mul_sub p hp0.le, add_assoc, mul_comm (a l : EReal) (S * _ * _), add_self, mul_comm (e l)]
    congr 1
    have lhs : ((-p : ℝ) : EReal) * ((a l : EReal) * p * (p * S * ((1 / N : ℝ) : EReal)))
        = ((-p * (a l * p * (p * (1 / N))) : ℝ) : EReal) * S := by
      push_cast; ac_rfl
    have rhs : ((2 : ℝ) : EReal) * (S * (((-1 / 2 : ℝ) : EReal) * ((p : EReal) * ((1 / σ : ℝ) : EReal))) * ((1 / N : ℝ) : EReal) * (a l : EReal))
        = ((2 * ((-1 / 2) * (p * (1 / σ)) * (1 / N) * a l) : ℝ) : EReal) * S := by
      simp only [EReal.coe_mul]; ac_rfl
    rw [lhs, rhs, ← hpp]
    congr 2
    ring
  · have hs : Ideal.div (∑ x, y x * y x) N + ε = ⊤ := by
      rw [h, Ideal.div_coe hN.ne', EReal.top_mul_coe_of_pos (by positivity)]; rfl
    have hd : Ideal.div 0 (⊤ : EReal) = 0 := by
      unfold Ideal.div; rw [if_neg EReal.top_ne_zero, zero_mul]
    rw [hs, Ideal.rsqrt_top, hd]
    simp [Ideal.div_coe hN.ne']

end RmsGrad
-- ==== Proof.Consts.lean ====
module

public import Idealize.ShloMosaic.Lib.IdealHost

/-! # The real numbers behind the constants of the programs -/

@[expose] public section

noncomputable section

open Idealize.ShloMosaic

namespace Consts

/-- The rounded `1e-6` that both programs add under the root. -/
def eps : ℝ := 8796093 / 8796093022208

theorem eps_pos : 0 < eps := by norm_num [eps]

theorem ofBits_eps : Ideal.ofBits .f32 0x358637BD#32 = ((eps : ℝ) : EReal) := by
  simp [Ideal.ofBits, Ideal.ieee, eps, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul]; norm_num

end Consts
-- ==== Proof.TailRef.lean ====
module

public import proofs.«01_k».proof.Proof.Gen.ReferenceIdeal.Read
public import proofs.«01_k».proof.Proof.RmsGrad
public import proofs.«01_k».proof.Proof.Consts
public import Idealize.ShloMosaic.Lib.Pipeline.ValueKit

/-! # The reference gradient of the gated merge, read at an entry

The values the reference computes on the way to its results, each as a formula in the entries of the values before it. -/

@[expose] public section

set_option maxRecDepth 16384

noncomputable section

open Idealize.ShloMosaic Idealize.ShloMosaic.TcCoe Idealize.SL.Sem
open Idealize.ShloMosaic.Pipeline (Dat)

namespace Cert.Tail
open Cert.ReferenceIdeal Cert.ReferenceIdeal.Gen Cert.ReferenceIdeal.Read

/-- The ten arrays both programs are given. -/
structure In where
  dout : Vec Ideal S8192x1024 .f32
  cv : Vec Ideal S8192x512 .f32
  at' : Vec Ideal S8192x512 .f32
  pv : Vec Ideal S8192x512 .f32
  z : Vec Ideal S8192x7680 .f32
  wc : Vec Ideal S512x1024 .f32
  wa : Vec Ideal S512x1024 .f32
  wp : Vec Ideal S512x1024 .f32
  wo : Vec Ideal S1024x1024 .f32
  g : Vec Ideal S1024 .f32

namespace In
variable (I : In)

/-- The merged activations and their projection, the sigmoid of the gate columns, and the three branch products. -/
def merged : Vec Ideal S8192x1024 .f32 := val_main_v24 I.cv I.at' I.pv I.z I.wc I.wa I.wp
def y : Vec Ideal S8192x1024 .f32 := val_main_v25 I.cv I.at' I.pv I.z I.wc I.wa I.wp I.wo
def sig : Vec Ideal S8192x3072 .f32 := val_main_v9 I.z
def yc : Vec Ideal S8192x1024 .f32 := val_main_v1 I.cv I.wc
def ya : Vec Ideal S8192x1024 .f32 := val_main_v2 I.at' I.wa
def yp : Vec Ideal S8192x1024 .f32 := val_main_v3 I.pv I.wp

/-- The cotangents: of the projection, of the merged activations, and of the three branch products. -/
def dy : Vec Ideal S8192x1024 .f32 := val_main_v61 I.dout I.cv I.at' I.pv I.z I.wc I.wa I.wp I.wo I.g
def dm : Vec Ideal S8192x1024 .f32 := val_main_v64 I.dout I.cv I.at' I.pv I.z I.wc I.wa I.wp I.wo I.g
def dyc : Vec Ideal S8192x1024 .f32 := val_main_v74 I.dout I.cv I.at' I.pv I.z I.wc I.wa I.wp I.wo I.g
def dya : Vec Ideal S8192x1024 .f32 := val_main_v69 I.dout I.cv I.at' I.pv I.z I.wc I.wa I.wp I.wo I.g
def dyp : Vec Ideal S8192x1024 .f32 := val_main_v65 I.dout I.cv I.at' I.pv I.z I.wc I.wa I.wp I.wo I.g

/-- The six results. -/
def dz : Vec Ideal S18x8192x512 .bf16 := val_main_v96 I.dout I.cv I.at' I.pv I.z I.wc I.wa I.wp I.wo I.g
def dcv : Vec Ideal S8192x512 .f32 := val_main_v89 I.dout I.cv I.at' I.pv I.z I.wc I.wa I.wp I.wo I.g
def dat : Vec Ideal S8192x512 .f32 := val_main_v86 I.dout I.cv I.at' I.pv I.z I.wc I.wa I.wp I.wo I.g
def dpv : Vec Ideal S8192x512 .f32 := val_main_v83 I.dout I.cv I.at' I.pv I.z I.wc I.wa I.wp I.wo I.g
def dg : Vec Ideal S1x1024 .f32 := val_main_v97 I.dout I.cv I.at' I.pv I.z I.wc I.wa I.wp I.wo
def dw : Vec Ideal S2560x1024 .f32 := val_main_v95 I.dout I.cv I.at' I.pv I.z I.wc I.wa I.wp I.wo I.g

/-- The reciprocal root mean square of row `r`. -/
def rho (r : Fin 8192) : EReal :=
  Ideal.rsqrt (Ideal.div (∑ x, I.y (ix2 r x) * I.y (ix2 r x)) (Ideal.ofBits .f32 0x44800000#32) + Ideal.ofBits .f32 0x358637BD#32)

theorem sig_apply (r : Fin 8192) (c : Fin 3072) :
    I.sig (ix2 r c) = Ideal.div 1 (1 + Ideal.exp (-(I.z (ix2 r ⟨4608 + c.val, by omega⟩)))) := by
  unfold sig
  pointwise [val_main_v9, val_main_v8, val_main_v7, val_main_v6, val_main_v5, val_main_v4, val_main_v0, val_main_cst, val_main_cst_0]

theorem dy_apply (r : Fin 8192) (l : Fin 1024) :
    I.dy (ix2 r l) = I.rho r * (I.dout (ix2 r l) * I.g (ix1 l) - I.y (ix2 r l) * I.rho r *
      Ideal.div (∑ x, I.dout (ix2 r x) * I.g (ix1 x) * (I.y (ix2 r x) * I.rho r)) (Ideal.ofBits .f32 0x44800000#32)) := by
  unfold dy rho y
  generalize hY : val_main_v25 I.cv I.at' I.pv I.z I.wc I.wa I.wp I.wo = Y
  pointwise [val_main_v61, val_main_v60, val_main_v59, val_main_v58, val_main_v57, val_main_v56, val_main_v55, val_main_v54, val_main_v53,
    val_main_v52, val_main_v51, val_main_v50, val_main_v49, val_main_v48, val_main_v46, val_main_v45, val_main_v39, val_main_v36,
    val_main_v35, val_main_v34, val_main_v33, val_main_v32, val_main_v31, val_main_v30, val_main_v29, val_main_v28, val_main_v27,
    val_main_v26, hY, val_main_cst_2, val_main_cst_10, val_main_cst_9, val_main_cst_8, val_main_cst_3, val_main_cst_4, val_main_cst_5]
  rw [Consts.ofBits_1024, Consts.ofBits_eps, Consts.ofBits_neg_half, Fin.sum_univ_one]
  exact (RmsGrad.closed_eq_chain 1024 Consts.eps (by norm_num) Consts.eps_pos (fun k => Y (ix2 r k))
    (fun k => I.dout (ix2 r k) * I.g (ix1 k)) l).symm

theorem dm_apply (r : Fin 8192) (l : Fin 1024) : I.dm (ix2 r l) = ∑ k, I.dy (ix2 r k) * I.wo (ix2 l k) := by
  unfold dm dy
  pointwise [val_main_v64]

theorem yc_apply (r : Fin 8192) (l : Fin 1024) : I.yc (ix2 r l) = ∑ k, I.cv (ix2 r k) * I.wc (ix2 k l) := by
  unfold yc; pointwise [val_main_v1]
theorem ya_apply (r : Fin 8192) (l : Fin 1024) : I.ya (ix2 r l) = ∑ k, I.at' (ix2 r k) * I.wa (ix2 k l) := by
  unfold ya; pointwise [val_main_v2]
theorem yp_apply (r : Fin 8192) (l : Fin 1024) : I.yp (ix2 r l) = ∑ k, I.pv (ix2 r k) * I.wp (ix2 k l) := by
  unfold yp; pointwise [val_main_v3]

theorem dyc_apply (r : Fin 8192) (l : Fin 1024) : I.dyc (ix2 r l) = I.sig (ix2 r ⟨l.val, by omega⟩) * I.dm (ix2 r l) := by
  unfold dyc sig dm; pointwise [val_main_v74, val_main_v15, val_main_v14, val_main_v13]
theorem dya_apply (r : Fin 8192) (l : Fin 1024) : I.dya (ix2 r l) = I.sig (ix2 r ⟨1024 + l.val, by omega⟩) * I.dm (ix2 r l) := by
  unfold dya sig dm; pointwise [val_main_v69, val_main_v18, val_main_v17, val_main_v13]
theorem dyp_apply (r : Fin 8192) (l : Fin 1024) : I.dyp (ix2 r l) = I.sig (ix2 r ⟨2048 + l.val, by omega⟩) * I.dm (ix2 r l) := by
  unfold dyp sig dm; pointwise [val_main_v65, val_main_v22, val_main_v21, val_main_v13]

theorem dcv_apply (r : Fin 8192) (l : Fin 512) : I.dcv (ix2 r l) = ∑ k, I.dyc (ix2 r k) * I.wc (ix2 l k) := by
  unfold dcv dyc; pointwise [val_main_v89]
theorem dat_apply (r : Fin 8192) (l : Fin 512) : I.dat (ix2 r l) = ∑ k, I.dya (ix2 r k) * I.wa (ix2 l k) := by
  unfold dat dya; pointwise [val_main_v86]
theorem dpv_apply (r : Fin 8192) (l : Fin 512) : I.dpv (ix2 r l) = ∑ k, I.dyp (ix2 r k) * I.wp (ix2 l k) := by
  unfold dpv dyp; pointwise [val_main_v83]

theorem dg_apply (l : Fin 1024) : I.dg (ix2 0 l) = ∑ r, I.y (ix2 r l) * I.rho r * I.dout (ix2 r l) := by
  unfold dg y rho y
  generalize hY : val_main_v25 I.cv I.at' I.pv I.z I.wc I.wa I.wp I.wo = Y
  pointwise [val_main_v97, val_main_v47, val_main_v44, val_main_v43, val_main_v42, val_main_v38, val_main_v37, val_main_v33,
    val_main_v32, val_main_v31, val_main_v30, val_main_v29, val_main_v28, val_main_v27, val_main_v26, hY, val_main_cst_2,
    val_main_cst_3, val_main_cst_4, val_main_cst_6, val_main_cst_7]
  rw [Fin.sum_univ_one]

theorem dw_conv (k : Fin 512) (l : Fin 1024) : I.dw (ix2 ⟨k.val, by omega⟩ l) = ∑ r, I.dyc (ix2 r l) * I.cv (ix2 r k) := by
  unfold dw dyc; pointwise [val_main_v95, val_main_v88, val_main_v87]
theorem dw_attn (k : Fin 512) (l : Fin 1024) : I.dw (ix2 ⟨512 + k.val, by omega⟩ l) = ∑ r, I.dya (ix2 r l) * I.at' (ix2 r k) := by
  unfold dw dya; pointwise [val_main_v95, val_main_v85, val_main_v84]
theorem dw_pool (k : Fin 512) (l : Fin 1024) : I.dw (ix2 ⟨1024 + k.val, by omega⟩ l) = ∑ r, I.dyp (ix2 r l) * I.pv (ix2 r k) := by
  unfold dw dyp; pointwise [val_main_v95, val_main_v82, val_main_v81]
  rw [dif_neg (by omega), dif_neg (by omega), dif_pos (by omega)]
  refine Finset.sum_congr rfl fun x _ => ?_
  congr 2; exact congrArg (ix2 x) (Fin.ext (by simp; omega))
theorem dw_out (k : Fin 1024) (l : Fin 1024) : I.dw (ix2 ⟨1536 + k.val, by omega⟩ l) = ∑ r, I.dy (ix2 r k) * I.merged (ix2 r l) := by
  unfold dw dy merged; pointwise [val_main_v95, val_main_v94, val_main_v63, val_main_v62]
  rw [dif_neg (by omega), dif_neg (by omega), dif_neg (by omega)]
  refine Finset.sum_congr rfl fun x _ => ?_
  congr 2; exact congrArg (ix2 x) (Fin.ext (by simp; omega))

/-- The cotangent of the gate columns before they are laid out in blocks. -/
def dgm : Vec Ideal S8192x3072 .f32 := val_main_v80 I.dout I.cv I.at' I.pv I.z I.wc I.wa I.wp I.wo I.g

theorem dgm_conv (r : Fin 8192) (q : Fin 3072) (c : Fin 1024) (hq : q.val = 0 + c.val) : I.dgm (ix2 r q)
    = I.dm (ix2 r c) * I.yc (ix2 r c) * (I.sig (ix2 r q) * (1 - I.sig (ix2 r q))) := by
  unfold dgm dm yc sig
  have hc : (⟨q.val % 1024, by omega⟩ : Fin 1024) = c := Fin.ext (by show q.val % 1024 = c.val; omega)
  have h0 : ¬((2 ≤ q.val / 1024 ∧ q.val / 1024 - 2 < 1) ∧ q.val % 1024 < 1024) := by omega
  have h1 : ¬((1 ≤ q.val / 1024 ∧ q.val / 1024 - 1 < 1) ∧ q.val % 1024 < 1024) := by omega
  have h2 : (q.val / 1024 < 1 ∧ q.val % 1024 < 1024) := by omega
  generalize hd : val_main_v64 I.dout I.cv I.at' I.pv I.z I.wc I.wa I.wp I.wo I.g = dm
  pointwise [val_main_v80, val_main_v79, val_main_v78, val_main_v77, val_main_v76, val_main_v75, val_main_v73, val_main_v72,
    val_main_v71, val_main_v70, val_main_v68, val_main_v67, val_main_v66, val_main_v12, val_main_v11, val_main_v10, hd,
    val_main_cst_11, val_main_cst_12, val_main_cst_13, val_main_cst_1]
  simp only [dif_neg h0, dif_neg h1, dif_pos h2, zero_add, zero_add, hc]

theorem dgm_attn (r : Fin 8192) (q : Fin 3072) (c : Fin 1024) (hq : q.val = 1024 + c.val) : I.dgm (ix2 r q)
    = I.dm (ix2 r c) * I.ya (ix2 r c) * (I.sig (ix2 r q) * (1 - I.sig (ix2 r q))) := by
  unfold dgm dm ya sig
  have hc : (⟨q.val % 1024, by omega⟩ : Fin 1024) = c := Fin.ext (by show q.val % 1024 = c.val; omega)
  have h0 : ¬((2 ≤ q.val / 1024 ∧ q.val / 1024 - 2 < 1) ∧ q.val % 1024 < 1024) := by omega
  have h1 : ((1 ≤ q.val / 1024 ∧ q.val / 1024 - 1 < 1) ∧ q.val % 1024 < 1024) := by omega
  have h2 : ¬(q.val / 1024 < 1 ∧ q.val % 1024 < 1024) := by omega
  generalize hd : val_main_v64 I.dout I.cv I.at' I.pv I.z I.wc I.wa I.wp I.wo I.g = dm
  pointwise [val_main_v80, val_main_v79, val_main_v78, val_main_v77, val_main_v76, val_main_v75, val_main_v73, val_main_v72,
    val_main_v71, val_main_v70, val_main_v68, val_main_v67, val_main_v66, val_main_v12, val_main_v11, val_main_v10, hd,
    val_main_cst_11, val_main_cst_12, val_main_cst_13, val_main_cst_1]
  simp only [dif_neg h0, dif_pos h1, dif_neg h2, zero_add, add_zero, hc]

theorem dgm_pool (r : Fin 8192) (q : Fin 3072) (c : Fin 1024) (hq : q.val = 2048 + c.val) : I.dgm (ix2 r q)
    = I.dm (ix2 r c) * I.yp (ix2 r c) * (I.sig (ix2 r q) * (1 - I.sig (ix2 r q))) := by
  unfold dgm dm yp sig
  have hc : (⟨q.val % 1024, by omega⟩ : Fin 1024) = c := Fin.ext (by show q.val % 1024 = c.val; omega)
  have h0 : ((2 ≤ q.val / 1024 ∧ q.val / 1024 - 2 < 1) ∧ q.val % 1024 < 1024) := by omega
  have h1 : ¬((1 ≤ q.val / 1024 ∧ q.val / 1024 - 1 < 1) ∧ q.val % 1024 < 1024) := by omega
  have h2 : ¬(q.val / 1024 < 1 ∧ q.val % 1024 < 1024) := by omega
  generalize hd : val_main_v64 I.dout I.cv I.at' I.pv I.z I.wc I.wa I.wp I.wo I.g = dm
  pointwise [val_main_v80, val_main_v79, val_main_v78, val_main_v77, val_main_v76, val_main_v75, val_main_v73, val_main_v72,
    val_main_v71, val_main_v70, val_main_v68, val_main_v67, val_main_v66, val_main_v12, val_main_v11, val_main_v10, hd,
    val_main_cst_11, val_main_cst_12, val_main_cst_13, val_main_cst_1]
  simp only [dif_pos h0, dif_neg h1, dif_neg h2, add_zero, add_zero, hc]

/-- Block `12 + b` of the first result holds columns `512 b …` of that cotangent. -/
theorem dz_apply (b : Fin 6) (r : Fin 8192) (l : Fin 512) :
    I.dz (ix3 ⟨12 + b.val, by omega⟩ r l) = I.dgm (ix2 r ⟨b.val * 512 + l.val, by omega⟩) := by
  unfold dz dgm
  have hb : ¬(12 + b.val < 12) := by omega
  have hb' : 12 + b.val - 12 = b.val := by omega
  pointwise [val_main_v96, val_main_v93, val_main_v92, val_main_v91]

end In
end Cert.Tail
-- ==== Proof.TailBlock.lean ====
module

public import proofs.«01_k».proof.Proof.Gen.KernelIdeal.Skeleton
public import proofs.«01_k».proof.Proof.TailRef
public import Idealize.ShloMosaic.Lib.Pipeline.ValueKit

/-! # One block of rows of the gradient of the gated merge

What the kernel computes from one block of 256 rows, entry by entry, is what the reference computes at those rows. -/

@[expose] public section

set_option maxRecDepth 16384

noncomputable section

open Idealize.ShloMosaic Idealize.ShloMosaic.TcCoe Idealize.SL.Sem
open Idealize.ShloMosaic.Pipeline (Dat)

namespace Cert.Tail
open Cert.KernelIdeal Cert.KernelIdeal.Gen

/-- The blocks a grid point is given, with what each holds: rows `row r` of the arrays cut by rows, the others whole. -/
structure Blk (I : In) (row : Fin 256 → Fin 8192) where
  d : Vec Ideal S256x1024 .f32
  y : Vec Ideal S256x1024 .f32
  mg : Vec Ideal S256x1024 .bf16
  cv : Vec Ideal S256x512 .bf16
  at' : Vec Ideal S256x512 .bf16
  pv : Vec Ideal S256x512 .bf16
  za : Vec Ideal S256x1536 .f32
  zb : Vec Ideal S256x1536 .f32
  wc : Vec Ideal S512x1024 .bf16
  wa : Vec Ideal S512x1024 .bf16
  wp : Vec Ideal S512x1024 .bf16
  wo : Vec Ideal S1024x1024 .bf16
  g : Vec Ideal S1x1024 .f32
  hd : ∀ r l, d (ix2 r l) = I.dout (ix2 (row r) l)
  hy : ∀ r l, y (ix2 r l) = I.y (ix2 (row r) l)
  hmg : ∀ r l, mg (ix2 r l) = I.merged (ix2 (row r) l)
  hcv : ∀ r l, cv (ix2 r l) = I.cv (ix2 (row r) l)
  hat : ∀ r l, at' (ix2 r l) = I.at' (ix2 (row r) l)
  hpv : ∀ r l, pv (ix2 r l) = I.pv (ix2 (row r) l)
  hza : ∀ r (l : Fin 1536), za (ix2 r l) = I.z (ix2 (row r) ⟨4608 + l.val, by omega⟩)
  hzb : ∀ r (l : Fin 1536), zb (ix2 r l) = I.z (ix2 (row r) ⟨6144 + l.val, by omega⟩)
  hwc : ∀ k l, wc (ix2 k l) = I.wc (ix2 k l)
  hwa : ∀ k l, wa (ix2 k l) = I.wa (ix2 k l)
  hwp : ∀ k l, wp (ix2 k l) = I.wp (ix2 k l)
  hwo : ∀ k l, wo (ix2 k l) = I.wo (ix2 k l)
  hg : ∀ l, g (ix2 0 l) = I.g (ix1 l)

namespace Blk
variable {I : In} {row : Fin 256 → Fin 8192} (B : Blk I row)

/-- The cotangent of the projection, and of the merged activations, as the kernel computes them. -/
def dy : FVec Ideal S256x1024 .bf16 := k0_pay7 B.y B.d B.g
def dm : FVec Ideal S256x1024 .f32 := k0_pay10 B.dy B.wo

theorem dy_apply (r : Fin 256) (l : Fin 1024) : B.dy (ix2 r l) = I.dy (ix2 (row r) l) := by
  unfold dy
  pointwise [k0_pay7, k0_pay6, k0_pay5, k0_pay4]
  rw [In.dy_apply]
  simp only [B.hd, B.hy, B.hg, In.rho]

theorem dm_apply (r : Fin 256) (l : Fin 1024) : B.dm (ix2 r l) = I.dm (ix2 (row r) l) := by
  unfold dm
  pointwise [k0_pay10]
  rw [In.dm_apply]
  simp only [B.dy_apply, B.hwo]

/-- The sigmoid of a gate column. -/
def sg (x : EReal) : EReal := Ideal.div 1 (1 + Ideal.exp (-x))

theorem pay12_apply (x : Vec Ideal S256x512 .f32) (r : Fin 256) (l : Fin 512) : k0_pay12 x (ix2 r l) = sg (x (ix2 r l)) := by
  unfold sg; pointwise [k0_pay12]; rw [sub_eq_add_neg, zero_add]
theorem pay16_apply (x : Vec Ideal S256x512 .f32) (r : Fin 256) (l : Fin 512) : k0_pay16 x (ix2 r l) = sg (x (ix2 r l)) := by
  unfold sg; pointwise [k0_pay16]; rw [sub_eq_add_neg, zero_add]
theorem pay23_apply (x : Vec Ideal S256x512 .f32) (r : Fin 256) (l : Fin 512) : k0_pay23 x (ix2 r l) = sg (x (ix2 r l)) := by
  unfold sg; pointwise [k0_pay23]; rw [sub_eq_add_neg, zero_add]
theorem pay27_apply (x : Vec Ideal S256x512 .f32) (r : Fin 256) (l : Fin 512) : k0_pay27 x (ix2 r l) = sg (x (ix2 r l)) := by
  unfold sg; pointwise [k0_pay27]; rw [sub_eq_add_neg, zero_add]
theorem pay37_apply (x : Vec Ideal S256x512 .f32) (r : Fin 256) (l : Fin 512) : k0_pay37 x (ix2 r l) = sg (x (ix2 r l)) := by
  unfold sg; pointwise [k0_pay37]; rw [sub_eq_add_neg, zero_add]
theorem pay40_apply (x : Vec Ideal S256x512 .f32) (r : Fin 256) (l : Fin 512) : k0_pay40 x (ix2 r l) = sg (x (ix2 r l)) := by
  unfold sg; pointwise [k0_pay40]; rw [sub_eq_add_neg, zero_add]

/-- The six gate blocks of 512 columns. -/
def z0 : Vec Ideal S256x512 .f32 := View.ld B.za (Rect.unit ![0, 0] ![256, 512] inb_S256x1536_S256x512_0_0)
def z1 : Vec Ideal S256x512 .f32 := View.ld B.za (Rect.unit ![0, 512] ![256, 512] inb_S256x1536_S256x512_0_512)
def z2 : Vec Ideal S256x512 .f32 := View.ld B.za (Rect.unit ![0, 1024] ![256, 512] inb_S256x1536_S256x512_0_1024)
def z3 : Vec Ideal S256x512 .f32 := View.ld B.zb (Rect.unit ![0, 0] ![256, 512] inb_S256x1536_S256x512_0_0)
def z4 : Vec Ideal S256x512 .f32 := View.ld B.zb (Rect.unit ![0, 512] ![256, 512] inb_S256x1536_S256x512_0_512)
def z5 : Vec Ideal S256x512 .f32 := View.ld B.zb (Rect.unit ![0, 1024] ![256, 512] inb_S256x1536_S256x512_0_1024)

theorem sg_z0 (r : Fin 256) (l : Fin 512) : sg (B.z0 (ix2 r l)) = I.sig (ix2 (row r) ⟨0 + l.val, by omega⟩) := by
  have hz : B.z0 (ix2 r l) = B.za (ix2 r ⟨0 + l.val, by omega⟩) := by
    unfold z0; pointwise
  rw [hz, B.hza, In.sig_apply, sg]
theorem sg_z1 (r : Fin 256) (l : Fin 512) : sg (B.z1 (ix2 r l)) = I.sig (ix2 (row r) ⟨512 + l.val, by omega⟩) := by
  have hz : B.z1 (ix2 r l) = B.za (ix2 r ⟨512 + l.val, by omega⟩) := by
    unfold z1; pointwise
  rw [hz, B.hza, In.sig_apply, sg]
theorem sg_z2 (r : Fin 256) (l : Fin 512) : sg (B.z2 (ix2 r l)) = I.sig (ix2 (row r) ⟨1024 + l.val, by omega⟩) := by
  have hz : B.z2 (ix2 r l) = B.za (ix2 r ⟨1024 + l.val, by omega⟩) := by
    unfold z2; pointwise
  rw [hz, B.hza, In.sig_apply, sg]
theorem sg_z3 (r : Fin 256) (l : Fin 512) : sg (B.z3 (ix2 r l)) = I.sig (ix2 (row r) ⟨1536 + l.val, by omega⟩) := by
  have hz : B.z3 (ix2 r l) = B.zb (ix2 r ⟨0 + l.val, by omega⟩) := by
    unfold z3; pointwise
  rw [hz, B.hzb, In.sig_apply, sg]
  simp only [← Nat.add_assoc, Nat.reduceAdd, Nat.zero_add]
theorem sg_z4 (r : Fin 256) (l : Fin 512) : sg (B.z4 (ix2 r l)) = I.sig (ix2 (row r) ⟨2048 + l.val, by omega⟩) := by
  have hz : B.z4 (ix2 r l) = B.zb (ix2 r ⟨512 + l.val, by omega⟩) := by
    unfold z4; pointwise
  rw [hz, B.hzb, In.sig_apply, sg]
  simp only [← Nat.add_assoc, Nat.reduceAdd, Nat.zero_add]
theorem sg_z5 (r : Fin 256) (l : Fin 512) : sg (B.z5 (ix2 r l)) = I.sig (ix2 (row r) ⟨2560 + l.val, by omega⟩) := by
  have hz : B.z5 (ix2 r l) = B.zb (ix2 r ⟨1024 + l.val, by omega⟩) := by
    unfold z5; pointwise
  rw [hz, B.hzb, In.sig_apply, sg]
  simp only [← Nat.add_assoc, Nat.reduceAdd, Nat.zero_add]

/-- The cotangents of the three branch products, as the kernel computes them. -/
def dyc : FVec Ideal S256x1024 .bf16 := k0_pay19 B.dm (k0_pay14 B.dy B.wo B.z0) B.z1
def dya : FVec Ideal S256x1024 .bf16 := k0_pay33 (k0_pay25 B.dm B.z2) (k0_pay29 B.dm B.z3)
def dyp : FVec Ideal S256x1024 .bf16 := k0_pay43 B.dm (k0_pay37 B.z4) (k0_pay38 B.dm) B.z5

theorem pay13_apply (r : Fin 256) (l : Fin 512) : k0_pay13 B.dy B.wo (ix2 r l) = B.dm (ix2 r ⟨l.val, by omega⟩) := by
  unfold dm; pointwise [k0_pay13]

/-- A product read at column `l` of the two halves put side by side. -/
theorem halves (r : Fin 256) (l : Fin 1024) (f : Fin 512 → EReal) (g : Fin 512 → EReal) (o : Nat) (ho : o + 1024 ≤ 3072)
    (hf : ∀ k : Fin 512, f k = I.sig (ix2 (row r) ⟨o + k.val, by omega⟩))
    (hg : ∀ k : Fin 512, g k = I.sig (ix2 (row r) ⟨o + 512 + k.val, by omega⟩)) :
    (if h : l.val < 512 then B.dm (ix2 r l) * f ⟨l.val, h⟩
      else B.dm (ix2 r ⟨512 + (l.val - 512), by omega⟩) * g ⟨l.val - 512, by omega⟩)
    = I.sig (ix2 (row r) ⟨o + l.val, by omega⟩) * I.dm (ix2 (row r) l) := by
  by_cases h : l.val < 512
  · simp only [dif_pos h]
    rw [hf, B.dm_apply, mul_comm]
  · simp only [dif_neg h]
    have e : (⟨512 + (l.val - 512), by omega⟩ : Fin 1024) = l := Fin.ext (by show 512 + (l.val - 512) = l.val; omega)
    have e' : (⟨o + 512 + (l.val - 512), by omega⟩ : Fin 3072) = ⟨o + l.val, by omega⟩ := Fin.ext (by show o + 512 + (l.val - 512) = o + l.val; omega)
    rw [e, hg, B.dm_apply, mul_comm]
    simp only [e']

theorem dyc_apply (r : Fin 256) (l : Fin 1024) : B.dyc (ix2 r l) = I.dyc (ix2 (row r) l) := by
  unfold dyc
  pointwise [k0_pay19, k0_pay17, k0_pay14, k0_pay13]
  rw [In.dyc_apply]
  refine (B.halves r l (fun k => k0_pay12 B.z0 (ix2 r k)) (fun k => k0_pay16 B.z1 (ix2 r k)) 0 (by omega)
    (fun k => by rw [pay12_apply, sg_z0]) (fun k => by rw [pay16_apply, sg_z1])).trans ?_
  simp only [Nat.zero_add]
theorem dya_apply (r : Fin 256) (l : Fin 1024) : B.dya (ix2 r l) = I.dya (ix2 (row r) l) := by
  unfold dya
  pointwise [k0_pay33, k0_pay25, k0_pay24, k0_pay28, k0_pay29]
  rw [In.dya_apply]
  exact B.halves r l (fun k => k0_pay23 B.z2 (ix2 r k)) (fun k => k0_pay27 B.z3 (ix2 r k)) 1024 (by omega)
    (fun k => by rw [pay23_apply, sg_z2]) (fun k => by rw [pay27_apply, sg_z3])
theorem dyp_apply (r : Fin 256) (l : Fin 1024) : B.dyp (ix2 r l) = I.dyp (ix2 (row r) l) := by
  unfold dyp
  pointwise [k0_pay43, k0_pay41, k0_pay38]
  rw [In.dyp_apply]
  exact B.halves r l (fun k => k0_pay37 B.z4 (ix2 r k)) (fun k => k0_pay40 B.z5 (ix2 r k)) 2048 (by omega)
    (fun k => by rw [pay37_apply, sg_z4]) (fun k => by rw [pay40_apply, sg_z5])

/-- The gradients of the three activations: a product with the transposed weights. -/
theorem dcv_apply (r : Fin 256) (l : Fin 512) :
    k0_pay20 B.dm (k0_pay14 B.dy B.wo B.z0) B.z1 B.wc (ix2 r l) = I.dcv (ix2 (row r) l) := by
  have h : k0_pay20 B.dm (k0_pay14 B.dy B.wo B.z0) B.z1 B.wc (ix2 r l) = ∑ k, B.dyc (ix2 r k) * B.wc (ix2 l k) := by
    unfold dyc; generalize hD : k0_pay19 B.dm (k0_pay14 B.dy B.wo B.z0) B.z1 = D
    pointwise [k0_pay20, hD]
  rw [h, In.dcv_apply]; simp only [B.dyc_apply, B.hwc]
theorem dat_apply (r : Fin 256) (l : Fin 512) :
    k0_pay34 (k0_pay25 B.dm B.z2) (k0_pay29 B.dm B.z3) B.wa (ix2 r l) = I.dat (ix2 (row r) l) := by
  have h : k0_pay34 (k0_pay25 B.dm B.z2) (k0_pay29 B.dm B.z3) B.wa (ix2 r l) = ∑ k, B.dya (ix2 r k) * B.wa (ix2 l k) := by
    unfold dya; generalize hD : k0_pay33 (k0_pay25 B.dm B.z2) (k0_pay29 B.dm B.z3) = D
    pointwise [k0_pay34, hD]
  rw [h, In.dat_apply]; simp only [B.dya_apply, B.hwa]
theorem dpv_apply (r : Fin 256) (l : Fin 512) :
    k0_pay44 B.dm (k0_pay37 B.z4) (k0_pay38 B.dm) B.z5 B.wp (ix2 r l) = I.dpv (ix2 (row r) l) := by
  have h : k0_pay44 B.dm (k0_pay37 B.z4) (k0_pay38 B.dm) B.z5 B.wp (ix2 r l) = ∑ k, B.dyp (ix2 r k) * B.wp (ix2 l k) := by
    unfold dyp; generalize hD : k0_pay43 B.dm (k0_pay37 B.z4) (k0_pay38 B.dm) B.z5 = D
    pointwise [k0_pay44, hD]
  rw [h, In.dpv_apply]; simp only [B.dyp_apply, B.hwp]

/-- The gradients of the weights: what the block adds to each row of the accumulator. -/
theorem dwc_apply (acc : Vec Ideal S512x1024 .f32) (k : Fin 512) (l : Fin 1024) :
    k0_pay21 B.dm (k0_pay14 B.dy B.wo B.z0) B.z1 acc B.cv (ix2 k l)
      = acc (ix2 k l) + ∑ r, I.dyc (ix2 (row r) l) * I.cv (ix2 (row r) k) := by
  have h : k0_pay21 B.dm (k0_pay14 B.dy B.wo B.z0) B.z1 acc B.cv (ix2 k l) = acc (ix2 k l) + ∑ r, B.cv (ix2 r k) * B.dyc (ix2 r l) := by
    unfold dyc; generalize hD : k0_pay19 B.dm (k0_pay14 B.dy B.wo B.z0) B.z1 = D
    pointwise [k0_pay21, hD]
  rw [h]; simp only [B.dyc_apply, B.hcv]
  exact congrArg _ (Finset.sum_congr rfl fun r _ => mul_comm _ _)
theorem dwa_apply (acc : Vec Ideal S512x1024 .f32) (k : Fin 512) (l : Fin 1024) :
    k0_pay35 (k0_pay25 B.dm B.z2) (k0_pay29 B.dm B.z3) acc B.at' (ix2 k l)
      = acc (ix2 k l) + ∑ r, I.dya (ix2 (row r) l) * I.at' (ix2 (row r) k) := by
  have h : k0_pay35 (k0_pay25 B.dm B.z2) (k0_pay29 B.dm B.z3) acc B.at' (ix2 k l) = acc (ix2 k l) + ∑ r, B.at' (ix2 r k) * B.dya (ix2 r l) := by
    unfold dya; generalize hD : k0_pay33 (k0_pay25 B.dm B.z2) (k0_pay29 B.dm B.z3) = D
    pointwise [k0_pay35, hD]
  rw [h]; simp only [B.dya_apply, B.hat]
  exact congrArg _ (Finset.sum_congr rfl fun r _ => mul_comm _ _)
theorem dwp_apply (acc : Vec Ideal S512x1024 .f32) (k : Fin 512) (l : Fin 1024) :
    k0_pay1 (k0_pay43 B.dm (k0_pay37 B.z4) (k0_pay38 B.dm) B.z5) acc B.pv (ix2 k l)
      = acc (ix2 k l) + ∑ r, I.dyp (ix2 (row r) l) * I.pv (ix2 (row r) k) := by
  have h : k0_pay1 (k0_pay43 B.dm (k0_pay37 B.z4) (k0_pay38 B.dm) B.z5) acc B.pv (ix2 k l)
      = acc (ix2 k l) + ∑ r, B.pv (ix2 r k) * B.dyp (ix2 r l) := by
    unfold dyp; generalize hD : k0_pay43 B.dm (k0_pay37 B.z4) (k0_pay38 B.dm) B.z5 = D
    pointwise [k0_pay1]
  rw [h]; simp only [B.dyp_apply, B.hpv]
  exact congrArg _ (Finset.sum_congr rfl fun r _ => mul_comm _ _)
theorem dwo_apply (acc : Vec Ideal S1024x1024 .f32) (k : Fin 1024) (l : Fin 1024) :
    k0_pay9 B.dy acc B.mg (ix2 k l) = acc (ix2 k l) + ∑ r, I.dy (ix2 (row r) k) * I.merged (ix2 (row r) l) := by
  pointwise [k0_pay9]
  simp only [B.dy_apply, B.hmg]

/-- The gradient of the norm's weight: what the block adds. -/
theorem dg_apply (acc : Vec Ideal S1x1024 .f32) (l : Fin 1024) :
    k0_pay8 B.y B.d acc (ix2 0 l) = acc (ix2 0 l) + ∑ r, I.y (ix2 (row r) l) * I.rho (row r) * I.dout (ix2 (row r) l) := by
  pointwise [k0_pay8, k0_pay6, k0_pay5, k0_pay4]
  simp only [B.hy, B.hd, In.rho, mul_comm]

/-- The products with the three branch weights. -/
theorem yc_apply (r : Fin 256) (l : Fin 1024) : k0_pay11 B.cv B.wc (ix2 r l) = I.yc (ix2 (row r) l) := by
  pointwise [k0_pay11]; rw [In.yc_apply]; simp only [B.hcv, B.hwc]
theorem ya_apply (r : Fin 256) (l : Fin 1024) : k0_pay22 B.at' B.wa (ix2 r l) = I.ya (ix2 (row r) l) := by
  pointwise [k0_pay22]; rw [In.ya_apply]; simp only [B.hat, B.hwa]
theorem yp_apply (r : Fin 256) (l : Fin 1024) : k0_pay36 B.pv B.wp (ix2 r l) = I.yp (ix2 (row r) l) := by
  pointwise [k0_pay36]; rw [In.yp_apply]; simp only [B.hpv, B.hwp]

/-- The six blocks of the gate columns' gradient. -/
theorem gate0 (r : Fin 256) (l : Fin 512) : k0_pay15 B.dy B.wo B.cv B.wc B.z0 (ix3 0 r l) = I.dgm (ix2 (row r) ⟨0 + l.val, by omega⟩) := by
  have h : k0_pay15 B.dy B.wo B.cv B.wc B.z0 (ix3 0 r l) = B.dm (ix2 r ⟨l.val, by omega⟩) * k0_pay11 B.cv B.wc (ix2 r ⟨l.val, by omega⟩)
      * k0_pay12 B.z0 (ix2 r l) * (1 - k0_pay12 B.z0 (ix2 r l)) := by
    unfold dm; pointwise [k0_pay15, k0_pay13]
  rw [h, I.dgm_conv (row r) _ ⟨l.val, by omega⟩ (by simp), B.dm_apply, B.yc_apply, pay12_apply, B.sg_z0, mul_assoc (_ * _)]
theorem gate1 (r : Fin 256) (l : Fin 512) : k0_pay18 B.dm (k0_pay11 B.cv B.wc) B.z1 (ix3 0 r l) = I.dgm (ix2 (row r) ⟨512 + l.val, by omega⟩) := by
  have h : k0_pay18 B.dm (k0_pay11 B.cv B.wc) B.z1 (ix3 0 r l) = B.dm (ix2 r ⟨512 + l.val, by omega⟩) * k0_pay11 B.cv B.wc (ix2 r ⟨512 + l.val, by omega⟩)
      * k0_pay16 B.z1 (ix2 r l) * (1 - k0_pay16 B.z1 (ix2 r l)) := by
    pointwise [k0_pay18, k0_pay17]
  rw [h, I.dgm_conv (row r) _ ⟨512 + l.val, by omega⟩ (by simp <;> omega), B.dm_apply, B.yc_apply, pay16_apply, B.sg_z1, mul_assoc (_ * _)]
theorem gate2 (r : Fin 256) (l : Fin 512) : k0_pay26 B.dm B.at' B.wa B.z2 (ix3 0 r l) = I.dgm (ix2 (row r) ⟨1024 + l.val, by omega⟩) := by
  have h : k0_pay26 B.dm B.at' B.wa B.z2 (ix3 0 r l) = B.dm (ix2 r ⟨l.val, by omega⟩) * k0_pay22 B.at' B.wa (ix2 r ⟨l.val, by omega⟩)
      * k0_pay23 B.z2 (ix2 r l) * (1 - k0_pay23 B.z2 (ix2 r l)) := by
    pointwise [k0_pay26, k0_pay24]
  rw [h, I.dgm_attn (row r) _ ⟨l.val, by omega⟩ (by simp <;> omega), B.dm_apply, B.ya_apply, pay23_apply, B.sg_z2, mul_assoc (_ * _)]
theorem gate3 (r : Fin 256) (l : Fin 512) : k0_pay32 (k0_pay27 B.z3) (k0_pay30 B.dm B.at' B.wa B.z3) k0_pay31 (ix3 0 r l) = I.dgm (ix2 (row r) ⟨1536 + l.val, by omega⟩) := by
  have h : k0_pay32 (k0_pay27 B.z3) (k0_pay30 B.dm B.at' B.wa B.z3) k0_pay31 (ix3 0 r l) = B.dm (ix2 r ⟨512 + l.val, by omega⟩) * k0_pay22 B.at' B.wa (ix2 r ⟨512 + l.val, by omega⟩)
      * k0_pay27 B.z3 (ix2 r l) * (1 - k0_pay27 B.z3 (ix2 r l)) := by
    pointwise [k0_pay32, k0_pay31, k0_pay30, k0_pay28]
  rw [h, I.dgm_attn (row r) _ ⟨512 + l.val, by omega⟩ (by simp <;> omega), B.dm_apply, B.ya_apply, pay27_apply, B.sg_z3, mul_assoc (_ * _)]
theorem gate4 (r : Fin 256) (l : Fin 512) : k0_pay39 (k0_pay36 B.pv B.wp) (k0_pay37 B.z4) (k0_pay38 B.dm) (ix3 0 r l) = I.dgm (ix2 (row r) ⟨2048 + l.val, by omega⟩) := by
  have h : k0_pay39 (k0_pay36 B.pv B.wp) (k0_pay37 B.z4) (k0_pay38 B.dm) (ix3 0 r l) = B.dm (ix2 r ⟨l.val, by omega⟩) * k0_pay36 B.pv B.wp (ix2 r ⟨l.val, by omega⟩)
      * k0_pay37 B.z4 (ix2 r l) * (1 - k0_pay37 B.z4 (ix2 r l)) := by
    pointwise [k0_pay39, k0_pay38]
  rw [h, I.dgm_pool (row r) _ ⟨l.val, by omega⟩ (by simp <;> omega), B.dm_apply, B.yp_apply, pay37_apply, B.sg_z4, mul_assoc (_ * _)]
theorem gate5 (r : Fin 256) (l : Fin 512) : k0_pay42 B.dm (k0_pay36 B.pv B.wp) B.z5 (ix3 0 r l) = I.dgm (ix2 (row r) ⟨2560 + l.val, by omega⟩) := by
  have h : k0_pay42 B.dm (k0_pay36 B.pv B.wp) B.z5 (ix3 0 r l) = B.dm (ix2 r ⟨512 + l.val, by omega⟩) * k0_pay36 B.pv B.wp (ix2 r ⟨512 + l.val, by omega⟩)
      * k0_pay40 B.z5 (ix2 r l) * (1 - k0_pay40 B.z5 (ix2 r l)) := by
    pointwise [k0_pay42, k0_pay41]
  rw [h, I.dgm_pool (row r) _ ⟨512 + l.val, by omega⟩ (by simp <;> omega), B.dm_apply, B.yp_apply, pay40_apply, B.sg_z5, mul_assoc (_ * _)]

end Blk
end Cert.Tail
-- ==== Proof.TailEntry.lean ====
module

public import proofs.«01_k».proof.Proof.Gen.KernelIdeal.Frame
public import proofs.«01_k».proof.Proof.TailBlock
public import Idealize.ShloMosaic.Lib.Pipeline.ValueKit

/-! # The blocks of each grid point of the gradient of the gated merge

Grid point `t` is given rows `256 t …` of the arrays that are cut by rows, and the weights whole. -/

@[expose] public section

set_option maxRecDepth 16384

noncomputable section

open Idealize.ShloMosaic Idealize.ShloMosaic.TcCoe Idealize.SL.Sem
open Idealize.ShloMosaic.Pipeline (Dat)

namespace Cert.Tail
open Cert.KernelIdeal Cert.KernelIdeal.Gen
variable (m : (ℓ : Loc nD τ sig) → Buf (Elt Ideal) ℓ) (c : Dev nD)

/-- The arrays the program is given. -/
def inp : In where
  dout := m ((c : Thread nD τ).loc main_arg0)
  cv := m ((c : Thread nD τ).loc main_arg1)
  at' := m ((c : Thread nD τ).loc main_arg2)
  pv := m ((c : Thread nD τ).loc main_arg3)
  z := m ((c : Thread nD τ).loc main_arg4)
  wc := m ((c : Thread nD τ).loc main_arg5)
  wa := m ((c : Thread nD τ).loc main_arg6)
  wp := m ((c : Thread nD τ).loc main_arg7)
  wo := m ((c : Thread nD τ).loc main_arg8)
  g := m ((c : Thread nD τ).loc main_arg9)

theorem pt_lt (t : Fin cfg0.N) : t.val < 32 := t.isLt

/-- Row `r` of point `t`'s block. -/
def rowAt (t : Fin cfg0.N) (r : Fin 256) : Fin 8192 := ⟨t.val * 256 + r.val, by have := pt_lt t; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 3]
    ∧ win0_7.index t = ![t.val, 4] ∧ win0_8.index t = ![0, 0] ∧ win0_9.index t = ![0, 0] ∧ win0_10.index t = ![0, 0]
    ∧ win0_11.index t = ![0, 0] ∧ win0_12.index t = ![0, 0] ∧ win0_13.index t = ![2, t.val, 0] ∧ win0_14.index t = ![t.val, 0]
    ∧ win0_15.index t = ![t.val, 0] ∧ win0_16.index t = ![t.val, 0] ∧ win0_17.index t = ![0, 0] ∧ win0_18.index t = ![0, 0] :=
  (by decide +kernel : ∀ t : Fin grid0.N, _)

/-- The two arrays the host computes before the kernel runs are the reference's own. -/
theorem V_y : V m c main_v22 = (inp m c).y := by
  unfold V; after_results; try rfl
theorem V_merged : V m c main_v28 = (inp m c).merged := by
  unfold V; after_results; try rfl

theorem V_cv : V m c main_v29 = (inp m c).cv := by
  unfold V; after_results; rfl
theorem V_at : V m c main_v30 = (inp m c).at' := by
  unfold V; after_results; rfl
theorem V_pv : V m c main_v31 = (inp m c).pv := by
  unfold V; after_results; rfl
theorem V_wc : V m c main_v23 = (inp m c).wc := by
  unfold V; after_results; rfl
theorem V_wa : V m c main_v24 = (inp m c).wa := by
  unfold V; after_results; rfl
theorem V_wp : V m c main_v25 = (inp m c).wp := by
  unfold V; after_results; rfl
theorem V_wo : V m c main_v26 = (inp m c).wo := by
  unfold V; after_results; rfl
theorem V_g (l : Fin 1024) : V m c main_v27 (ix2 0 l) = (inp m c).g (ix1 l) := by
  unfold V; after_results; pointwise; rfl

set_option maxHeartbeats 1600000 in
/-- Grid point `t`'s blocks, with what each of them holds. -/
def blk (t : Fin cfg0.N) : Blk (inp m c) (rowAt t) where
  d := iblk m c 0 t
  y := iblk m c 1 t
  mg := iblk m c 2 t
  cv := iblk m c 3 t
  at' := iblk m c 4 t
  pv := iblk m c 5 t
  za := iblk m c 6 t
  zb := iblk m c 7 t
  wc := iblk m c 8 t
  wa := iblk m c 9 t
  wp := iblk m c 10 t
  wo := iblk m c 11 t
  g := iblk m c 12 t
  hd r l := by unfold rowAt inp; blk_ext [iblk, V, idx t]
  hy r l := by
    rw [← V_y]; unfold rowAt; blk_ext [iblk, idx t]
  hmg r l := by
    rw [← V_merged]; unfold rowAt; blk_ext [iblk, idx t]
  hcv r l := by
    rw [← V_cv]; unfold rowAt; blk_ext [iblk, idx t]
  hat r l := by
    rw [← V_at]; unfold rowAt; blk_ext [iblk, idx t]
  hpv r l := by
    rw [← V_pv]; unfold rowAt; blk_ext [iblk, idx t]
  hza r l := by unfold rowAt inp; blk_ext [iblk, V, idx t]
  hzb r l := by unfold rowAt inp; blk_ext [iblk, V, idx t]
  hwc k l := by
    rw [← V_wc]; blk_ext [iblk, idx t]
  hwa k l := by
    rw [← V_wa]; blk_ext [iblk, idx t]
  hwp k l := by
    rw [← V_wp]; blk_ext [iblk, idx t]
  hwo k l := by
    rw [← V_wo]; blk_ext [iblk, idx t]
  hg l := by
    rw [← V_g]; blk_ext [iblk, idx t]

end Cert.Tail
-- ==== Proof.TailPieces.lean ====
module

public import proofs.«01_k».proof.Proof.TailBlock

/-! # What a block adds to the stacked gradients of the weights

The rows of the stacked gradient are those of the four weights, one weight after another. -/

@[expose] public section

set_option maxRecDepth 16384

noncomputable section

open Idealize.ShloMosaic Idealize.ShloMosaic.TcCoe Idealize.SL.Sem
open Idealize.ShloMosaic.Pipeline (Dat)

namespace Cert.Tail
open Cert.KernelIdeal Cert.KernelIdeal.Gen

/-- Token `n`'s product in row `q` and column `l` of the stacked weight gradients. -/
def In.dwP (I : In) (n : Fin 8192) (q : Fin 2560) (l : Fin 1024) : EReal :=
  if h : q.val < 512 then I.dyc (ix2 n l) * I.cv (ix2 n ⟨q.val, h⟩)
  else if h : q.val - 512 < 512 then I.dya (ix2 n l) * I.at' (ix2 n ⟨q.val - 512, h⟩)
  else if h : q.val - 1024 < 512 then I.dyp (ix2 n l) * I.pv (ix2 n ⟨q.val - 1024, h⟩)
  else I.dy (ix2 n ⟨q.val - 1536, by omega⟩) * I.merged (ix2 n l)

theorem In.dwP_conv (I : In) (n : Fin 8192) (q : Fin 2560) (l : Fin 1024) (k : Fin 512) (hq : q.val = k.val) :
    I.dwP n q l = I.dyc (ix2 n l) * I.cv (ix2 n k) := by
  obtain ⟨q, hq'⟩ := q; obtain rfl : q = k.val := hq
  have h0 : k.val < 512 := k.isLt
  unfold In.dwP; simp only [dif_pos h0]
theorem In.dwP_attn (I : In) (n : Fin 8192) (q : Fin 2560) (l : Fin 1024) (k : Fin 512) (hq : q.val = 512 + k.val) :
    I.dwP n q l = I.dya (ix2 n l) * I.at' (ix2 n k) := by
  have h0 : ¬q.val < 512 := by omega
  have h1 : q.val - 512 < 512 := by omega
  unfold In.dwP; simp only [dif_neg h0, dif_pos h1]
  have e : (⟨q.val - 512, h1⟩ : Fin 512) = k := Fin.ext (by simp only; omega)
  rw [e]
theorem In.dwP_pool (I : In) (n : Fin 8192) (q : Fin 2560) (l : Fin 1024) (k : Fin 512) (hq : q.val = 1024 + k.val) :
    I.dwP n q l = I.dyp (ix2 n l) * I.pv (ix2 n k) := by
  have h0 : ¬q.val < 512 := by omega
  have h1 : ¬q.val - 512 < 512 := by omega
  have h2 : q.val - 1024 < 512 := by omega
  unfold In.dwP; simp only [dif_neg h0, dif_neg h1, dif_pos h2]
  have e : (⟨q.val - 1024, h2⟩ : Fin 512) = k := Fin.ext (by simp only; omega)
  rw [e]
theorem In.dwP_out (I : In) (n : Fin 8192) (q : Fin 2560) (l : Fin 1024) (k : Fin 1024) (hq : q.val = 1536 + k.val) :
    I.dwP n q l = I.dy (ix2 n k) * I.merged (ix2 n l) := by
  have h0 : ¬q.val < 512 := by omega
  have h1 : ¬q.val - 512 < 512 := by omega
  have h2 : ¬q.val - 1024 < 512 := by omega
  unfold In.dwP; simp only [dif_neg h0, dif_neg h1, dif_neg h2]
  have e : (⟨q.val - 1536, by omega⟩ : Fin 1024) = k := Fin.ext (by simp only; omega)
  rw [e]

/-- The stacked weight gradients are the sums of these products over the tokens. -/
theorem In.dw_apply (I : In) (q : Fin 2560) (l : Fin 1024) : I.dw (ix2 q l) = ∑ n, I.dwP n q l := by
  by_cases h0 : q.val < 512
  · have e : q = ⟨(⟨q.val, h0⟩ : Fin 512).val, by omega⟩ := rfl
    simp only [I.dwP_conv _ q l ⟨q.val, h0⟩ rfl]
    exact I.dw_conv ⟨q.val, h0⟩ l
  by_cases h1 : q.val < 1024
  · have e : q = ⟨512 + (⟨q.val - 512, by omega⟩ : Fin 512).val, by simp only; omega⟩ := Fin.ext (by simp only; omega)
    simp only [I.dwP_attn _ q l ⟨q.val - 512, by omega⟩ (by simp only; omega)]
    rw [← I.dw_attn ⟨q.val - 512, by omega⟩ l]; exact congrArg (fun q => I.dw (ix2 q l)) e
  by_cases h2 : q.val < 1536
  · have e : q = ⟨1024 + (⟨q.val - 1024, by omega⟩ : Fin 512).val, by simp only; omega⟩ := Fin.ext (by simp only; omega)
    simp only [I.dwP_pool _ q l ⟨q.val - 1024, by omega⟩ (by simp only; omega)]
    rw [← I.dw_pool ⟨q.val - 1024, by omega⟩ l]; exact congrArg (fun q => I.dw (ix2 q l)) e
  · have e : q = ⟨1536 + (⟨q.val - 1536, by omega⟩ : Fin 1024).val, by simp only; omega⟩ := Fin.ext (by simp only; omega)
    simp only [I.dwP_out _ q l ⟨q.val - 1536, by omega⟩ (by simp only; omega)]
    rw [← I.dw_out ⟨q.val - 1536, by omega⟩ l]; exact congrArg (fun q => I.dw (ix2 q l)) e

namespace Blk
variable {I : In} {row : Fin 256 → Fin 8192} (B : Blk I row)

/-- The four pieces a block stores: what was there, plus the products of its tokens. -/
theorem piece_conv (acc : Vec Ideal S512x1024 .f32) (x : S512x1024.Idx) (q : Fin 2560) (l : Fin 1024) (hq : q.val = 0 + (x 0).val)
    (hl : l.val = (x 1).val) : k0_pay21 B.dm (k0_pay14 B.dy B.wo B.z0) B.z1 acc B.cv x = acc x + ∑ r, I.dwP (row r) q l := by
  idx_vars x
  obtain rfl : l = x1 := Fin.ext hl
  simp only [I.dwP_conv _ q l x0 (hq.trans (Nat.zero_add _))]
  exact B.dwc_apply acc x0 l
theorem piece_attn (acc : Vec Ideal S512x1024 .f32) (x : S512x1024.Idx) (q : Fin 2560) (l : Fin 1024) (hq : q.val = 512 + (x 0).val)
    (hl : l.val = (x 1).val) : k0_pay35 (k0_pay25 B.dm B.z2) (k0_pay29 B.dm B.z3) acc B.at' x = acc x + ∑ r, I.dwP (row r) q l := by
  idx_vars x
  obtain rfl : l = x1 := Fin.ext hl
  simp only [I.dwP_attn _ q l x0 hq]
  exact B.dwa_apply acc x0 l
theorem piece_pool (acc : Vec Ideal S512x1024 .f32) (x : S512x1024.Idx) (q : Fin 2560) (l : Fin 1024) (hq : q.val = 1024 + (x 0).val)
    (hl : l.val = (x 1).val) :
    k0_pay1 (k0_pay43 B.dm (k0_pay37 B.z4) (k0_pay38 B.dm) B.z5) acc B.pv x = acc x + ∑ r, I.dwP (row r) q l := by
  idx_vars x
  obtain rfl : l = x1 := Fin.ext hl
  simp only [I.dwP_pool _ q l x0 hq]
  exact B.dwp_apply acc x0 l
theorem piece_out (acc : Vec Ideal S1024x1024 .f32) (x : S1024x1024.Idx) (q : Fin 2560) (l : Fin 1024) (hq : q.val = 1536 + (x 0).val)
    (hl : l.val = (x 1).val) : k0_pay9 B.dy acc B.mg x = acc x + ∑ r, I.dwP (row r) q l := by
  idx_vars x
  obtain rfl : l = x1 := Fin.ext hl
  simp only [I.dwP_out _ q l x0 hq]
  exact B.dwo_apply acc x0 l

/-- A piece of the gates' gradient is the gradient at the block's rows. -/
theorem piece_gate (P : Vec Ideal S1x256x512 .bf16) (k : ℕ) (hk : k < 6)
    (hP : ∀ (r : Fin 256) (l : Fin 512), P (ix3 0 r l) = I.dgm (ix2 (row r) ⟨k * 512 + l.val, by omega⟩))
    (x : S1x256x512.Idx) (b : Fin 6) (r : Fin 256) (l : Fin 512) (h0 : b.val = k + (x 0).val) (h1 : r.val = (x 1).val) (h2 : l.val = (x 2).val) :
    P x = I.dgm (ix2 (row r) ⟨b.val * 512 + l.val, by omega⟩) := by
  idx_vars x
  obtain rfl : r = x1 := Fin.ext h1
  obtain rfl : l = x2 := Fin.ext h2
  obtain rfl : x0 = 0 := Subsingleton.elim _ _
  obtain rfl : b = ⟨k, hk⟩ := Fin.ext h0
  exact hP r l
end Blk
end Cert.Tail
-- ==== Proof.TailArrays.lean ====
module

public import proofs.«01_k».proof.Proof.TailEntry
public import proofs.«01_k».proof.Proof.TailPieces
public import Idealize.ShloMosaic.Lib.Pipeline.ReadBack

/-! # The arrays the gradient of the gated merge ends with -/

@[expose] public section

set_option maxRecDepth 16384

noncomputable section

open Idealize.ShloMosaic Idealize.ShloMosaic.TcCoe Idealize.SL.Sem
open Idealize.ShloMosaic.Pipeline (Dat)

namespace Cert.Tail
open Cert.KernelIdeal Cert.KernelIdeal.Gen
variable (m : (ℓ : Loc nD τ sig) → Buf (Elt Ideal) ℓ) (c : Dev nD)

set_option maxHeartbeats 1600000 in
theorem point14 (t : Fin cfg0.N) (r : Fin 256) (l : Fin 512) :
    (outsAt0 m c t.val t.isLt).2.1 (ix2 r l) = (inp m c).dcv (ix2 (rowAt t r) l) := by
  refine Eq.trans ?_ ((blk m c t).dcv_apply r l)
  by_cases h : t.val % 32 = 0
  · rw [outsAt0_A m c t h]; frame_out; rfl
  · rw [outsAt0_B m c t h]; frame_out; rfl

theorem out14 : (dats m 0 c).arrAt 14 cfg0.N = (inp m c).dcv := by
  refine (dats m 0 c).arrAt_eq_of_covers 14 _ (by decide +kernel) fun t _ y => ?_
  blk_simp [idx t]; rw [after0_14]
  idx_vars y
  refine (point14 m c t y0 y1).trans ?_
  unfold rowAt; blk_ext [idx t]

set_option maxHeartbeats 1600000 in
theorem point15 (t : Fin cfg0.N) (r : Fin 256) (l : Fin 512) :
    (outsAt0 m c t.val t.isLt).2.2.1 (ix2 r l) = (inp m c).dat (ix2 (rowAt t r) l) := by
  refine Eq.trans ?_ ((blk m c t).dat_apply r l)
  by_cases h : t.val % 32 = 0
  · rw [outsAt0_A m c t h]; frame_out; rfl
  · rw [outsAt0_B m c t h]; frame_out; rfl

theorem out15 : (dats m 0 c).arrAt 15 cfg0.N = (inp m c).dat := by
  refine (dats m 0 c).arrAt_eq_of_covers 15 _ (by decide +kernel) fun t _ y => ?_
  blk_simp [idx t]; rw [after0_15]
  idx_vars y
  refine (point15 m c t y0 y1).trans ?_
  unfold rowAt; blk_ext [idx t]

set_option maxHeartbeats 1600000 in
theorem point16 (t : Fin cfg0.N) (r : Fin 256) (l : Fin 512) :
    (outsAt0 m c t.val t.isLt).2.2.2.1 (ix2 r l) = (inp m c).dpv (ix2 (rowAt t r) l) := by
  refine Eq.trans ?_ ((blk m c t).dpv_apply r l)
  by_cases h : t.val % 32 = 0
  · rw [outsAt0_A m c t h]; frame_out; rfl
  · rw [outsAt0_B m c t h]; frame_out; rfl

theorem out16 : (dats m 0 c).arrAt 16 cfg0.N = (inp m c).dpv := by
  refine (dats m 0 c).arrAt_eq_of_covers 16 _ (by decide +kernel) fun t _ y => ?_
  blk_simp [idx t]; rw [after0_16]
  idx_vars y
  refine (point16 m c t y0 y1).trans ?_
  unfold rowAt; blk_ext [idx t]

set_option maxHeartbeats 1600000 in
/-- The gates' gradient: six pieces a point. -/
theorem point13_first (t : Fin cfg0.N) (h : t.val % 32 = 0) (b : Fin 6) (r : Fin 256) (l : Fin 512) :
    (outsAt0 m c t.val t.isLt).1 (ix3 b r l) = (inp m c).dgm (ix2 (rowAt t r) ⟨b.val * 512 + l.val, by omega⟩) := by
  rw [outsAt0_A m c t h]; frame_out
  canon_tiles x h
  · exact Blk.piece_gate _ 5 (by decide) (blk m c t).gate5 x b r l h0 h1 h2
  · exact Blk.piece_gate _ 4 (by decide) (blk m c t).gate4 x b r l h0 h1 h2
  · exact Blk.piece_gate _ 3 (by decide) (blk m c t).gate3 x b r l h0 h1 h2
  · exact Blk.piece_gate _ 2 (by decide) (blk m c t).gate2 x b r l h0 h1 h2
  · exact Blk.piece_gate _ 1 (by decide) (blk m c t).gate1 x b r l h0 h1 h2
  · exact Blk.piece_gate _ 0 (by decide) (blk m c t).gate0 x b r l (h0.trans (Nat.zero_add _).symm) h1 h2

set_option maxHeartbeats 1600000 in
theorem point13_later (t : Fin cfg0.N) (h : ¬t.val % 32 = 0) (b : Fin 6) (r : Fin 256) (l : Fin 512) :
    (outsAt0 m c t.val t.isLt).1 (ix3 b r l) = (inp m c).dgm (ix2 (rowAt t r) ⟨b.val * 512 + l.val, by omega⟩) := by
  rw [outsAt0_B m c t h]; frame_out
  canon_tiles x h
  · exact Blk.piece_gate _ 5 (by decide) (blk m c t).gate5 x b r l h0 h1 h2
  · exact Blk.piece_gate _ 4 (by decide) (blk m c t).gate4 x b r l h0 h1 h2
  · exact Blk.piece_gate _ 3 (by decide) (blk m c t).gate3 x b r l h0 h1 h2
  · exact Blk.piece_gate _ 2 (by decide) (blk m c t).gate2 x b r l h0 h1 h2
  · exact Blk.piece_gate _ 1 (by decide) (blk m c t).gate1 x b r l h0 h1 h2
  · exact Blk.piece_gate _ 0 (by decide) (blk m c t).gate0 x b r l (h0.trans (Nat.zero_add _).symm) h1 h2

theorem point13 (t : Fin cfg0.N) (b : Fin 6) (r : Fin 256) (l : Fin 512) :
    (outsAt0 m c t.val t.isLt).1 (ix3 b r l) = (inp m c).dgm (ix2 (rowAt t r) ⟨b.val * 512 + l.val, by omega⟩) := by
  by_cases h : t.val % 32 = 0
  · exact point13_first m c t h b r l
  · exact point13_later m c t h b r l

theorem out13 : (dats m 0 c).arrAt 13 cfg0.N
    = fun i => if 2 * 6 ≤ (i 0 : ℕ) then (inp m c).dz i else V m c main_v32_0 i := by
  refine (dats m 0 c).arrAt_eq_of_coversWhere 13 _ (fun β => 2 ≤ β 0) (by decide +kernel) (fun t hf y => ?_)
    (fun j => by blk_simp [Pipeline.Window.cell_apply]; omega)
  blk_simp [idx t]; rw [after0_13]
  idx_vars y
  refine (point13 m c t y0 y1 y2).trans (((inp m c).dz_apply y0 (rowAt t y1) y2).symm.trans ?_)
  unfold rowAt; blk_ext [idx t]

end Cert.Tail
-- ==== Proof.TailSums.lean ====
module

public import proofs.«01_k».proof.Proof.TailEntry
public import proofs.«01_k».proof.Proof.TailPieces
public import Idealize.ShloMosaic.Lib.Pipeline.ReadBack

/-! # The two sums over the tokens: the gradients of the norm's weight and of the four weights

Each is kept in one block through all grid points, set to zero at the first and written back after the last. -/

@[expose] public section

set_option maxRecDepth 16384

noncomputable section

open Idealize.ShloMosaic Idealize.ShloMosaic.TcCoe Idealize.SL.Sem
open Idealize.ShloMosaic.Pipeline (Dat)

namespace Cert.Tail
open Cert.KernelIdeal Cert.KernelIdeal.Gen
variable (m : (ℓ : Loc nD τ sig) → Buf (Elt Ideal) ℓ) (c : Dev nD)

theorem zero_row (l : Fin 1024) : k0_pay2 (F := Ideal) (ix2 0 l) = 0 := by
  pointwise [k0_pay2]
theorem zero_dw (i : S2560x1024.Idx) : k0_pay3 (F := Ideal) i = 0 := by
  idx_vars i; pointwise [k0_pay3]

/-- What one token adds to the gradient of the norm's weight. -/
def dgP (n : Fin 8192) (l : Fin 1024) : EReal := (inp m c).y (ix2 n l) * (inp m c).rho n * (inp m c).dout (ix2 n l)

/-- The tokens of all points are the tokens. -/
theorem sum_points (f : Fin 8192 → EReal) (t : Fin cfg0.N) (h : t.val % 32 = 32 - 1) :
    ∑ s : Fin 32, ∑ r, f (rowAt ⟨32 * (t.val / 32) + s.val, Pipeline.run_point_lt_of_flush t h s⟩ r) = ∑ n, f n := by
  have ht := pt_lt t
  refine Fin.sum_mul_add_congr fun s r hl => ?_
  refine congrArg f (Fin.ext ?_)
  unfold rowAt; simp only; omega

set_option maxHeartbeats 1600000 in
theorem point17 (t : Fin cfg0.N) (hr : t.val % 32 = 32 - 1) (l : Fin 1024) :
    (outsAt0 m c t.val t.isLt).2.2.2.2.1 (ix2 0 l) = 0 + ∑ s : Fin 32, ∑ r, dgP m c (rowAt ⟨32 * (t.val / 32) + s.val, Pipeline.run_point_lt_of_flush t hr s⟩ r) l := by
  refine Pipeline.eq_sum_fin_of_reset_step_apply_of_flush (fun n h (l : Fin 1024) => (outsAt0 m c n h).2.2.2.2.1 (ix2 0 l)) 32 (fun _ => 0)
    (fun t l => ∑ r, dgP m c (rowAt t r) l)
    (fun t h l => ?_) (fun t h l => ?_) t hr l
  · rw [outsAt0_A m c t h]; frame_out
    exact ((blk m c t).dg_apply _ l).trans (congrArg (· + _) (zero_row l))
  · rw [outsAt0_B m c t h]; frame_out
    exact (blk m c t).dg_apply _ l

theorem out17 : (dats m 0 c).arrAt 17 cfg0.N = (inp m c).dg := by
  refine (dats m 0 c).arrAt_eq_of_covers 17 _ (by decide +kernel) fun t hf y => ?_
  have hr := (flush0_17 t).mp hf
  blk_simp [idx t]; rw [after0_17]
  idx_vars y
  obtain rfl : y0 = 0 := Subsingleton.elim _ _
  refine (point17 m c t hr y1).trans ?_
  rw [zero_add, sum_points (fun n => dgP m c n y1) t hr]
  refine ((inp m c).dg_apply y1).symm.trans ?_
  blk_ext [idx t]

/-- The stacked weight gradients once a point has added its tokens to what was there. -/
def grown (acc : Vec Ideal S2560x1024 .f32) (t : Fin cfg0.N) (i : S2560x1024.Idx) : EReal :=
  acc i + ∑ r, (inp m c).dwP (rowAt t r) (i 0) (i 1)

/-- The four pieces a point stores, each read at its place in the stack. -/
theorem stored_conv (acc : Vec Ideal S2560x1024 .f32) (t : Fin cfg0.N) (inb) (x : S512x1024.Idx) :
    k0_pay21 (blk m c t).dm (k0_pay14 (blk m c t).dy (blk m c t).wo (blk m c t).z0) (blk m c t).z1
        (View.ld acc (Rect.unit (s := S2560x1024) ![0, 0] ![512, 1024] inb)) (blk m c t).cv x
      = grown m c acc t ((Rect.unit (s := S2560x1024) ![0, 0] ![512, 1024] inb).emb x) :=
  (blk m c t).piece_conv _ x _ _ (ValueKit.rect_emb_unit_val _ _ _ _ 0) ((ValueKit.rect_emb_unit_val _ _ _ _ 1).trans (Nat.zero_add _))
theorem stored_attn (acc : Vec Ideal S2560x1024 .f32) (t : Fin cfg0.N) (inb) (x : S512x1024.Idx) :
    k0_pay35 (k0_pay25 (blk m c t).dm (blk m c t).z2) (k0_pay29 (blk m c t).dm (blk m c t).z3)
        (View.ld acc (Rect.unit (s := S2560x1024) ![512, 0] ![512, 1024] inb)) (blk m c t).at' x
      = grown m c acc t ((Rect.unit (s := S2560x1024) ![512, 0] ![512, 1024] inb).emb x) :=
  (blk m c t).piece_attn _ x _ _ (ValueKit.rect_emb_unit_val _ _ _ _ 0) ((ValueKit.rect_emb_unit_val _ _ _ _ 1).trans (Nat.zero_add _))
theorem stored_pool (acc : Vec Ideal S2560x1024 .f32) (t : Fin cfg0.N) (inb) (x : S512x1024.Idx) :
    k0_pay1 (k0_pay43 (blk m c t).dm (k0_pay37 (blk m c t).z4) (k0_pay38 (blk m c t).dm) (blk m c t).z5)
        (View.ld acc (Rect.unit (s := S2560x1024) ![1024, 0] ![512, 1024] inb)) (blk m c t).pv x
      = grown m c acc t ((Rect.unit (s := S2560x1024) ![1024, 0] ![512, 1024] inb).emb x) :=
  (blk m c t).piece_pool _ x _ _ (ValueKit.rect_emb_unit_val _ _ _ _ 0) ((ValueKit.rect_emb_unit_val _ _ _ _ 1).trans (Nat.zero_add _))
theorem stored_out (acc : Vec Ideal S2560x1024 .f32) (t : Fin cfg0.N) (inb) (x : S1024x1024.Idx) :
    k0_pay9 (blk m c t).dy (View.ld acc (Rect.unit (s := S2560x1024) ![1536, 0] ![1024, 1024] inb)) (blk m c t).mg x
      = grown m c acc t ((Rect.unit (s := S2560x1024) ![1536, 0] ![1024, 1024] inb).emb x) :=
  (blk m c t).piece_out _ x _ _ (ValueKit.rect_emb_unit_val _ _ _ _ 0) ((ValueKit.rect_emb_unit_val _ _ _ _ 1).trans (Nat.zero_add _))

set_option maxHeartbeats 1600000 in
/-- A point after the first adds its tokens to what the point before left. -/
theorem step18 (t : Fin cfg0.N) (h : ¬t.val % 32 = 0) (i : S2560x1024.Idx) :
    (outsAt0 m c t.val t.isLt).2.2.2.2.2 i
      = grown m c (outsAt0 m c (t.val - 1) (Nat.lt_of_le_of_lt (Nat.sub_le _ _) t.isLt)).2.2.2.2.2 t i := by
  rw [outsAt0_B m c t h]; frame_out
  refine View.canon_append_of_piecesOf (Val := Elt Ideal) (e := .f32) (grown m c _ t) [] [_, _, _, _]
    ⟨stored_pool m c _ t _, stored_attn m c _ t _, stored_conv m c _ t _, stored_out m c _ t _, trivial⟩ i ?_
  exact View.cover_of_tiledBy _ ![512, 1024] (by sl_kernel_rfl) i

set_option maxHeartbeats 1600000 in
/-- The first point sets the block to zero and adds its tokens. -/
theorem first18 (t : Fin cfg0.N) (h : t.val % 32 = 0) (i : S2560x1024.Idx) :
    (outsAt0 m c t.val t.isLt).2.2.2.2.2 i = grown m c (k0_pay3 (F := Ideal)) t i := by
  rw [outsAt0_A m c t h]; frame_open
  simp (disch := decide) only [↓ View.readCov_skip, ↓ View.readCov_cons_toLoadRect, ↓ View.readCov_fill]
  frame_out
  refine View.canon_append_of_piecesOf (Val := Elt Ideal) (e := .f32) (grown m c _ t) [_] [_, _, _, _]
    ⟨stored_pool m c _ t _, stored_attn m c _ t _, stored_conv m c _ t _, stored_out m c _ t _, trivial⟩ i ?_
  exact View.cover_of_tiledBy _ ![512, 1024] (by sl_kernel_rfl) i

theorem point18 (t : Fin cfg0.N) (hr : t.val % 32 = 32 - 1) (q : Fin 2560) (l : Fin 1024) :
    (outsAt0 m c t.val t.isLt).2.2.2.2.2 (ix2 q l)
      = 0 + ∑ s : Fin 32, ∑ r, (inp m c).dwP (rowAt ⟨32 * (t.val / 32) + s.val, Pipeline.run_point_lt_of_flush t hr s⟩ r) q l := by
  refine Pipeline.eq_sum_fin_of_reset_step_apply_of_flush
    (fun n h (p : Fin 2560 × Fin 1024) => (outsAt0 m c n h).2.2.2.2.2 (ix2 p.1 p.2)) 32 (fun _ => 0)
    (fun t p => ∑ r, (inp m c).dwP (rowAt t r) p.1 p.2) (fun t h p => ?_) (fun t h p => ?_) t hr (q, l)
  · exact (first18 m c t h _).trans (congrArg (· + _) (zero_dw _))
  · exact step18 m c t h _

theorem out18 : (dats m 0 c).arrAt 18 cfg0.N = (inp m c).dw := by
  refine (dats m 0 c).arrAt_eq_of_covers 18 _ (by decide +kernel) fun t hf y => ?_
  have hr := (flush0_18 t).mp hf
  blk_simp [idx t]; rw [after0_18]
  idx_vars y
  refine (point18 m c t hr y0 y1).trans ?_
  rw [zero_add, sum_points (fun n => (inp m c).dwP n y0 y1) t hr]
  refine ((inp m c).dw_apply y0 y1).symm.trans ?_
  blk_ext [idx t]

end Cert.Tail
-- ==== Proof.TailClaim.lean ====
module

public import proofs.«01_k».proof.Defs
public import proofs.«01_k».proof.Proof.TailArrays
public import proofs.«01_k».proof.Proof.TailSums
public import proofs.«01_k».proof.Proof.Gen.Kernel.Frame
public import proofs.«01_k».proof.Proof.Gen.On_gates_written
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent

/-! # The claims about the gradient of the gated merge -/

@[expose] public section

set_option maxRecDepth 16384

noncomputable section

open Idealize.ShloMosaic Idealize.ShloMosaic.TcCoe Idealize.SL.Sem
open Idealize.ShloMosaic.Pipeline (Dat)

/-- The mask of the first result: its blocks from the twelfth on. -/
theorem Cert.On_gates_written.fn_gates [Facts] {x0 x1 x2 x3 x4 x5 x6 x7 x8 x9} (i : S18x8192x512.Idx)
    (h : (fn (F := Ideal) x0 x1 x2 x3 x4 x5 x6 x7 x8 x9).1 i = 1#1) : 12 ≤ (i 0 : ℕ) := by
  have key : ∀ r < 18, IntOp.cmpi .sge (BitVec.ofNat 32 r) 12#32 = 1#1 → 12 ≤ r := by decide
  exact key _ (i 0).isLt h

namespace Cert.Tail
open Cert.KernelIdeal Cert.KernelIdeal.Gen

theorem frame_kernel : Cert.quiescent_Kernel := fun m ρ _ => Cert.Kernel.Gen.frame m ρ
theorem frame_ideal : Cert.quiescent_KernelIdeal := fun m ρ _ => Cert.KernelIdeal.Gen.frame (F := Ideal) m ρ
theorem frame_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The arrays in the reference's buffers. -/
def ofVal (V : Valuation Cert.ReferenceIdeal.τ Cert.ReferenceIdeal.sig (Elt Ideal)) : In where
  dout := V (Proc.devRef .tc Cert.ReferenceIdeal.main_arg0)
  cv := V (Proc.devRef .tc Cert.ReferenceIdeal.main_arg1)
  at' := V (Proc.devRef .tc Cert.ReferenceIdeal.main_arg2)
  pv := V (Proc.devRef .tc Cert.ReferenceIdeal.main_arg3)
  z := V (Proc.devRef .tc Cert.ReferenceIdeal.main_arg4)
  wc := V (Proc.devRef .tc Cert.ReferenceIdeal.main_arg5)
  wa := V (Proc.devRef .tc Cert.ReferenceIdeal.main_arg6)
  wp := V (Proc.devRef .tc Cert.ReferenceIdeal.main_arg7)
  wo := V (Proc.devRef .tc Cert.ReferenceIdeal.main_arg8)
  g := V (Proc.devRef .tc Cert.ReferenceIdeal.main_arg9)

theorem dz_eq (V : Valuation Cert.ReferenceIdeal.τ Cert.ReferenceIdeal.sig (Elt Ideal)) :
    Cert.ReferenceIdeal.Read.val_main_v96 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9))
      = (ofVal V).dz := rfl
theorem dcv_eq (V : Valuation Cert.ReferenceIdeal.τ Cert.ReferenceIdeal.sig (Elt Ideal)) :
    Cert.ReferenceIdeal.Read.val_main_v89 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9))
      = (ofVal V).dcv := rfl
theorem dat_eq (V : Valuation Cert.ReferenceIdeal.τ Cert.ReferenceIdeal.sig (Elt Ideal)) :
    Cert.ReferenceIdeal.Read.val_main_v86 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9))
      = (ofVal V).dat := rfl
theorem dpv_eq (V : Valuation Cert.ReferenceIdeal.τ Cert.ReferenceIdeal.sig (Elt Ideal)) :
    Cert.ReferenceIdeal.Read.val_main_v83 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9))
      = (ofVal V).dpv := rfl
theorem dg_eq (V : Valuation Cert.ReferenceIdeal.τ Cert.ReferenceIdeal.sig (Elt Ideal)) :
    Cert.ReferenceIdeal.Read.val_main_v97 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8))
      = (ofVal V).dg := rfl
theorem dw_eq (V : Valuation Cert.ReferenceIdeal.τ Cert.ReferenceIdeal.sig (Elt Ideal)) :
    Cert.ReferenceIdeal.Read.val_main_v95 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9))
      = (ofVal V).dw := rfl

/-- Where the two programs are given the same arrays, the reference's buffers hold the kernel's arrays. -/
theorem inp_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    ofVal (StableHlo.launchContents m' c) = inp m c := by
  obtain ⟨a0, a1, a2, a3, a4, a5, a6, a7, a8, a9⟩ := h
  unfold ofVal inp; congr 1 <;> assumption

/-- The kernel's six results are the gradients that the reference computes, the first where the mask is set. -/
theorem algebraic : Cert.algebraic_KernelIdeal_ReferenceIdeal_on_gates_written := by
  intro m ρ m' ρ' _ hagree
  refine ⟨fun c => (inp m c).dz, fun c => (inp m c).dcv, fun c => (inp m c).dat, fun c => (inp m c).dpv,
    fun c => (inp m c).dg, fun c => (inp m c).dw, ?_, ?_⟩
  · refine (θ_run Cert.KernelIdeal.defs _ _).mono (fun _ h c => ?_) (Cert.KernelIdeal.Value.run_blocks (F := Ideal) m ρ)
    obtain ⟨h0, h1, h2, h3, h4, h5, hr⟩ := h c
    rw [out13] at h0; rw [out14] at h1; rw [out15] at h2; rw [out16] at h3; rw [out17] at h4; rw [out18] at h5
    exact ⟨fun i hi => (congrFun h0 i).trans (if_pos (Cert.On_gates_written.fn_gates i hi)), fun i _ => congrFun h1 i,
      fun i _ => congrFun h2 i, fun i _ => congrFun h3 i, fun i _ => congrFun h4 i, fun i _ => congrFun h5 i, hr⟩
  · refine (θ_run Cert.ReferenceIdeal.defs _ _).mono (fun _ h c => ?_) (Cert.ReferenceIdeal.Value.run (F := Ideal) m' ρ')
    obtain ⟨h0, h1, h2, h3, h4, h5, hr⟩ := h c
    have hin := inp_eq m m' c (hagree c)
    rw [Cert.ReferenceIdeal.Read.val_main_v96_eq] at h0
    rw [Cert.ReferenceIdeal.Read.val_main_v89_eq] at h1
    rw [Cert.ReferenceIdeal.Read.val_main_v86_eq] at h2
    rw [Cert.ReferenceIdeal.Read.val_main_v83_eq] at h3
    rw [Cert.ReferenceIdeal.Read.val_main_v97_eq] at h4
    rw [Cert.ReferenceIdeal.Read.val_main_v95_eq] at h5
    exact ⟨fun i _ => congrFun (h0.trans ((dz_eq _).trans (congrArg In.dz hin))) i,
      fun i _ => congrFun (h1.trans ((dcv_eq _).trans (congrArg In.dcv hin))) i,
      fun i _ => congrFun (h2.trans ((dat_eq _).trans (congrArg In.dat hin))) i,
      fun i _ => congrFun (h3.trans ((dpv_eq _).trans (congrArg In.dpv hin))) i,
      fun i _ => congrFun (h4.trans ((dg_eq _).trans (congrArg In.dg hin))) i,
      fun i _ => congrFun (h5.trans ((dw_eq _).trans (congrArg In.dw hin))) i, hr⟩

end Cert.Tail
-- ==== Proof.InDxRef.lean ====
module

public import proofs.«01_k».proof.Proof.Gen.Reference2Ideal.Read
public import proofs.«01_k».proof.Proof.RmsGrad
public import proofs.«01_k».proof.Proof.Consts
public import Idealize.ShloMosaic.Lib.Pipeline.ValueKit

/-! # The gradients of the layer's input and of the norm's gain, as the reference computes them -/

@[expose] public section

set_option maxRecDepth 16384

noncomputable section

open Idealize.ShloMosaic Idealize.ShloMosaic.TcCoe Idealize.SL.Sem
open Idealize.ShloMosaic.Pipeline (Dat)

namespace Cert.InDx
open Cert.Reference2Ideal Cert.Reference2Ideal.Read
variable (x : Vec Ideal S8192x1024 .f32) (g : Vec Ideal S1024 .f32) (w : Vec Ideal S1024x7680 .f32) (ct : Vec Ideal S8192x7680 .f32)
  (d : Vec Ideal S8192x1024 .f32)

/-- The gradient of the normed activations. -/
def dh : Vec Ideal S8192x1024 .f32 := val_main_v17 w ct

/-- The reciprocal root mean square of row `r`. -/
def rho (r : Fin 8192) : EReal :=
  Ideal.rsqrt (Ideal.div (∑ k, x (ix2 r k) * x (ix2 r k)) (Ideal.ofBits .f32 0x44800000#32) + Ideal.ofBits .f32 0x358637BD#32)

theorem dh_apply (r : Fin 8192) (l : Fin 1024) : dh w ct (ix2 r l) = ∑ q, ct (ix2 r q) * w (ix2 l q) := by
  unfold dh; pointwise [val_main_v17]

theorem dx_apply (r : Fin 8192) (l : Fin 1024) :
    val_main_v38 x g w ct d (ix2 r l) = rho x r * (dh w ct (ix2 r l) * g (ix1 l) - x (ix2 r l) * rho x r *
      Ideal.div (∑ k, dh w ct (ix2 r k) * g (ix1 k) * (x (ix2 r k) * rho x r)) (Ideal.ofBits .f32 0x44800000#32)) + d (ix2 r l) := by
  unfold dh rho
  generalize hY : val_main_v17 w ct = Y
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v14, val_main_v13, val_main_v12, val_main_v11, val_main_v10, val_main_v9, val_main_v8, val_main_v7, val_main_v6, val_main_v5, val_main_v4, val_main_v3, val_main_v2, val_main_v1, val_main_v0, hY,
    val_main_cst, val_main_cst_0, val_main_cst_1, val_main_cst_2, val_main_cst_5, val_main_cst_6, val_main_cst_7]
  rw [Consts.ofBits_1024, Consts.ofBits_eps, Consts.ofBits_neg_half, Fin.sum_univ_one]
  have key := RmsGrad.closed_eq_chain 1024 Consts.eps (by norm_num) Consts.eps_pos (fun k => x (ix2 r k)) (fun k => Y (ix2 r k) * g (ix1 k)) l
  rw [key]
  ac_rfl

theorem dg_apply (l : Fin 1024) : val_main_v39 x w ct (ix2 0 l) = ∑ r, dh w ct (ix2 r l) * (x (ix2 r l) * rho x r) := by
  unfold dh rho
  generalize hY : val_main_v17 w ct = Y
  pointwise [val_main_v39, val_main_v23, val_main_v20, val_main_v19, val_main_v18, val_main_v12, val_main_v11, val_main_v7, val_main_v6, val_main_v5, val_main_v4, val_main_v3, val_main_v2, val_main_v1, val_main_v0, hY,
    val_main_cst, val_main_cst_0, val_main_cst_1, val_main_cst_3, val_main_cst_4]
  rw [Fin.sum_univ_one]
  exact Finset.sum_congr rfl fun r _ => mul_comm _ _

end Cert.InDx
-- ==== Proof.Columns.lean ====
module

public import Idealize.ShloMosaic.Lib.IdealHost

/-! # How the blocks of columns lie in memory

The 7680 columns of the input projection are fifteen blocks of 512; in memory they are fifteen of eighteen blocks. -/

@[expose] public section

namespace Columns

/-- Where the columns' block `j` stands in memory. -/
def blkOf (j : Fin 15) : Fin 18 := ⟨if j.val < 3 then j.val else if j.val < 9 then j.val + 1 else j.val + 3, by split_ifs <;> omega⟩

/-- Among the columns' blocks laid out with gaps, block `j` is the one at place `blkOf j`. -/
theorem pick (f : Fin 7680 → EReal) (b j : ℕ) (l : Fin 512) (hj : j < 15) (hb : b < 18)
    (e : b = if j < 3 then j else if j < 9 then j + 1 else j + 3) :
    (if h : b < 3 then f ⟨b * 512 + l.val, by omega⟩ else if _h : b - 3 < 1 then 0 else
      if h : b - 3 - 1 < 6 then f ⟨(3 + (b - 3 - 1)) * 512 + l.val, by omega⟩ else if _h : b - 3 - 1 - 6 < 1 then 0 else
      if _h : b - 3 - 1 - 6 - 1 < 1 then 0 else f ⟨(9 + (b - 3 - 1 - 6 - 1 - 1)) * 512 + l.val, by omega⟩)
      = f ⟨j * 512 + l.val, by omega⟩ := by
  split_ifs at e ⊢ <;> first | omega | exact congrArg f (Fin.ext (by simp only; omega))

end Columns
-- ==== Proof.InDxEntry.lean ====
module

public import proofs.«01_k».proof.Proof.Gen.Kernel2Ideal.Value
public import proofs.«01_k».proof.Proof.InDxRef
public import proofs.«01_k».proof.Proof.Columns
public import Idealize.ShloMosaic.Lib.Pipeline.ValueKit
public import Idealize.ShloMosaic.Lib.Pipeline.ReadBack

/-! # What the kernel computes of the gradients of the layer's input and of the norm's gain

Grid point `t` takes 512 rows: it adds fifteen products of 512 columns each to the gradient of the normed activations, takes that
through the norm, and adds its rows' part to the gradient of the gain. -/

@[expose] public section

set_option maxRecDepth 16384

noncomputable section

open Idealize.ShloMosaic Idealize.ShloMosaic.TcCoe Idealize.SL.Sem
open Idealize.ShloMosaic.Pipeline (Dat)

namespace Cert.InDx
open Columns Cert.Kernel2Ideal Cert.Kernel2Ideal.Gen
variable (m : (ℓ : Loc nD τ sig) → Buf (Elt Ideal) ℓ) (c : Dev nD)

def ax : Vec Ideal S8192x1024 .f32 := m ((c : Thread nD τ).loc main_arg0)
def ag : Vec Ideal S1024 .f32 := m ((c : Thread nD τ).loc main_arg1)
def aw : Vec Ideal S1024x7680 .f32 := m ((c : Thread nD τ).loc main_arg2)
def act : Vec Ideal S8192x7680 .f32 := m ((c : Thread nD τ).loc main_arg3)
def ad : Vec Ideal S8192x1024 .f32 := m ((c : Thread nD τ).loc main_arg4)

/-- The sum over the columns of block `j`. -/
def band (f : Fin 7680 → EReal) (j : Fin 15) : EReal := ∑ k : Fin 512, f ⟨j.val * 512 + k.val, by omega⟩

theorem sum_fifteen (G : Fin 15 → EReal) :
    ∑ j, G j = G 0 + G 1 + G 2 + G 3 + G 4 + G 5 + G 6 + G 7 + G 8 + G 9 + G 10 + G 11 + G 12 + G 13 + G 14 := by
  simp only [Fin.sum_univ_castSucc, Fin.sum_univ_zero, zero_add]
  rfl

/-- A sum over the columns is the fifteen sums over their blocks. -/
theorem sum_blocks (f : Fin 7680 → EReal) :
    ∑ q, f q = band f 0 + band f 1 + band f 2 + band f 3 + band f 4 + band f 5 + band f 6 + band f 7 + band f 8 + band f 9 + band f 10 + band f 11 + band f 12 + band f 13 + band f 14 :=
  (Fin.sum_mul_add_congr fun s k hl => rfl).symm.trans (sum_fifteen (band f))

theorem V_x : V m c main_arg0 = ax m c := by unfold V; after_results; rfl
theorem V_d : V m c main_arg4 = ad m c := by unfold V; after_results; rfl
theorem V_g (l : Fin 1024) : V m c main_v9 (ix2 0 l) = ag m c (ix1 l) := by
  unfold V; after_results; unfold ag; pointwise
theorem V_w : V m c main_v8 = aw m c := by
  unfold V; after_results
  funext i
  idx_vars i
  unfold aw; pointwise

theorem V_blocks (b : Fin 18) (n : Fin 8192) (l : Fin 512) :
    V m c main_v7 (ix3 b n l) =
      if h : b.val < 3 then act m c (ix2 n ⟨b.val * 512 + l.val, by omega⟩) else if _h : b.val - 3 < 1 then 0 else
      if h : b.val - 3 - 1 < 6 then act m c (ix2 n ⟨(3 + (b.val - 3 - 1)) * 512 + l.val, by omega⟩) else
      if _h : b.val - 3 - 1 - 6 < 1 then 0 else if _h : b.val - 3 - 1 - 6 - 1 < 1 then 0 else
      act m c (ix2 n ⟨(9 + (b.val - 3 - 1 - 6 - 1 - 1)) * 512 + l.val, by omega⟩) := by
  unfold act V; after_results_simp
  pointwise
  after_results_simp
  pointwise

theorem V_ct (j : Fin 15) (b : Fin 18) (n : Fin 8192) (l : Fin 512) (e : b = blkOf j) :
    V m c main_v7 (ix3 b n l) = act m c (ix2 n ⟨j.val * 512 + l.val, by omega⟩) :=
  (V_blocks m c _ n l).trans (pick (fun q => act m c (ix2 n q)) b.val j.val l j.isLt b.isLt (congrArg Fin.val e))

theorem pt_lt (t : Fin cfg0.N) : t.val < 16 := t.isLt

theorem idx : ∀ t : Fin cfg0.N, win0_0.index t = ![0, t.val, 0] ∧ win0_1.index t = ![1, t.val, 0] ∧ win0_2.index t = ![4, t.val, 0]
    ∧ win0_3.index t = ![2, t.val, 0] ∧ win0_4.index t = ![0, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

/-- The row of the arrays that row `r` of point `t`'s block is. -/
def rowAt (t : Fin cfg0.N) (r : Fin 512) : Fin 8192 := ⟨t.val * 512 + r.val, by have := pt_lt t; omega⟩

theorem xs (t : Fin cfg0.N) (r : Fin 512) (l : Fin 1024) : iblk m c 5 t (ix2 r l) = ax m c (ix2 (rowAt t r) l) := by
  refine Eq.trans ?_ (congrFun (V_x m c) (ix2 (rowAt t r) l))
  unfold rowAt; blk_ext [iblk, idx t]
theorem ds (t : Fin cfg0.N) (r : Fin 512) (l : Fin 1024) : iblk m c 7 t (ix2 r l) = ad m c (ix2 (rowAt t r) l) := by
  refine Eq.trans ?_ (congrFun (V_d m c) (ix2 (rowAt t r) l))
  unfold rowAt; blk_ext [iblk, idx t]
theorem gs (t : Fin cfg0.N) (l : Fin 1024) : iblk m c 6 t (ix2 0 l) = ag m c (ix1 l) := by
  refine Eq.trans ?_ (V_g m c l)
  blk_ext [iblk, idx t]
theorem ws (t : Fin cfg0.N) (l : Fin 1024) (q : Fin 7680) : iblk m c 4 t (ix2 l q) = aw m c (ix2 l q) := by
  refine Eq.trans ?_ (congrFun (V_w m c) (ix2 l q))
  blk_ext [iblk, idx t]

theorem cols0 (t : Fin cfg0.N) (r : Fin 512) (b : Fin 3) (k : Fin 512) :
    iblk m c 0 t (ix3 b r k) = act m c (ix2 (rowAt t r) ⟨b.val * 512 + k.val, by omega⟩) := by
  refine Eq.trans ?_ (V_ct m c ⟨b.val, by omega⟩ ⟨b.val, by omega⟩ (rowAt t r) k (by revert b; decide))
  unfold rowAt; blk_ext [iblk, idx t]
theorem cols1 (t : Fin cfg0.N) (r : Fin 512) (b : Fin 4) (k : Fin 512) :
    X0_1 m c t (ix3 b r k) = act m c (ix2 (rowAt t r) ⟨(3 + b.val) * 512 + k.val, by omega⟩) := by
  refine Eq.trans ?_ (V_ct m c ⟨3 + b.val, by omega⟩ ⟨4 + b.val, by omega⟩ (rowAt t r) k (by revert b; decide))
  unfold X0_1 Pipeline.Window.fill
  rw [dif_pos (moved0_1 t _)]
  unfold rowAt; blk_ext [iblk, idx t]
theorem cols2 (t : Fin cfg0.N) (r : Fin 512) (b : Fin 2) (k : Fin 512) :
    iblk m c 2 t (ix3 b r k) = act m c (ix2 (rowAt t r) ⟨(7 + b.val) * 512 + k.val, by omega⟩) := by
  refine Eq.trans ?_ (V_ct m c ⟨7 + b.val, by omega⟩ ⟨8 + b.val, by omega⟩ (rowAt t r) k (by revert b; decide))
  unfold rowAt; blk_ext [iblk, idx t]
theorem cols3 (t : Fin cfg0.N) (r : Fin 512) (b : Fin 6) (k : Fin 512) :
    iblk m c 3 t (ix3 b r k) = act m c (ix2 (rowAt t r) ⟨(9 + b.val) * 512 + k.val, by omega⟩) := by
  refine Eq.trans ?_ (V_ct m c ⟨9 + b.val, by omega⟩ ⟨12 + b.val, by omega⟩ (rowAt t r) k (by revert b; decide))
  unfold rowAt; blk_ext [iblk, idx t]

end Cert.InDx
-- ==== Proof.InDx.lean ====
module

public import proofs.«01_k».proof.Proof.InDxEntry

/-! # The arrays the kernel leaves: the gradients of the layer's input and of the norm's gain -/

@[expose] public section

set_option maxRecDepth 16384

noncomputable section

open Idealize.ShloMosaic Idealize.ShloMosaic.TcCoe Idealize.SL.Sem
open Idealize.ShloMosaic.Pipeline (Dat)

namespace Cert.InDx
open Cert.Kernel2Ideal Cert.Kernel2Ideal.Gen
variable (m : (ℓ : Loc nD τ sig) → Buf (Elt Ideal) ℓ) (c : Dev nD)

/-- One product of a block of columns, once its factors are read at the arrays. -/
theorem band_eq (f : Fin 7680 → EReal) (j : Fin 15) (a b : Fin 512 → EReal) (p : Fin 512 → Fin 7680) (n : Fin 8192) (l : Fin 1024)
    (hf : ∀ q, f q = act m c (ix2 n q) * aw m c (ix2 l q)) (ha : ∀ k, a k = act m c (ix2 n ⟨j.val * 512 + k.val, by omega⟩))
    (hb : ∀ k, b k = aw m c (ix2 l (p k))) (hp : ∀ k, (p k).val = j.val * 512 + k.val) : ∑ k, a k * b k = band f j := by
  unfold band
  refine Finset.sum_congr rfl fun k _ => ?_
  rw [ha, hb, hf, show p k = ⟨j.val * 512 + k.val, by omega⟩ from Fin.ext (hp k)]

/-- The fifteen products a point adds up, once its blocks are read at the arrays, are the gradient of the normed activations. -/
theorem bands (C0 : Vec Ideal S3x512x512 .bf16) (C1 : Vec Ideal S4x512x512 .bf16) (C2 : Vec Ideal S2x512x512 .bf16)
    (C3 : Vec Ideal S6x512x512 .bf16) (W : Vec Ideal S1024x7680 .bf16) (n : Fin 8192) (r : Fin 512) (l : Fin 1024)
    (h0 : ∀ b k, C0 (ix3 b r k) = act m c (ix2 n ⟨b.val * 512 + k.val, by omega⟩))
    (h1 : ∀ b k, C1 (ix3 b r k) = act m c (ix2 n ⟨(3 + b.val) * 512 + k.val, by omega⟩))
    (h2 : ∀ b k, C2 (ix3 b r k) = act m c (ix2 n ⟨(7 + b.val) * 512 + k.val, by omega⟩))
    (h3 : ∀ b k, C3 (ix3 b r k) = act m c (ix2 n ⟨(9 + b.val) * 512 + k.val, by omega⟩))
    (hW : ∀ q, W (ix2 l q) = aw m c (ix2 l q)) :
      (∑ k : Fin 512, C0 (ix3 0 r k) * W (ix2 l ⟨k.val, by omega⟩)) +
      (∑ k : Fin 512, C0 (ix3 1 r k) * W (ix2 l ⟨512 + k.val, by omega⟩)) +
      (∑ k : Fin 512, C0 (ix3 2 r k) * W (ix2 l ⟨1024 + k.val, by omega⟩)) +
      (∑ k : Fin 512, C1 (ix3 0 r k) * W (ix2 l ⟨1536 + k.val, by omega⟩)) +
      (∑ k : Fin 512, C1 (ix3 1 r k) * W (ix2 l ⟨2048 + k.val, by omega⟩)) +
      (∑ k : Fin 512, C1 (ix3 2 r k) * W (ix2 l ⟨2560 + k.val, by omega⟩)) +
      (∑ k : Fin 512, C1 (ix3 3 r k) * W (ix2 l ⟨3072 + k.val, by omega⟩)) +
      (∑ k : Fin 512, C2 (ix3 0 r k) * W (ix2 l ⟨3584 + k.val, by omega⟩)) +
      (∑ k : Fin 512, C2 (ix3 1 r k) * W (ix2 l ⟨4096 + k.val, by omega⟩)) +
      (∑ k : Fin 512, C3 (ix3 0 r k) * W (ix2 l ⟨4608 + k.val, by omega⟩)) +
      (∑ k : Fin 512, C3 (ix3 1 r k) * W (ix2 l ⟨5120 + k.val, by omega⟩)) +
      (∑ k : Fin 512, C3 (ix3 2 r k) * W (ix2 l ⟨5632 + k.val, by omega⟩)) +
      (∑ k : Fin 512, C3 (ix3 3 r k) * W (ix2 l ⟨6144 + k.val, by omega⟩)) +
      (∑ k : Fin 512, C3 (ix3 4 r k) * W (ix2 l ⟨6656 + k.val, by omega⟩)) +
      (∑ k : Fin 512, C3 (ix3 5 r k) * W (ix2 l ⟨7168 + k.val, by omega⟩))
      = dh (aw m c) (act m c) (ix2 n l) := by
  rw [dh_apply]
  refine Eq.trans ?_ (sum_blocks _).symm
  iterate 14 refine congrArg₂ (fun a b : EReal => a + b) ?_ ?_
  · exact band_eq m c _ 0 _ _ _ n l (fun _ => rfl) (h0 0) (fun _ => hW _) (fun k => by simp)
  · exact band_eq m c _ 1 _ _ _ n l (fun _ => rfl) (h0 1) (fun _ => hW _) (fun k => by simp)
  · exact band_eq m c _ 2 _ _ _ n l (fun _ => rfl) (h0 2) (fun _ => hW _) (fun k => by simp)
  · exact band_eq m c _ 3 _ _ _ n l (fun _ => rfl) (h1 0) (fun _ => hW _) (fun k => by simp)
  · exact band_eq m c _ 4 _ _ _ n l (fun _ => rfl) (h1 1) (fun _ => hW _) (fun k => by simp)
  · exact band_eq m c _ 5 _ _ _ n l (fun _ => rfl) (h1 2) (fun _ => hW _) (fun k => by simp)
  · exact band_eq m c _ 6 _ _ _ n l (fun _ => rfl) (h1 3) (fun _ => hW _) (fun k => by simp)
  · exact band_eq m c _ 7 _ _ _ n l (fun _ => rfl) (h2 0) (fun _ => hW _) (fun k => by simp)
  · exact band_eq m c _ 8 _ _ _ n l (fun _ => rfl) (h2 1) (fun _ => hW _) (fun k => by simp)
  · exact band_eq m c _ 9 _ _ _ n l (fun _ => rfl) (h3 0) (fun _ => hW _) (fun k => by simp)
  · exact band_eq m c _ 10 _ _ _ n l (fun _ => rfl) (h3 1) (fun _ => hW _) (fun k => by simp)
  · exact band_eq m c _ 11 _ _ _ n l (fun _ => rfl) (h3 2) (fun _ => hW _) (fun k => by simp)
  · exact band_eq m c _ 12 _ _ _ n l (fun _ => rfl) (h3 3) (fun _ => hW _) (fun k => by simp)
  · exact band_eq m c _ 13 _ _ _ n l (fun _ => rfl) (h3 4) (fun _ => hW _) (fun k => by simp)
  · exact band_eq m c _ 14 _ _ _ n l (fun _ => rfl) (h3 5) (fun _ => hW _) (fun k => by simp)

/-- The step from the gradient of the normed activations to that of the input, for one row. -/
theorem row_apply (D X d : Vec Ideal S512x1024 .f32) (G : Vec Ideal S1x1024 .f32) (r : Fin 512) (H Y g : Fin 1024 → EReal) (e ρ : EReal)
    (hD : ∀ k, D (ix2 r k) = H k) (hX : ∀ k, X (ix2 r k) = Y k) (hG : ∀ k, G (ix2 0 k) = g k) (l : Fin 1024) (he : d (ix2 r l) = e)
    (hρ : ρ = Ideal.rsqrt (Ideal.div (∑ k, Y k * Y k) (Ideal.ofBits .f32 0x44800000#32) + Ideal.ofBits .f32 0x358637BD#32)) :
    k0_pay6 D X G d (ix2 r l) = ρ * (H l * g l - Y l * ρ *
      Ideal.div (∑ k, H k * g k * (Y k * ρ)) (Ideal.ofBits .f32 0x44800000#32)) + e := by
  rw [hρ]
  simp only [← hD, ← hX, ← hG, ← he]
  pointwise [k0_pay6, k0_pay5, k0_pay4]

/-- What a block adds to the gradient of the gain. -/
theorem gain_apply (D X : Vec Ideal S512x1024 .f32) (A : Vec Ideal S1x1024 .f32) (H Y : Fin 512 → Fin 1024 → EReal) (ρ : Fin 512 → EReal)
    (hD : ∀ r k, D (ix2 r k) = H r k) (hX : ∀ r k, X (ix2 r k) = Y r k) (l : Fin 1024)
    (hρ : ∀ r, ρ r = Ideal.rsqrt (Ideal.div (∑ k, Y r k * Y r k) (Ideal.ofBits .f32 0x44800000#32) + Ideal.ofBits .f32 0x358637BD#32)) :
    k0_pay8 D X A (ix2 0 l) = A (ix2 0 l) + ∑ r, H r l * (Y r l * ρ r) := by
  simp only [hρ, ← hD, ← hX]
  pointwise [k0_pay8, k0_pay5, k0_pay4]

/-- The two results as the reference computes them. -/
def dx : Vec Ideal S8192x1024 .f32 := Cert.Reference2Ideal.Read.val_main_v38 (ax m c) (ag m c) (aw m c) (act m c) (ad m c)
def dg : Vec Ideal S1x1024 .f32 := Cert.Reference2Ideal.Read.val_main_v39 (ax m c) (aw m c) (act m c)

set_option maxHeartbeats 1600000 in
theorem point_dx_first (t : Fin cfg0.N) (h : t.val % 16 = 0) (r : Fin 512) (l : Fin 1024) :
    (outsAt0 m c t.val t.isLt).1 (ix2 r l) = dx m c (ix2 (rowAt t r) l) := by
  refine Eq.trans ?_ (dx_apply (ax m c) (ag m c) (aw m c) (act m c) (ad m c) (rowAt t r) l).symm
  rw [outsAt0_A m c t h]; frame_out
  refine row_apply _ _ _ _ r (fun k => dh (aw m c) (act m c) (ix2 (rowAt t r) k)) (fun k => ax m c (ix2 (rowAt t r) k)) (fun k => ag m c (ix1 k))
    (ad m c (ix2 (rowAt t r) l)) (rho (ax m c) (rowAt t r)) (fun k => ?_) (fun k => ?_) (fun k => ?_) l ?_ rfl
  · pointwise [k0_pay3, k0_pay2, k0_pay1]; exact bands m c _ _ _ _ _ _ r k (cols0 m c t r) (cols1 m c t r) (cols2 m c t r) (cols3 m c t r) (ws m c t k)
  · pointwise; exact xs m c t r k
  · pointwise; exact gs m c t k
  · pointwise; exact ds m c t r l

set_option maxHeartbeats 1600000 in
theorem point_dx_later (t : Fin cfg0.N) (h : ¬t.val % 16 = 0) (r : Fin 512) (l : Fin 1024) :
    (outsAt0 m c t.val t.isLt).1 (ix2 r l) = dx m c (ix2 (rowAt t r) l) := by
  refine Eq.trans ?_ (dx_apply (ax m c) (ag m c) (aw m c) (act m c) (ad m c) (rowAt t r) l).symm
  rw [outsAt0_B m c t h]; frame_out
  refine row_apply _ _ _ _ r (fun k => dh (aw m c) (act m c) (ix2 (rowAt t r) k)) (fun k => ax m c (ix2 (rowAt t r) k)) (fun k => ag m c (ix1 k))
    (ad m c (ix2 (rowAt t r) l)) (rho (ax m c) (rowAt t r)) (fun k => ?_) (fun k => ?_) (fun k => ?_) l ?_ rfl
  · pointwise [k0_pay3, k0_pay2, k0_pay1]; exact bands m c _ _ _ _ _ _ r k (cols0 m c t r) (cols1 m c t r) (cols2 m c t r) (cols3 m c t r) (ws m c t k)
  · pointwise; exact xs m c t r k
  · pointwise; exact gs m c t k
  · pointwise; exact ds m c t r l

theorem point_dx (t : Fin cfg0.N) (r : Fin 512) (l : Fin 1024) :
    (outsAt0 m c t.val t.isLt).1 (ix2 r l) = dx m c (ix2 (rowAt t r) l) := by
  by_cases h : t.val % 16 = 0
  · exact point_dx_first m c t h r l
  · exact point_dx_later m c t h r l

theorem out8 : (dats m 0 c).arrAt 8 cfg0.N = dx m c := by
  refine (dats m 0 c).arrAt_eq_of_covers 8 _ (by decide +kernel) fun t _ y => ?_
  blk_simp [idx t]; rw [after0_8]
  idx_vars y
  refine (point_dx m c t y0 y1).trans ?_
  unfold rowAt; blk_ext [idx t]

theorem zero_row (l : Fin 1024) : k0_pay7 (F := Ideal) (ix2 0 l) = 0 := by
  pointwise [k0_pay7]

/-- What one token adds to the gradient of the gain. -/
def dgP (n : Fin 8192) (l : Fin 1024) : EReal := dh (aw m c) (act m c) (ix2 n l) * (ax m c (ix2 n l) * rho (ax m c) n)

/-- The tokens of all points are the tokens. -/
theorem sum_points (f : Fin 8192 → EReal) (t : Fin cfg0.N) (h : t.val % 16 = 16 - 1) :
    ∑ s : Fin 16, ∑ r, f (rowAt ⟨16 * (t.val / 16) + s.val, Pipeline.run_point_lt_of_flush t h s⟩ r) = ∑ n, f n := by
  have ht := pt_lt t
  refine Fin.sum_mul_add_congr fun s r hl => ?_
  refine congrArg f (Fin.ext ?_)
  unfold rowAt; simp only; omega

set_option maxHeartbeats 1600000 in
theorem point_dg (t : Fin cfg0.N) (hr : t.val % 16 = 16 - 1) (l : Fin 1024) :
    (outsAt0 m c t.val t.isLt).2 (ix2 0 l) = 0 + ∑ s : Fin 16, ∑ r, dgP m c (rowAt ⟨16 * (t.val / 16) + s.val, Pipeline.run_point_lt_of_flush t hr s⟩ r) l := by
  refine Pipeline.eq_sum_fin_of_reset_step_apply_of_flush (fun n h (l : Fin 1024) => (outsAt0 m c n h).2 (ix2 0 l)) 16 (fun _ => 0)
    (fun t l => ∑ r, dgP m c (rowAt t r) l)
    (fun t h l => ?_) (fun t h l => ?_) t hr l
  · rw [outsAt0_A m c t h]; frame_out
    refine (gain_apply _ _ _ (fun r k => dh (aw m c) (act m c) (ix2 (rowAt t r) k)) (fun r k => ax m c (ix2 (rowAt t r) k))
      (fun r => rho (ax m c) (rowAt t r)) (fun r k => ?_) (fun r k => ?_) l (fun _ => rfl)).trans (congrArg (· + _) (zero_row l))
    · pointwise [k0_pay3, k0_pay2, k0_pay1]; exact bands m c _ _ _ _ _ _ r k (cols0 m c t r) (cols1 m c t r) (cols2 m c t r) (cols3 m c t r) (ws m c t k)
    · pointwise; exact xs m c t r k
  · rw [outsAt0_B m c t h]; frame_out
    refine (gain_apply _ _ _ (fun r k => dh (aw m c) (act m c) (ix2 (rowAt t r) k)) (fun r k => ax m c (ix2 (rowAt t r) k))
      (fun r => rho (ax m c) (rowAt t r)) (fun r k => ?_) (fun r k => ?_) l (fun _ => rfl)).trans ?_
    · pointwise [k0_pay3, k0_pay2, k0_pay1]; exact bands m c _ _ _ _ _ _ r k (cols0 m c t r) (cols1 m c t r) (cols2 m c t r) (cols3 m c t r) (ws m c t k)
    · pointwise; exact xs m c t r k
    · refine congrArg (· + _) ?_; pointwise

theorem out9 : (dats m 0 c).arrAt 9 cfg0.N = dg m c := by
  refine (dats m 0 c).arrAt_eq_of_covers 9 _ (by decide +kernel) fun t hf y => ?_
  have hr := (flush0_9 t).mp hf
  blk_simp [idx t]; rw [after0_9]
  idx_vars y
  obtain rfl : y0 = 0 := Subsingleton.elim _ _
  refine (point_dg m c t hr y1).trans ?_
  rw [zero_add, sum_points (fun n => dgP m c n y1) t hr]
  refine (dg_apply (ax m c) (aw m c) (act m c) y1).symm.trans ?_
  unfold dg; blk_ext [idx t]

end Cert.InDx
-- ==== Proof.InDxClaim.lean ====
module

public import proofs.«01_k».proof.Defs
public import proofs.«01_k».proof.Proof.InDx
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent

/-! # The claims about the gradients of the layer's input and of the norm's gain -/

@[expose] public section

set_option maxRecDepth 16384

noncomputable section

open Idealize.ShloMosaic Idealize.ShloMosaic.TcCoe Idealize.SL.Sem
open Idealize.ShloMosaic.Pipeline (Dat)

namespace Cert.InDx
open Cert.Kernel2Ideal Cert.Kernel2Ideal.Gen

theorem frame_kernel : Cert.quiescent_Kernel2 := fun m ρ _ => Cert.Kernel2.Gen.frame m ρ
theorem frame_ideal : Cert.quiescent_Kernel2Ideal := fun m ρ _ => Cert.Kernel2Ideal.Gen.frame (F := Ideal) m ρ
theorem frame_reference : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The reference's results, of the arrays in its buffers. -/
def valX (V : Valuation Cert.Reference2Ideal.τ Cert.Reference2Ideal.sig (Elt Ideal)) :=
  Cert.Reference2Ideal.Read.val_main_v38 (F := Ideal) (V (Proc.devRef .tc Cert.Reference2Ideal.main_arg0)) (V (Proc.devRef .tc Cert.Reference2Ideal.main_arg1)) (V (Proc.devRef .tc Cert.Reference2Ideal.main_arg2)) (V (Proc.devRef .tc Cert.Reference2Ideal.main_arg3)) (V (Proc.devRef .tc Cert.Reference2Ideal.main_arg4))
def valG (V : Valuation Cert.Reference2Ideal.τ Cert.Reference2Ideal.sig (Elt Ideal)) :=
  Cert.Reference2Ideal.Read.val_main_v39 (F := Ideal) (V (Proc.devRef .tc Cert.Reference2Ideal.main_arg0)) (V (Proc.devRef .tc Cert.Reference2Ideal.main_arg2)) (V (Proc.devRef .tc Cert.Reference2Ideal.main_arg3))

/-- Where the two programs are given the same arrays, the two pairs of results are the same. -/
theorem val_eq (m : (ℓ : Loc nD τ sig) → Buf (Elt Ideal) ℓ)
    (m' : (ℓ : Loc Cert.Reference2Ideal.nD Cert.Reference2Ideal.τ Cert.Reference2Ideal.sig) → Buf (Elt Ideal) ℓ) (c : Dev nD)
    (h : m' ((c.tc : Thread Cert.Reference2Ideal.nD Cert.Reference2Ideal.τ).loc Cert.Reference2Ideal.main_arg0) = m ((c.tc : Thread nD τ).loc main_arg0)
      ∧ m' ((c.tc : Thread Cert.Reference2Ideal.nD Cert.Reference2Ideal.τ).loc Cert.Reference2Ideal.main_arg1) = m ((c.tc : Thread nD τ).loc main_arg1)
      ∧ m' ((c.tc : Thread Cert.Reference2Ideal.nD Cert.Reference2Ideal.τ).loc Cert.Reference2Ideal.main_arg2) = m ((c.tc : Thread nD τ).loc main_arg2)
      ∧ m' ((c.tc : Thread Cert.Reference2Ideal.nD Cert.Reference2Ideal.τ).loc Cert.Reference2Ideal.main_arg3) = m ((c.tc : Thread nD τ).loc main_arg3)
      ∧ m' ((c.tc : Thread Cert.Reference2Ideal.nD Cert.Reference2Ideal.τ).loc Cert.Reference2Ideal.main_arg4) = m ((c.tc : Thread nD τ).loc main_arg4)) :
    valX (StableHlo.launchContents m' c) = dx m c ∧ valG (StableHlo.launchContents m' c) = dg m c := by
  obtain ⟨a0, a1, a2, a3, a4⟩ := h
  exact ⟨congr (congr (congr (congr (congrArg (Cert.Reference2Ideal.Read.val_main_v38 (F := Ideal)) a0) a1) a2) a3) a4,
    congr (congr (congrArg (Cert.Reference2Ideal.Read.val_main_v39 (F := Ideal)) a0) a2) a3⟩

/-- The kernel's two results are the gradients that the reference computes. -/
theorem algebraic : Cert.algebraic_Kernel2Ideal_Reference2Ideal := by
  intro m ρ m' ρ' _ hagree
  refine ⟨fun c => dx m c, fun c => dg m c, ?_, ?_⟩
  · refine (θ_run Cert.Kernel2Ideal.defs _ _).mono (fun _ h c => ?_) (Cert.Kernel2Ideal.Value.run_blocks (F := Ideal) m ρ)
    obtain ⟨h0, h1, hr⟩ := h c
    rw [out8] at h0; rw [out9] at h1
    exact ⟨h0, h1, hr⟩
  · refine (θ_run Cert.Reference2Ideal.defs _ _).mono (fun _ h c => ?_) (Cert.Reference2Ideal.Value.run (F := Ideal) m' ρ')
    obtain ⟨h0, h1, hr⟩ := h c
    rw [Cert.Reference2Ideal.Read.val_main_v38_eq] at h0
    rw [Cert.Reference2Ideal.Read.val_main_v39_eq] at h1
    exact ⟨h0.trans (val_eq m m' c (hagree c)).1, h1.trans (val_eq m m' c (hagree c)).2, hr⟩

end Cert.InDx
-- ==== Proof.InGrad.lean ====
module

public import proofs.«01_k».proof.Proof.Gen.Kernel3Ideal.Value
public import proofs.«01_k».proof.Proof.Gen.Reference3Ideal.Read
public import proofs.«01_k».proof.Proof.Columns
public import Idealize.ShloMosaic.Lib.Pipeline.ValueKit
public import Idealize.ShloMosaic.Lib.Pipeline.ReadBack

/-! # The gradient of the input weights

Grid point `t` multiplies the transposed normed activations by the block of 512 columns of the cotangent that stands `blkOf t`-th
among the blocks in memory. -/

@[expose] public section

set_option maxRecDepth 16384

noncomputable section

open Idealize.ShloMosaic Idealize.ShloMosaic.TcCoe Idealize.SL.Sem
open Idealize.ShloMosaic.Pipeline (Dat)

namespace Cert.InGrad
open Columns Cert.Kernel3Ideal Cert.Kernel3Ideal.Gen
variable (m : (ℓ : Loc nD τ sig) → Buf (Elt Ideal) ℓ) (c : Dev nD)

/-- The normed activations, the cotangent, and the gradient the reference computes of them. -/
def normed : Vec Ideal S8192x1024 .f32 :=
  Cert.Reference3Ideal.Read.val_main_v12 (F := Ideal) (m ((c : Thread nD τ).loc main_arg0)) (m ((c : Thread nD τ).loc main_arg1))
def ct : Vec Ideal S8192x7680 .f32 := m ((c : Thread nD τ).loc main_arg3)
def grad : Vec Ideal S1024x7680 .bf16 :=
  Cert.Reference3Ideal.Read.val_main_v16 (F := Ideal) (m ((c : Thread nD τ).loc main_arg0)) (m ((c : Thread nD τ).loc main_arg1)) (ct m c)

theorem grad_apply (k : Fin 1024) (q : Fin 7680) :
    grad m c (ix2 k q) = ∑ n, ct m c (ix2 n q) * normed m c (ix2 n k) := by
  unfold grad normed
  generalize ct m c = C
  pointwise [Cert.Reference3Ideal.Read.val_main_v16, Cert.Reference3Ideal.Read.val_main_v15, Cert.Reference3Ideal.Read.val_main_v14]

theorem V_normed : V m c main_v14 = fun i => normed m c (ix2 (i 1) (i 0)) := by
  unfold V; after_results
  funext i
  idx_vars i
  unfold normed
  pointwise [Cert.Reference3Ideal.Read.val_main_v12, Cert.Reference3Ideal.Read.val_main_v11, Cert.Reference3Ideal.Read.val_main_v10,
    Cert.Reference3Ideal.Read.val_main_v9, Cert.Reference3Ideal.Read.val_main_v8, Cert.Reference3Ideal.Read.val_main_v7,
    Cert.Reference3Ideal.Read.val_main_v6, Cert.Reference3Ideal.Read.val_main_v5, Cert.Reference3Ideal.Read.val_main_v4,
    Cert.Reference3Ideal.Read.val_main_v3, Cert.Reference3Ideal.Read.val_main_v2, Cert.Reference3Ideal.Read.val_main_v1,
    Cert.Reference3Ideal.Read.val_main_v0, Cert.Reference3Ideal.Read.val_main_cst, Cert.Reference3Ideal.Read.val_main_cst_0,
    Cert.Reference3Ideal.Read.val_main_cst_1]

theorem V_blocks (b : Fin 18) (n : Fin 8192) (l : Fin 512) :
    V m c main_v22 (ix3 b n l) =
      if h : b.val < 3 then ct m c (ix2 n ⟨b.val * 512 + l.val, by omega⟩) else if _h : b.val - 3 < 1 then 0 else
      if h : b.val - 3 - 1 < 6 then ct m c (ix2 n ⟨(3 + (b.val - 3 - 1)) * 512 + l.val, by omega⟩) else
      if _h : b.val - 3 - 1 - 6 < 1 then 0 else if _h : b.val - 3 - 1 - 6 - 1 < 1 then 0 else
      ct m c (ix2 n ⟨(9 + (b.val - 3 - 1 - 6 - 1 - 1)) * 512 + l.val, by omega⟩) := by
  unfold ct V; after_results_simp
  pointwise
  after_results_simp
  pointwise

theorem V_ct (j : Fin 15) (n : Fin 8192) (l : Fin 512) :
    V m c main_v22 (ix3 (blkOf j) n l) = ct m c (ix2 n ⟨j.val * 512 + l.val, by omega⟩) :=
  (V_blocks m c _ n l).trans (pick (fun q => ct m c (ix2 n q)) (blkOf j).val j.val l j.isLt (blkOf j).isLt rfl)

theorem pt_lt (t : Fin cfg0.N) : t.val < 15 := t.isLt

theorem idx : ∀ t : Fin cfg0.N, win0_0.index t = ![0, 0] ∧ win0_1.index t = ![(blkOf ⟨t.val, pt_lt t⟩).val, 0, 0]
    ∧ win0_2.index t = ![0, t.val] :=
  (by decide +kernel : ∀ t : Fin grid0.N, _)

theorem point (t : Fin cfg0.N) (k : Fin 1024) (l : Fin 512) :
    outsAt0 m c t (ix2 k l) = grad m c (ix2 k ⟨t.val * 512 + l.val, by have := pt_lt t; omega⟩) := by
  have h0 : ∀ (n : Fin 8192), iblk m c 0 t (ix2 k n) = normed m c (ix2 n k) := fun n => by
    refine Eq.trans ?_ (congrFun (V_normed m c) (ix2 k n))
    blk_ext [iblk, idx t]
  have h1 : ∀ (n : Fin 8192), iblk m c 1 t (ix3 0 n l) = ct m c (ix2 n ⟨t.val * 512 + l.val, by have := pt_lt t; omega⟩) := fun n => by
    refine Eq.trans ?_ (V_ct m c ⟨t.val, pt_lt t⟩ n l)
    blk_ext [iblk, idx t]
  rw [grad_apply]
  unfold outsAt0; frame_out
  pointwise [k0_pay1]
  refine Finset.sum_congr rfl fun n _ => ?_
  rw [h0, h1, mul_comm]

theorem out2 : (dats m 0 c).arrAt 2 cfg0.N = grad m c := by
  refine (dats m 0 c).arrAt_eq_of_covers 2 _ (by decide +kernel) fun t _ y => ?_
  blk_simp [idx t]; rw [after0_2]
  idx_vars y
  refine (point m c t y0 y1).trans ?_
  blk_ext [idx t]

end Cert.InGrad
-- ==== Proof.InGradClaim.lean ====
module

public import proofs.«01_k».proof.Defs
public import proofs.«01_k».proof.Proof.InGrad
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent

/-! # The claims about the gradient of the input weights -/

@[expose] public section

set_option maxRecDepth 16384

noncomputable section

open Idealize.ShloMosaic Idealize.ShloMosaic.TcCoe Idealize.SL.Sem
open Idealize.ShloMosaic.Pipeline (Dat)

namespace Cert.InGrad
open Cert.Kernel3Ideal Cert.Kernel3Ideal.Gen

theorem frame_kernel : Cert.quiescent_Kernel3 := fun m ρ _ => Cert.Kernel3.Gen.frame m ρ
theorem frame_ideal : Cert.quiescent_Kernel3Ideal := fun m ρ _ => Cert.Kernel3Ideal.Gen.frame (F := Ideal) m ρ
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The reference's result, of the arrays in its buffers. -/
def ofVal (V : Valuation Cert.Reference3Ideal.τ Cert.Reference3Ideal.sig (Elt Ideal)) :=
  Cert.Reference3Ideal.Read.val_main_v16 (F := Ideal) (V (Proc.devRef .tc Cert.Reference3Ideal.main_arg0)) (V (Proc.devRef .tc Cert.Reference3Ideal.main_arg1)) (V (Proc.devRef .tc Cert.Reference3Ideal.main_arg3))

/-- Where the two programs are given the same arrays, the two results are the same. -/
theorem val_eq (m : (ℓ : Loc nD τ sig) → Buf (Elt Ideal) ℓ)
    (m' : (ℓ : Loc Cert.Reference3Ideal.nD Cert.Reference3Ideal.τ Cert.Reference3Ideal.sig) → Buf (Elt Ideal) ℓ) (c : Dev nD)
    (h : m' ((c.tc : Thread Cert.Reference3Ideal.nD Cert.Reference3Ideal.τ).loc Cert.Reference3Ideal.main_arg0) = m ((c.tc : Thread nD τ).loc main_arg0)
      ∧ m' ((c.tc : Thread Cert.Reference3Ideal.nD Cert.Reference3Ideal.τ).loc Cert.Reference3Ideal.main_arg1) = m ((c.tc : Thread nD τ).loc main_arg1)
      ∧ m' ((c.tc : Thread Cert.Reference3Ideal.nD Cert.Reference3Ideal.τ).loc Cert.Reference3Ideal.main_arg2) = m ((c.tc : Thread nD τ).loc main_arg2)
      ∧ m' ((c.tc : Thread Cert.Reference3Ideal.nD Cert.Reference3Ideal.τ).loc Cert.Reference3Ideal.main_arg3) = m ((c.tc : Thread nD τ).loc main_arg3)) :
    ofVal (StableHlo.launchContents m' c) = grad m c := by
  obtain ⟨a0, a1, -, a3⟩ := h
  exact congr (congr (congrArg (Cert.Reference3Ideal.Read.val_main_v16 (F := Ideal)) a0) a1) a3

/-- The kernel's result is the gradient that the reference computes. -/
theorem algebraic : Cert.algebraic_Kernel3Ideal_Reference3Ideal := by
  intro m ρ m' ρ' _ hagree
  refine ⟨fun c => grad m c, ?_, ?_⟩
  · refine (θ_run Cert.Kernel3Ideal.defs _ _).mono (fun _ h c => ?_) (Cert.Kernel3Ideal.Value.run_blocks (F := Ideal) m ρ)
    obtain ⟨h0, hr⟩ := h c
    rw [out2] at h0
    exact ⟨h0, hr⟩
  · refine (θ_run Cert.Reference3Ideal.defs _ _).mono (fun _ h c => ?_) (Cert.Reference3Ideal.Value.run (F := Ideal) m' ρ')
    obtain ⟨h0, hr⟩ := h c
    rw [Cert.Reference3Ideal.Read.val_main_v16_eq] at h0
    exact ⟨h0.trans (val_eq m m' c (hagree c)), hr⟩

end Cert.InGrad
-- ==== Proof.InProj.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack

/-! # The input projection

Grid point `t` multiplies 512 rows of the normed activations by the whole weights, in five pieces of 1536 columns. -/

@[expose] public section

set_option maxRecDepth 16384

noncomputable section

open Idealize.ShloMosaic Idealize.ShloMosaic.TcCoe Idealize.SL.Sem
open Idealize.ShloMosaic.Pipeline (Dat)

namespace Cert.InProj
open Cert.Kernel4Ideal Cert.Kernel4Ideal.Gen
variable (m : (ℓ : Loc nD τ sig) → Buf (Elt Ideal) ℓ) (c : Dev nD)

/-- The normed activations, the weights, and the projection the reference computes of them. -/
def normed : Vec Ideal S8192x1024 .f32 :=
  Cert.Reference4Ideal.Read.val_main_v12 (F := Ideal) (m ((c : Thread nD τ).loc main_arg0)) (m ((c : Thread nD τ).loc main_arg1))
def wts : Vec Ideal S1024x7680 .f32 := m ((c : Thread nD τ).loc main_arg2)
def proj : Vec Ideal S8192x7680 .f32 :=
  Cert.Reference4Ideal.Read.val_main_v13 (F := Ideal) (m ((c : Thread nD τ).loc main_arg0)) (m ((c : Thread nD τ).loc main_arg1)) (wts m c)

theorem proj_apply (n : Fin 8192) (q : Fin 7680) : proj m c (ix2 n q) = ∑ k, normed m c (ix2 n k) * wts m c (ix2 k q) := by
  unfold proj normed
  generalize wts m c = W
  pointwise [Cert.Reference4Ideal.Read.val_main_v13]

theorem V_normed : V m c main_v13 = normed m c := by
  unfold V; after_results
  funext i
  idx_vars i
  unfold normed
  pointwise [Cert.Reference4Ideal.Read.val_main_v12, Cert.Reference4Ideal.Read.val_main_v11, Cert.Reference4Ideal.Read.val_main_v10, Cert.Reference4Ideal.Read.val_main_v9, Cert.Reference4Ideal.Read.val_main_v8,
    Cert.Reference4Ideal.Read.val_main_v7, Cert.Reference4Ideal.Read.val_main_v6, Cert.Reference4Ideal.Read.val_main_v5, Cert.Reference4Ideal.Read.val_main_v4,
    Cert.Reference4Ideal.Read.val_main_v3, Cert.Reference4Ideal.Read.val_main_v2, Cert.Reference4Ideal.Read.val_main_v1, Cert.Reference4Ideal.Read.val_main_v0,
    Cert.Reference4Ideal.Read.val_main_cst, Cert.Reference4Ideal.Read.val_main_cst_0, Cert.Reference4Ideal.Read.val_main_cst_1]

theorem V_wts : V m c main_v14 = wts m c := by
  unfold V; after_results
  funext i
  idx_vars i
  unfold wts
  pointwise

theorem idx : ∀ t : Fin cfg0.N, win0_0.index t = ![t.val, 0] ∧ win0_1.index t = ![0, 0] ∧ win0_2.index t = ![t.val, 0] :=
  (by decide +kernel : ∀ t : Fin grid0.N, _)

theorem pt_lt (t : Fin cfg0.N) : t.val < 16 := t.isLt

/-- The row of the arrays that row `r` of point `t`'s block is. -/
def rowAt (t : Fin cfg0.N) (r : Fin 512) : Fin 8192 := ⟨t.val * 512 + r.val, by have := pt_lt t; omega⟩

theorem rows (t : Fin cfg0.N) (r : Fin 512) (k : Fin 1024) : iblk m c 0 t (ix2 r k) = normed m c (ix2 (rowAt t r) k) := by
  refine Eq.trans ?_ (congrFun (V_normed m c) (ix2 (rowAt t r) k))
  unfold rowAt; blk_ext [iblk, idx t]

theorem whole (t : Fin cfg0.N) (k : Fin 1024) (q : Fin 7680) : iblk m c 1 t (ix2 k q) = wts m c (ix2 k q) := by
  refine Eq.trans ?_ (congrFun (V_wts m c) (ix2 k q))
  blk_ext [iblk, idx t]

theorem point (t : Fin cfg0.N) (r : Fin 512) (q : Fin 7680) : outsAt0 m c t (ix2 r q) = proj m c (ix2 (rowAt t r) q) := by
  rw [proj_apply]
  unfold outsAt0; frame_out
  canon_tiles x h
  all_goals
    idx_vars x
    pointwise [k0_pay1, k0_pay2, k0_pay3, k0_pay4, k0_pay5]
    obtain rfl : r = x0 := Fin.ext h0
    refine Finset.sum_congr rfl fun k _ => ?_
    rw [rows, whole]
    exact congrArg (fun q' => normed m c (ix2 (rowAt t r) k) * wts m c (ix2 k q')) (Fin.ext h1.symm)

theorem out2 : (dats m 0 c).arrAt 2 cfg0.N = proj m c := by
  refine (dats m 0 c).arrAt_eq_of_covers 2 _ (by decide +kernel) fun t _ y => ?_
  blk_simp [idx t]; rw [after0_2]
  idx_vars y
  refine (point m c t y0 y1).trans ?_
  unfold rowAt; blk_ext [idx t]

end Cert.InProj
-- ==== Proof.InProjClaim.lean ====
module

public import proofs.«01_k».proof.Defs
public import proofs.«01_k».proof.Proof.InProj
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent

/-! # The claims about the input projection -/

@[expose] public section

set_option maxRecDepth 16384

noncomputable section

open Idealize.ShloMosaic Idealize.ShloMosaic.TcCoe Idealize.SL.Sem
open Idealize.ShloMosaic.Pipeline (Dat)

namespace Cert.InProj
open Cert.Kernel4Ideal Cert.Kernel4Ideal.Gen

theorem frame_kernel : Cert.quiescent_Kernel4 := fun m ρ _ => Cert.Kernel4.Gen.frame m ρ
theorem frame_ideal : Cert.quiescent_Kernel4Ideal := fun m ρ _ => Cert.Kernel4Ideal.Gen.frame (F := Ideal) m ρ
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The reference's result, of the arrays in its buffers. -/
def ofVal (V : Valuation Cert.Reference4Ideal.τ Cert.Reference4Ideal.sig (Elt Ideal)) :=
  Cert.Reference4Ideal.Read.val_main_v13 (F := Ideal) (V (Proc.devRef .tc Cert.Reference4Ideal.main_arg0)) (V (Proc.devRef .tc Cert.Reference4Ideal.main_arg1)) (V (Proc.devRef .tc Cert.Reference4Ideal.main_arg2))

/-- Where the two programs are given the same arrays, the two results are the same. -/
theorem val_eq (m : (ℓ : Loc nD τ sig) → Buf (Elt Ideal) ℓ)
    (m' : (ℓ : Loc Cert.Reference4Ideal.nD Cert.Reference4Ideal.τ Cert.Reference4Ideal.sig) → Buf (Elt Ideal) ℓ) (c : Dev nD)
    (h : m' ((c.tc : Thread Cert.Reference4Ideal.nD Cert.Reference4Ideal.τ).loc Cert.Reference4Ideal.main_arg0) = m ((c.tc : Thread nD τ).loc main_arg0)
      ∧ m' ((c.tc : Thread Cert.Reference4Ideal.nD Cert.Reference4Ideal.τ).loc Cert.Reference4Ideal.main_arg1) = m ((c.tc : Thread nD τ).loc main_arg1)
      ∧ m' ((c.tc : Thread Cert.Reference4Ideal.nD Cert.Reference4Ideal.τ).loc Cert.Reference4Ideal.main_arg2) = m ((c.tc : Thread nD τ).loc main_arg2)) :
    ofVal (StableHlo.launchContents m' c) = proj m c := by
  obtain ⟨a0, a1, a2⟩ := h
  exact congr (congr (congrArg (Cert.Reference4Ideal.Read.val_main_v13 (F := Ideal)) a0) a1) a2

/-- The kernel's result is the projection that the reference computes. -/
theorem algebraic : Cert.algebraic_Kernel4Ideal_Reference4Ideal := by
  intro m ρ m' ρ' _ hagree
  refine ⟨fun c => proj m c, ?_, ?_⟩
  · refine (θ_run Cert.Kernel4Ideal.defs _ _).mono (fun _ h c => ?_) (Cert.Kernel4Ideal.Value.run_blocks (F := Ideal) m ρ)
    obtain ⟨h0, hr⟩ := h c
    rw [out2] at h0
    exact ⟨h0, hr⟩
  · refine (θ_run Cert.Reference4Ideal.defs _ _).mono (fun _ h c => ?_) (Cert.Reference4Ideal.Value.run (F := Ideal) m' ρ')
    obtain ⟨h0, hr⟩ := h c
    rw [Cert.Reference4Ideal.Read.val_main_v13_eq] at h0
    exact ⟨h0.trans (val_eq m m' c (hagree c)), hr⟩

end Cert.InProj
-- ==== Proof.TailFwdRef.lean ====
module

public import proofs.«01_k».proof.Proof.Gen.Reference5Ideal.Read
public import Idealize.ShloMosaic.Lib.Pipeline.ValueKit

/-! # The reference gated merge, read at an entry

The values the reference computes on the way to its results, each as a formula in the entries of the values before it. -/

@[expose] public section

set_option maxRecDepth 16384

noncomputable section

open Idealize.ShloMosaic Idealize.ShloMosaic.TcCoe Idealize.SL.Sem
open Idealize.ShloMosaic.Pipeline (Dat)

namespace Cert.TailFwd
open Cert.Reference5Ideal Cert.Reference5Ideal.Gen Cert.Reference5Ideal.Read

/-- The arrays both programs are given, but for the target. -/
structure In where
  x : Vec Ideal S8192x1024 .f32
  cv : Vec Ideal S8192x512 .f32
  at' : Vec Ideal S8192x512 .f32
  pv : Vec Ideal S8192x512 .f32
  z : Vec Ideal S8192x7680 .f32
  wc : Vec Ideal S512x1024 .f32
  wa : Vec Ideal S512x1024 .f32
  wp : Vec Ideal S512x1024 .f32
  wo : Vec Ideal S1024x1024 .f32
  g : Vec Ideal S1024 .f32

namespace In
variable (I : In)

/-- The sigmoid of the gate columns, the three branch products, the merged activations, their projection, and the layer's output. -/
def sig : Vec Ideal S8192x3072 .f32 := val_main_v9 I.z
def yc : Vec Ideal S8192x1024 .f32 := val_main_v1 I.cv I.wc
def ya : Vec Ideal S8192x1024 .f32 := val_main_v2 I.at' I.wa
def yp : Vec Ideal S8192x1024 .f32 := val_main_v3 I.pv I.wp
def merged : Vec Ideal S8192x1024 .f32 := val_main_v21 I.cv I.at' I.pv I.z I.wc I.wa I.wp
def y : Vec Ideal S8192x1024 .f32 := val_main_v22 I.cv I.at' I.pv I.z I.wc I.wa I.wp I.wo
def out : Vec Ideal S8192x1024 .f32 := val_main_v36 I.x I.cv I.at' I.pv I.z I.wc I.wa I.wp I.wo I.g

/-- The error against the target `tgt`. -/
def err (tgt : Vec Ideal S8192x1024 .f32) : Vec Ideal S8192x1024 .f32 := val_main_v37 I.x I.cv I.at' I.pv I.z I.wc I.wa I.wp I.wo I.g tgt

/-- The other results: the cotangent of the layer's output, the merged activations as stored, and the sums of squares. -/
def dout (tgt : Vec Ideal S8192x1024 .f32) : Vec Ideal S8192x1024 .f32 := val_main_v39 I.x I.cv I.at' I.pv I.z I.wc I.wa I.wp I.wo I.g tgt
def mout : Vec Ideal S8192x1024 .bf16 := val_main_v40 I.cv I.at' I.pv I.z I.wc I.wa I.wp
def sq (tgt : Vec Ideal S8192x1024 .f32) : Vec Ideal S1x1024 .f32 := val_main_v43 I.x I.cv I.at' I.pv I.z I.wc I.wa I.wp I.wo I.g tgt

/-- The reciprocal root mean square of row `r`. -/
def rho (r : Fin 8192) : EReal :=
  Ideal.rsqrt (Ideal.div (∑ x, I.y (ix2 r x) * I.y (ix2 r x)) (Ideal.ofBits .f32 0x44800000#32) + Ideal.ofBits .f32 0x358637BD#32)

theorem sig_apply (r : Fin 8192) (c : Fin 3072) :
    I.sig (ix2 r c) = Ideal.div 1 (1 + Ideal.exp (-(I.z (ix2 r ⟨4608 + c.val, by omega⟩)))) := by
  unfold sig
  pointwise [val_main_v9, val_main_v8, val_main_v7, val_main_v6, val_main_v5, val_main_v4, val_main_v0, val_main_cst, val_main_cst_0]

theorem yc_apply (r : Fin 8192) (l : Fin 1024) : I.yc (ix2 r l) = ∑ k, I.cv (ix2 r k) * I.wc (ix2 k l) := by
  unfold yc; pointwise [val_main_v1]
theorem ya_apply (r : Fin 8192) (l : Fin 1024) : I.ya (ix2 r l) = ∑ k, I.at' (ix2 r k) * I.wa (ix2 k l) := by
  unfold ya; pointwise [val_main_v2]
theorem yp_apply (r : Fin 8192) (l : Fin 1024) : I.yp (ix2 r l) = ∑ k, I.pv (ix2 r k) * I.wp (ix2 k l) := by
  unfold yp; pointwise [val_main_v3]

theorem merged_apply (r : Fin 8192) (l : Fin 1024) : I.merged (ix2 r l)
    = I.sig (ix2 r ⟨l.val, by omega⟩) * I.yc (ix2 r l) + I.sig (ix2 r ⟨1024 + l.val, by omega⟩) * I.ya (ix2 r l)
      + I.sig (ix2 r ⟨2048 + l.val, by omega⟩) * I.yp (ix2 r l) := by
  unfold merged sig yc ya yp
  pointwise [val_main_v21, val_main_v20, val_main_v19, val_main_v18, val_main_v17, val_main_v16, val_main_v15, val_main_v14,
    val_main_v13, val_main_v12, val_main_v11, val_main_v10]

theorem y_apply (r : Fin 8192) (l : Fin 1024) : I.y (ix2 r l) = ∑ k, I.merged (ix2 r k) * I.wo (ix2 k l) := by
  unfold y merged; pointwise [val_main_v22]

theorem mout_apply (r : Fin 8192) (l : Fin 1024) : I.mout (ix2 r l) = I.merged (ix2 r l) := by
  unfold mout merged; pointwise [val_main_v40]

theorem out_apply (r : Fin 8192) (l : Fin 1024) :
    I.out (ix2 r l) = I.x (ix2 r l) + I.y (ix2 r l) * I.rho r * I.g (ix1 l) := by
  unfold out rho y
  generalize hY : val_main_v22 I.cv I.at' I.pv I.z I.wc I.wa I.wp I.wo = Y
  pointwise [val_main_v36, val_main_v35, val_main_v34, val_main_v33, val_main_v32, val_main_v31, val_main_v30,
    val_main_v29, val_main_v28, val_main_v27, val_main_v26, val_main_v25, val_main_v24, val_main_v23, hY,
    val_main_cst_1, val_main_cst_2, val_main_cst_3]

variable (tgt : Vec Ideal S8192x1024 .f32)

theorem err_apply (r : Fin 8192) (l : Fin 1024) : I.err tgt (ix2 r l) = I.out (ix2 r l) - tgt (ix2 r l) := by
  unfold err out
  pointwise [val_main_v37]

theorem dout_apply (r : Fin 8192) (l : Fin 1024) :
    I.dout tgt (ix2 r l) = Ideal.div (I.err tgt (ix2 r l)) (Ideal.ofBits .f32 0x44800000#32) := by
  unfold dout err
  pointwise [val_main_v39, val_main_v38, val_main_cst_4]

theorem sq_apply (l : Fin 1024) : I.sq tgt (ix2 0 l) = ∑ r, I.err tgt (ix2 r l) * I.err tgt (ix2 r l) := by
  unfold sq err
  pointwise [val_main_v43, val_main_v42, val_main_v41, val_main_cst_5]

end In
end Cert.TailFwd
-- ==== Proof.TailFwdBlock.lean ====
module

public import proofs.«01_k».proof.Proof.Gen.Kernel5Ideal.Skeleton
public import proofs.«01_k».proof.Proof.TailFwdRef
public import Idealize.ShloMosaic.Lib.Pipeline.ValueKit

/-! # One block of rows of the gated merge

What the kernel computes from one block of 256 rows, entry by entry, is what the reference computes at those rows. -/

@[expose] public section

set_option maxRecDepth 16384

noncomputable section

open Idealize.ShloMosaic Idealize.ShloMosaic.TcCoe Idealize.SL.Sem
open Idealize.ShloMosaic.Pipeline (Dat)

namespace Cert.TailFwd
open Cert.Kernel5Ideal Cert.Kernel5Ideal.Gen

/-- The blocks a grid point is given, with what each holds: rows `row r` of the arrays cut by rows, the others whole. -/
structure Blk (I : In) (row : Fin 256 → Fin 8192) where
  cv : Vec Ideal S256x512 .bf16
  at' : Vec Ideal S256x512 .bf16
  pv : Vec Ideal S256x512 .bf16
  za : Vec Ideal S256x1536 .f32
  zb : Vec Ideal S256x1536 .f32
  x : Vec Ideal S256x1024 .f32
  wc : Vec Ideal S512x1024 .bf16
  wa : Vec Ideal S512x1024 .bf16
  wp : Vec Ideal S512x1024 .bf16
  wo : Vec Ideal S1024x1024 .bf16
  g : Vec Ideal S1x1024 .f32
  hcv : ∀ r l, cv (ix2 r l) = I.cv (ix2 (row r) l)
  hat : ∀ r l, at' (ix2 r l) = I.at' (ix2 (row r) l)
  hpv : ∀ r l, pv (ix2 r l) = I.pv (ix2 (row r) l)
  hza : ∀ r (l : Fin 1536), za (ix2 r l) = I.z (ix2 (row r) ⟨4608 + l.val, by omega⟩)
  hzb : ∀ r (l : Fin 1536), zb (ix2 r l) = I.z (ix2 (row r) ⟨6144 + l.val, by omega⟩)
  hx : ∀ r l, x (ix2 r l) = I.x (ix2 (row r) l)
  hwc : ∀ k l, wc (ix2 k l) = I.wc (ix2 k l)
  hwa : ∀ k l, wa (ix2 k l) = I.wa (ix2 k l)
  hwp : ∀ k l, wp (ix2 k l) = I.wp (ix2 k l)
  hwo : ∀ k l, wo (ix2 k l) = I.wo (ix2 k l)
  hg : ∀ l, g (ix2 0 l) = I.g (ix1 l)

namespace Blk
variable {I : In} {row : Fin 256 → Fin 8192} (B : Blk I row)

/-- The sigmoid of a gate column. -/
def sg (x : EReal) : EReal := Ideal.div 1 (1 + Ideal.exp (-x))

/-- The six gate columns of the block, 512 columns each. -/
def z0 : Vec Ideal S256x512 .f32 := View.ld B.za (Rect.unit ![0, 0] ![256, 512] inb_S256x1536_S256x512_0_0)
def z1 : Vec Ideal S256x512 .f32 := View.ld B.za (Rect.unit ![0, 512] ![256, 512] inb_S256x1536_S256x512_0_512)
def z2 : Vec Ideal S256x512 .f32 := View.ld B.za (Rect.unit ![0, 1024] ![256, 512] inb_S256x1536_S256x512_0_1024)
def z3 : Vec Ideal S256x512 .f32 := View.ld B.zb (Rect.unit ![0, 0] ![256, 512] inb_S256x1536_S256x512_0_0)
def z4 : Vec Ideal S256x512 .f32 := View.ld B.zb (Rect.unit ![0, 512] ![256, 512] inb_S256x1536_S256x512_0_512)
def z5 : Vec Ideal S256x512 .f32 := View.ld B.zb (Rect.unit ![0, 1024] ![256, 512] inb_S256x1536_S256x512_0_1024)

theorem sg_z0 (r : Fin 256) (l : Fin 512) (q : Fin 3072) (hq : q.val = 0 + l.val) : sg (B.z0 (ix2 r l)) = I.sig (ix2 (row r) q) := by
  have hz : B.z0 (ix2 r l) = B.za (ix2 r ⟨0 + l.val, by omega⟩) := by
    unfold z0; pointwise
  obtain ⟨q, hq'⟩ := q
  simp only at hq; subst hq
  rw [hz, B.hza, In.sig_apply, sg]
theorem sg_z1 (r : Fin 256) (l : Fin 512) (q : Fin 3072) (hq : q.val = 512 + l.val) : sg (B.z1 (ix2 r l)) = I.sig (ix2 (row r) q) := by
  have hz : B.z1 (ix2 r l) = B.za (ix2 r ⟨512 + l.val, by omega⟩) := by
    unfold z1; pointwise
  obtain ⟨q, hq'⟩ := q
  simp only at hq; subst hq
  rw [hz, B.hza, In.sig_apply, sg]
theorem sg_z2 (r : Fin 256) (l : Fin 512) (q : Fin 3072) (hq : q.val = 1024 + l.val) : sg (B.z2 (ix2 r l)) = I.sig (ix2 (row r) q) := by
  have hz : B.z2 (ix2 r l) = B.za (ix2 r ⟨1024 + l.val, by omega⟩) := by
    unfold z2; pointwise
  obtain ⟨q, hq'⟩ := q
  simp only at hq; subst hq
  rw [hz, B.hza, In.sig_apply, sg]
theorem zb_apply (r : Fin 256) (l : Fin 1536) (q : Fin 3072) (hq : q.val = 1536 + l.val) : sg (B.zb (ix2 r l)) = I.sig (ix2 (row r) q) := by
  obtain ⟨q, hq'⟩ := q
  simp only at hq; subst hq
  rw [B.hzb, In.sig_apply, sg]
  refine congrArg (fun n => Ideal.div 1 (1 + Ideal.exp (-(I.z (ix2 (row r) n))))) (Fin.ext ?_)
  show 6144 + l.val = 4608 + (1536 + l.val); omega
theorem sg_z3 (r : Fin 256) (l : Fin 512) (q : Fin 3072) (hq : q.val = 1536 + l.val) : sg (B.z3 (ix2 r l)) = I.sig (ix2 (row r) q) := by
  have hz : B.z3 (ix2 r l) = B.zb (ix2 r ⟨0 + l.val, by omega⟩) := by
    unfold z3; pointwise
  rw [hz]; exact B.zb_apply r _ q (by simp only; omega)
theorem sg_z4 (r : Fin 256) (l : Fin 512) (q : Fin 3072) (hq : q.val = 2048 + l.val) : sg (B.z4 (ix2 r l)) = I.sig (ix2 (row r) q) := by
  have hz : B.z4 (ix2 r l) = B.zb (ix2 r ⟨512 + l.val, by omega⟩) := by
    unfold z4; pointwise
  rw [hz]; exact B.zb_apply r _ q (by simp only; omega)
theorem sg_z5 (r : Fin 256) (l : Fin 512) (q : Fin 3072) (hq : q.val = 2560 + l.val) : sg (B.z5 (ix2 r l)) = I.sig (ix2 (row r) q) := by
  have hz : B.z5 (ix2 r l) = B.zb (ix2 r ⟨1024 + l.val, by omega⟩) := by
    unfold z5; pointwise
  rw [hz]; exact B.zb_apply r _ q (by simp only; omega)

/-- The three branch products. -/
theorem yc_apply (r : Fin 256) (l : Fin 1024) : k0_pay3 B.cv B.wc (ix2 r l) = I.yc (ix2 (row r) l) := by
  pointwise [k0_pay3]; rw [In.yc_apply]; simp only [B.hcv, B.hwc]
theorem ya_apply (r : Fin 256) (l : Fin 1024) : k0_pay4 B.at' B.wa (ix2 r l) = I.ya (ix2 (row r) l) := by
  pointwise [k0_pay4]; rw [In.ya_apply]; simp only [B.hat, B.hwa]
theorem yp_apply (r : Fin 256) (l : Fin 1024) : k0_pay5 B.pv B.wp (ix2 r l) = I.yp (ix2 (row r) l) := by
  pointwise [k0_pay5]; rw [In.yp_apply]; simp only [B.hpv, B.hwp]

/-- The merged activations of the first 512 columns, and the first two terms of the others'. -/
def lo : FVec Ideal S256x512 .f32 :=
  k0_pay8 (k0_pay4 B.at' B.wa) (k0_pay5 B.pv B.wp) (k0_pay6 B.cv B.wc B.z0) (k0_pay7 B.z2) (Scalar.ofBits .f32 0x3F800000#32) B.z4
def hi : FVec Ideal S256x512 .f32 := k0_pay9 (k0_pay3 B.cv B.wc) (k0_pay4 B.at' B.wa) B.z1 B.z3

theorem lo_apply (r : Fin 256) (l : Fin 512) : B.lo (ix2 r l) = I.merged (ix2 (row r) ⟨l.val, by omega⟩) := by
  have h : B.lo (ix2 r l) = sg (B.z0 (ix2 r l)) * k0_pay3 B.cv B.wc (ix2 r ⟨l.val, by omega⟩)
      + sg (B.z2 (ix2 r l)) * k0_pay4 B.at' B.wa (ix2 r ⟨l.val, by omega⟩)
      + sg (B.z4 (ix2 r l)) * k0_pay5 B.pv B.wp (ix2 r ⟨l.val, by omega⟩) := by
    unfold lo sg
    generalize k0_pay4 B.at' B.wa = Y4
    generalize k0_pay5 B.pv B.wp = Y5
    pointwise [k0_pay8, k0_pay7, k0_pay6]
    simp only [sub_eq_add_neg, zero_add]
  rw [h, B.yc_apply, B.ya_apply, B.yp_apply, In.merged_apply, B.sg_z0 r l ⟨l.val, by omega⟩ (by simp),
    B.sg_z2 r l ⟨1024 + l.val, by omega⟩ rfl, B.sg_z4 r l ⟨2048 + l.val, by omega⟩ rfl]

theorem hi_apply (r : Fin 256) (l : Fin 512) : B.hi (ix2 r l) =
    I.sig (ix2 (row r) ⟨512 + l.val, by omega⟩) * I.yc (ix2 (row r) ⟨512 + l.val, by omega⟩)
      + I.sig (ix2 (row r) ⟨1024 + (512 + l.val), by omega⟩) * I.ya (ix2 (row r) ⟨512 + l.val, by omega⟩) := by
  have h : B.hi (ix2 r l) = sg (B.z1 (ix2 r l)) * k0_pay3 B.cv B.wc (ix2 r ⟨512 + l.val, by omega⟩)
      + sg (B.z3 (ix2 r l)) * k0_pay4 B.at' B.wa (ix2 r ⟨512 + l.val, by omega⟩) := by
    unfold hi sg
    generalize k0_pay3 B.cv B.wc = Y3
    generalize k0_pay4 B.at' B.wa = Y4
    pointwise [k0_pay9]
    simp only [sub_eq_add_neg, zero_add]
  rw [h, B.yc_apply, B.ya_apply, B.sg_z1 r l ⟨512 + l.val, by omega⟩ rfl,
    B.sg_z3 r l ⟨1024 + (512 + l.val), by omega⟩ (by simp only; omega)]

/-- The merged activations. -/
def mg : FVec Ideal S256x1024 .bf16 := k0_pay11 (k0_pay5 B.pv B.wp) B.lo B.hi B.z5 (k0_pay10 (F := Ideal))

theorem mg_apply (r : Fin 256) (l : Fin 1024) : B.mg (ix2 r l) = I.merged (ix2 (row r) l) := by
  by_cases hl : l.val < 512
  · have h : B.mg (ix2 r l) = B.lo (ix2 r ⟨l.val, hl⟩) := by
      unfold mg
      generalize k0_pay5 B.pv B.wp = Y5
      pointwise [k0_pay11, k0_pay10]
      rw [dif_pos hl]
    rw [h, B.lo_apply]
  · have h : B.mg (ix2 r l) = B.hi (ix2 r ⟨l.val - 512, by omega⟩) + sg (B.z5 (ix2 r ⟨l.val - 512, by omega⟩))
        * k0_pay5 B.pv B.wp (ix2 r ⟨512 + (l.val - 512), by omega⟩) := by
      unfold mg sg
      generalize k0_pay5 B.pv B.wp = Y5
      pointwise [k0_pay11, k0_pay10]
      simp only [dif_neg hl, sub_eq_add_neg, zero_add]
    have hq : (⟨512 + (l.val - 512), by omega⟩ : Fin 1024) = l := Fin.ext (by show 512 + (l.val - 512) = l.val; omega)
    have hq' : (512 + (l.val - 512)) = l.val := by omega
    rw [h, B.hi_apply, B.yp_apply, In.merged_apply, B.sg_z5 r _ ⟨2048 + l.val, by omega⟩ (by simp only; omega)]
    simp only [hq']

/-- Their projection. -/
def py : FVec Ideal S256x1024 .f32 := k0_pay12 (k0_pay5 B.pv B.wp) B.lo B.hi B.z5 (k0_pay10 (F := Ideal)) B.wo

theorem py_apply (r : Fin 256) (l : Fin 1024) : B.py (ix2 r l) = I.y (ix2 (row r) l) := by
  have h : B.py (ix2 r l) = ∑ k, B.mg (ix2 r k) * B.wo (ix2 k l) := by
    unfold py mg
    generalize hM : k0_pay11 (k0_pay5 B.pv B.wp) B.lo B.hi B.z5 (k0_pay10 (F := Ideal)) = M
    pointwise [k0_pay12, hM]
  rw [h, In.y_apply]; simp only [B.mg_apply, B.hwo]

variable (T : Vec Ideal S256x1024 .f32) (tgt : Vec Ideal Cert.Reference5Ideal.S8192x1024 .f32) (hT : ∀ r l, T (ix2 r l) = tgt (ix2 (row r) l))

/-- The error, `T` the block of the target. -/
def pe : FVec Ideal S256x1024 .f32 :=
  k0_pay13 (k0_pay5 B.pv B.wp) B.lo B.hi B.z5 (k0_pay10 (F := Ideal)) B.wo B.x B.g T

/-- The layer's output, once the rows of the projection are those of the reference. -/
theorem out_of (r : Fin 256) (l : Fin 1024) : B.x (ix2 r l) + B.py (ix2 r l) * Ideal.rsqrt (Ideal.div (∑ k, B.py (ix2 r k) * B.py (ix2 r k))
      (Ideal.ofBits .f32 0x44800000#32) + Ideal.ofBits .f32 0x358637BD#32) * B.g (ix2 0 l) = I.out (ix2 (row r) l) := by
  rw [In.out_apply]; simp only [B.py_apply, B.hx, B.hg, In.rho]

include hT in
theorem pe_apply (r : Fin 256) (l : Fin 1024) : B.pe T (ix2 r l) = I.err tgt (ix2 (row r) l) := by
  have h : B.pe T (ix2 r l) = B.x (ix2 r l) + B.py (ix2 r l) * Ideal.rsqrt (Ideal.div (∑ k, B.py (ix2 r k) * B.py (ix2 r k))
      (Ideal.ofBits .f32 0x44800000#32) + Ideal.ofBits .f32 0x358637BD#32) * B.g (ix2 0 l) - T (ix2 r l) := by
    unfold pe py
    generalize hY : k0_pay12 (k0_pay5 B.pv B.wp) B.lo B.hi B.z5 (k0_pay10 (F := Ideal)) B.wo = Y
    pointwise [k0_pay13, hY]
  rw [h, B.out_of, In.err_apply, hT]

include hT in
/-- The cotangent of the layer's output. -/
theorem pd_apply (r : Fin 256) (l : Fin 1024) :
    k0_pay14 (k0_pay5 B.pv B.wp) B.lo B.hi B.z5 (k0_pay10 (F := Ideal)) B.wo B.x B.g T (ix2 r l) = I.dout tgt (ix2 (row r) l) := by
  rw [In.dout_apply, ← B.pe_apply T tgt hT]
  unfold pe
  generalize hE : k0_pay13 (k0_pay5 B.pv B.wp) B.lo B.hi B.z5 (k0_pay10 (F := Ideal)) B.wo B.x B.g T = E
  pointwise [k0_pay14, hE]

include hT in
/-- What the block adds to the sums of squares. -/
theorem ps_apply (A : Vec Ideal S1x1024 .f32) (l : Fin 1024) :
    k0_pay2 (B.pe T) A (ix2 0 l) = A (ix2 0 l) + ∑ r, I.err tgt (ix2 (row r) l) * I.err tgt (ix2 (row r) l) := by
  simp only [← B.pe_apply T tgt hT]
  generalize B.pe T = E
  pointwise [k0_pay2]

end Blk
end Cert.TailFwd
-- ==== Proof.TailFwd.lean ====
module

public import proofs.«01_k».proof.Proof.Gen.Kernel5Ideal.Frame
public import proofs.«01_k».proof.Proof.TailFwdBlock
public import Idealize.ShloMosaic.Lib.Pipeline.ValueKit
public import Idealize.ShloMosaic.Lib.Pipeline.ReadBack

/-! # The arrays the gated merge with the loss ends with

Grid point `t` is given rows `256 t …` of the arrays that are cut by rows, and the weights whole. -/

@[expose] public section

set_option maxRecDepth 16384

noncomputable section

open Idealize.ShloMosaic Idealize.ShloMosaic.TcCoe Idealize.SL.Sem
open Idealize.ShloMosaic.Pipeline (Dat)

namespace Cert.TailFwd
open Cert.Kernel5Ideal Cert.Kernel5Ideal.Gen
variable (m : (ℓ : Loc nD τ sig) → Buf (Elt Ideal) ℓ) (c : Dev nD)

/-- The arrays the program is given: those before the target, and the target. -/
def inp : In where
  x := m ((c : Thread nD τ).loc main_arg0)
  cv := m ((c : Thread nD τ).loc main_arg1)
  at' := m ((c : Thread nD τ).loc main_arg2)
  pv := m ((c : Thread nD τ).loc main_arg3)
  z := m ((c : Thread nD τ).loc main_arg4)
  wc := m ((c : Thread nD τ).loc main_arg5)
  wa := m ((c : Thread nD τ).loc main_arg6)
  wp := m ((c : Thread nD τ).loc main_arg7)
  wo := m ((c : Thread nD τ).loc main_arg8)
  g := m ((c : Thread nD τ).loc main_arg9)

def tgt : Vec Ideal Cert.Reference5Ideal.S8192x1024 .f32 := m ((c : Thread nD τ).loc main_arg10)

theorem pt_lt (t : Fin cfg0.N) : t.val < 32 := t.isLt

/-- Row `r` of point `t`'s block. -/
def rowAt (t : Fin cfg0.N) (r : Fin 256) : Fin 8192 := ⟨t.val * 256 + r.val, by have := pt_lt t; omega⟩

theorem idx : ∀ t : Fin cfg0.N, win0_0.index t = ![t.val, 0] ∧ win0_1.index t = ![t.val, 0] ∧ win0_2.index t = ![t.val, 0]
    ∧ win0_3.index t = ![t.val, 3] ∧ win0_4.index t = ![t.val, 4] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![0, 0] :=
  (by decide +kernel : ∀ t : Fin grid0.N, _)

theorem V_cv : V m c main_v5 = (inp m c).cv := by
  unfold V; after_results; rfl
theorem V_at : V m c main_v6 = (inp m c).at' := by
  unfold V; after_results; rfl
theorem V_pv : V m c main_v7 = (inp m c).pv := by
  unfold V; after_results; rfl
theorem V_wc : V m c main_v0 = (inp m c).wc := by
  unfold V; after_results; rfl
theorem V_wa : V m c main_v1 = (inp m c).wa := by
  unfold V; after_results; rfl
theorem V_wp : V m c main_v2 = (inp m c).wp := by
  unfold V; after_results; rfl
theorem V_wo : V m c main_v3 = (inp m c).wo := by
  unfold V; after_results; rfl
theorem V_g (l : Fin 1024) : V m c main_v4 (ix2 0 l) = (inp m c).g (ix1 l) := by
  unfold V; after_results; pointwise; rfl

set_option maxHeartbeats 1600000 in
/-- Grid point `t`'s blocks, with what each of them holds. -/
def blk (t : Fin cfg0.N) : Blk (inp m c) (rowAt t) where
  cv := iblk m c 0 t
  at' := iblk m c 1 t
  pv := iblk m c 2 t
  za := iblk m c 3 t
  zb := iblk m c 4 t
  x := iblk m c 5 t
  wc := iblk m c 6 t
  wa := iblk m c 7 t
  wp := iblk m c 8 t
  wo := iblk m c 9 t
  g := iblk m c 10 t
  hcv r l := by
    rw [← V_cv]; unfold rowAt; blk_ext [iblk, idx t]
  hat r l := by
    rw [← V_at]; unfold rowAt; blk_ext [iblk, idx t]
  hpv r l := by
    rw [← V_pv]; unfold rowAt; blk_ext [iblk, idx t]
  hza r l := by unfold rowAt inp; blk_ext [iblk, V, idx t]
  hzb r l := by unfold rowAt inp; blk_ext [iblk, V, idx t]
  hx r l := by unfold rowAt inp; blk_ext [iblk, V, idx t]
  hwc k l := by
    rw [← V_wc]; blk_ext [iblk, idx t]
  hwa k l := by
    rw [← V_wa]; blk_ext [iblk, idx t]
  hwp k l := by
    rw [← V_wp]; blk_ext [iblk, idx t]
  hwo k l := by
    rw [← V_wo]; blk_ext [iblk, idx t]
  hg l := by
    rw [← V_g]; blk_ext [iblk, idx t]

theorem tgts (t : Fin cfg0.N) (r : Fin 256) (l : Fin 1024) : iblk m c 11 t (ix2 r l) = tgt m c (ix2 (rowAt t r) l) := by
  unfold rowAt tgt; blk_ext [iblk, V, idx t]

set_option maxHeartbeats 1600000 in
theorem point12 (t : Fin cfg0.N) (r : Fin 256) (l : Fin 1024) :
    (outsAt0 m c t.val t.isLt).1 (ix2 r l) = (inp m c).dout (tgt m c) (ix2 (rowAt t r) l) := by
  refine Eq.trans ?_ ((blk m c t).pd_apply _ _ (tgts m c t) r l)
  by_cases h : t.val % 32 = 0
  · rw [outsAt0_A m c t h]; frame_out; rfl
  · rw [outsAt0_B m c t h]; frame_out; rfl

theorem out12 : (dats m 0 c).arrAt 12 cfg0.N = (inp m c).dout (tgt m c) := by
  refine (dats m 0 c).arrAt_eq_of_covers 12 _ (by decide +kernel) fun t _ y => ?_
  blk_simp [idx t]; rw [after0_12]
  idx_vars y
  refine (point12 m c t y0 y1).trans ?_
  unfold rowAt; blk_ext [idx t]

set_option maxHeartbeats 1600000 in
theorem point13 (t : Fin cfg0.N) (r : Fin 256) (l : Fin 1024) :
    (outsAt0 m c t.val t.isLt).2.1 (ix2 r l) = (inp m c).mout (ix2 (rowAt t r) l) := by
  refine Eq.trans ?_ (((blk m c t).mg_apply r l).trans ((inp m c).mout_apply _ l).symm)
  by_cases h : t.val % 32 = 0
  · rw [outsAt0_A m c t h]; frame_out; rfl
  · rw [outsAt0_B m c t h]; frame_out; rfl

theorem out13 : (dats m 0 c).arrAt 13 cfg0.N = (inp m c).mout := by
  refine (dats m 0 c).arrAt_eq_of_covers 13 _ (by decide +kernel) fun t _ y => ?_
  blk_simp [idx t]; rw [after0_13]
  idx_vars y
  refine (point13 m c t y0 y1).trans ?_
  unfold rowAt; blk_ext [idx t]

set_option maxHeartbeats 1600000 in
theorem point14 (t : Fin cfg0.N) (r : Fin 256) (l : Fin 1024) :
    (outsAt0 m c t.val t.isLt).2.2.1 (ix2 r l) = (inp m c).y (ix2 (rowAt t r) l) := by
  refine Eq.trans ?_ ((blk m c t).py_apply r l)
  by_cases h : t.val % 32 = 0
  · rw [outsAt0_A m c t h]; frame_out; rfl
  · rw [outsAt0_B m c t h]; frame_out; rfl

theorem out14 : (dats m 0 c).arrAt 14 cfg0.N = (inp m c).y := by
  refine (dats m 0 c).arrAt_eq_of_covers 14 _ (by decide +kernel) fun t _ y => ?_
  blk_simp [idx t]; rw [after0_14]
  idx_vars y
  refine (point14 m c t y0 y1).trans ?_
  unfold rowAt; blk_ext [idx t]

theorem zero_row (l : Fin 1024) : k0_pay1 (F := Ideal) (ix2 0 l) = 0 := by
  pointwise [k0_pay1]

/-- What one token adds to the sum of squares of a column. -/
def sqP (n : Fin 8192) (l : Fin 1024) : EReal := (inp m c).err (tgt m c) (ix2 n l) * (inp m c).err (tgt m c) (ix2 n l)

/-- The tokens of all points are the tokens. -/
theorem sum_points (f : Fin 8192 → EReal) (t : Fin cfg0.N) (h : t.val % 32 = 32 - 1) :
    ∑ s : Fin 32, ∑ r, f (rowAt ⟨32 * (t.val / 32) + s.val, Pipeline.run_point_lt_of_flush t h s⟩ r) = ∑ n, f n := by
  have ht := pt_lt t
  refine Fin.sum_mul_add_congr fun s r hl => ?_
  refine congrArg f (Fin.ext ?_)
  unfold rowAt; simp only; omega

set_option maxHeartbeats 1600000 in
theorem point15 (t : Fin cfg0.N) (hr : t.val % 32 = 32 - 1) (l : Fin 1024) :
    (outsAt0 m c t.val t.isLt).2.2.2 (ix2 0 l) = 0 + ∑ s : Fin 32, ∑ r, sqP m c (rowAt ⟨32 * (t.val / 32) + s.val, Pipeline.run_point_lt_of_flush t hr s⟩ r) l := by
  refine Pipeline.eq_sum_fin_of_reset_step_apply_of_flush (fun n h (l : Fin 1024) => (outsAt0 m c n h).2.2.2 (ix2 0 l)) 32 (fun _ => 0)
    (fun t l => ∑ r, sqP m c (rowAt t r) l)
    (fun t h l => ?_) (fun t h l => ?_) t hr l
  · rw [outsAt0_A m c t h]; frame_out
    exact ((blk m c t).ps_apply _ _ (tgts m c t) _ l).trans (congrArg (· + _) (zero_row l))
  · rw [outsAt0_B m c t h]; frame_out
    exact (blk m c t).ps_apply _ _ (tgts m c t) _ l

theorem out15 : (dats m 0 c).arrAt 15 cfg0.N = (inp m c).sq (tgt m c) := by
  refine (dats m 0 c).arrAt_eq_of_covers 15 _ (by decide +kernel) fun t hf y => ?_
  have hr := (flush0_15 t).mp hf
  blk_simp [idx t]; rw [after0_15]
  idx_vars y
  obtain rfl : y0 = 0 := Subsingleton.elim _ _
  refine (point15 m c t hr y1).trans ?_
  rw [zero_add, sum_points (fun n => sqP m c n y1) t hr]
  refine ((inp m c).sq_apply (tgt m c) y1).symm.trans ?_
  blk_ext [idx t]

end Cert.TailFwd
-- ==== Proof.TailFwdClaim.lean ====
module

public import proofs.«01_k».proof.Defs
public import proofs.«01_k».proof.Proof.TailFwd
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Quiescent

/-! # The claims about the gated merge with the loss -/

@[expose] public section

set_option maxRecDepth 16384

noncomputable section

open Idealize.ShloMosaic Idealize.ShloMosaic.TcCoe Idealize.SL.Sem
open Idealize.ShloMosaic.Pipeline (Dat)

namespace Cert.TailFwd
open Cert.Kernel5Ideal Cert.Kernel5Ideal.Gen

theorem frame_kernel : Cert.quiescent_Kernel5 := fun m ρ _ => Cert.Kernel5.Gen.frame m ρ
theorem frame_ideal : Cert.quiescent_Kernel5Ideal := fun m ρ _ => Cert.Kernel5Ideal.Gen.frame (F := Ideal) m ρ
theorem frame_reference : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

/-- The arrays in the reference's buffers. -/
def ofVal (V : Valuation Cert.Reference5Ideal.τ Cert.Reference5Ideal.sig (Elt Ideal)) : In where
  x := V (Proc.devRef .tc Cert.Reference5Ideal.main_arg0)
  cv := V (Proc.devRef .tc Cert.Reference5Ideal.main_arg1)
  at' := V (Proc.devRef .tc Cert.Reference5Ideal.main_arg2)
  pv := V (Proc.devRef .tc Cert.Reference5Ideal.main_arg3)
  z := V (Proc.devRef .tc Cert.Reference5Ideal.main_arg4)
  wc := V (Proc.devRef .tc Cert.Reference5Ideal.main_arg5)
  wa := V (Proc.devRef .tc Cert.Reference5Ideal.main_arg6)
  wp := V (Proc.devRef .tc Cert.Reference5Ideal.main_arg7)
  wo := V (Proc.devRef .tc Cert.Reference5Ideal.main_arg8)
  g := V (Proc.devRef .tc Cert.Reference5Ideal.main_arg9)

def tgtVal (V : Valuation Cert.Reference5Ideal.τ Cert.Reference5Ideal.sig (Elt Ideal)) : Vec Ideal Cert.Reference5Ideal.S8192x1024 .f32 := V (Proc.devRef .tc Cert.Reference5Ideal.main_arg10)

theorem dout_eq (V : Valuation Cert.Reference5Ideal.τ Cert.Reference5Ideal.sig (Elt Ideal)) :
    Cert.Reference5Ideal.Read.val_main_v39 (F := Ideal) (V (Proc.devRef .tc Cert.Reference5Ideal.main_arg0)) (V (Proc.devRef .tc Cert.Reference5Ideal.main_arg1)) (V (Proc.devRef .tc Cert.Reference5Ideal.main_arg2)) (V (Proc.devRef .tc Cert.Reference5Ideal.main_arg3)) (V (Proc.devRef .tc Cert.Reference5Ideal.main_arg4)) (V (Proc.devRef .tc Cert.Reference5Ideal.main_arg5)) (V (Proc.devRef .tc Cert.Reference5Ideal.main_arg6)) (V (Proc.devRef .tc Cert.Reference5Ideal.main_arg7)) (V (Proc.devRef .tc Cert.Reference5Ideal.main_arg8)) (V (Proc.devRef .tc Cert.Reference5Ideal.main_arg9)) (V (Proc.devRef .tc Cert.Reference5Ideal.main_arg10))
      = (ofVal V).dout (tgtVal V) := rfl
theorem mout_eq (V : Valuation Cert.Reference5Ideal.τ Cert.Reference5Ideal.sig (Elt Ideal)) :
    Cert.Reference5Ideal.Read.val_main_v40 (F := Ideal) (V (Proc.devRef .tc Cert.Reference5Ideal.main_arg1)) (V (Proc.devRef .tc Cert.Reference5Ideal.main_arg2)) (V (Proc.devRef .tc Cert.Reference5Ideal.main_arg3)) (V (Proc.devRef .tc Cert.Reference5Ideal.main_arg4)) (V (Proc.devRef .tc Cert.Reference5Ideal.main_arg5)) (V (Proc.devRef .tc Cert.Reference5Ideal.main_arg6)) (V (Proc.devRef .tc Cert.Reference5Ideal.main_arg7))
      = (ofVal V).mout := rfl
theorem y_eq (V : Valuation Cert.Reference5Ideal.τ Cert.Reference5Ideal.sig (Elt Ideal)) :
    Cert.Reference5Ideal.Read.val_main_v22 (F := Ideal) (V (Proc.devRef .tc Cert.Reference5Ideal.main_arg1)) (V (Proc.devRef .tc Cert.Reference5Ideal.main_arg2)) (V (Proc.devRef .tc Cert.Reference5Ideal.main_arg3)) (V (Proc.devRef .tc Cert.Reference5Ideal.main_arg4)) (V (Proc.devRef .tc Cert.Reference5Ideal.main_arg5)) (V (Proc.devRef .tc Cert.Reference5Ideal.main_arg6)) (V (Proc.devRef .tc Cert.Reference5Ideal.main_arg7)) (V (Proc.devRef .tc Cert.Reference5Ideal.main_arg8))
      = (ofVal V).y := rfl
theorem sq_eq (V : Valuation Cert.Reference5Ideal.τ Cert.Reference5Ideal.sig (Elt Ideal)) :
    Cert.Reference5Ideal.Read.val_main_v43 (F := Ideal) (V (Proc.devRef .tc Cert.Reference5Ideal.main_arg0)) (V (Proc.devRef .tc Cert.Reference5Ideal.main_arg1)) (V (Proc.devRef .tc Cert.Reference5Ideal.main_arg2)) (V (Proc.devRef .tc Cert.Reference5Ideal.main_arg3)) (V (Proc.devRef .tc Cert.Reference5Ideal.main_arg4)) (V (Proc.devRef .tc Cert.Reference5Ideal.main_arg5)) (V (Proc.devRef .tc Cert.Reference5Ideal.main_arg6)) (V (Proc.devRef .tc Cert.Reference5Ideal.main_arg7)) (V (Proc.devRef .tc Cert.Reference5Ideal.main_arg8)) (V (Proc.devRef .tc Cert.Reference5Ideal.main_arg9)) (V (Proc.devRef .tc Cert.Reference5Ideal.main_arg10))
      = (ofVal V).sq (tgtVal V) := rfl

/-- Where the two programs are given the same arrays, the reference's buffers hold the kernel's arrays. -/
theorem inp_eq (m : (ℓ : Loc nD τ sig) → Buf (Elt Ideal) ℓ)
    (m' : (ℓ : Loc Cert.Reference5Ideal.nD Cert.Reference5Ideal.τ Cert.Reference5Ideal.sig) → Buf (Elt Ideal) ℓ) (c : Dev nD)
    (h : m' ((c.tc : Thread Cert.Reference5Ideal.nD Cert.Reference5Ideal.τ).loc Cert.Reference5Ideal.main_arg0) = m ((c.tc : Thread nD τ).loc main_arg0)
      ∧ m' ((c.tc : Thread Cert.Reference5Ideal.nD Cert.Reference5Ideal.τ).loc Cert.Reference5Ideal.main_arg1) = m ((c.tc : Thread nD τ).loc main_arg1)
      ∧ m' ((c.tc : Thread Cert.Reference5Ideal.nD Cert.Reference5Ideal.τ).loc Cert.Reference5Ideal.main_arg2) = m ((c.tc : Thread nD τ).loc main_arg2)
      ∧ m' ((c.tc : Thread Cert.Reference5Ideal.nD Cert.Reference5Ideal.τ).loc Cert.Reference5Ideal.main_arg3) = m ((c.tc : Thread nD τ).loc main_arg3)
      ∧ m' ((c.tc : Thread Cert.Reference5Ideal.nD Cert.Reference5Ideal.τ).loc Cert.Reference5Ideal.main_arg4) = m ((c.tc : Thread nD τ).loc main_arg4)
      ∧ m' ((c.tc : Thread Cert.Reference5Ideal.nD Cert.Reference5Ideal.τ).loc Cert.Reference5Ideal.main_arg5) = m ((c.tc : Thread nD τ).loc main_arg5)
      ∧ m' ((c.tc : Thread Cert.Reference5Ideal.nD Cert.Reference5Ideal.τ).loc Cert.Reference5Ideal.main_arg6) = m ((c.tc : Thread nD τ).loc main_arg6)
      ∧ m' ((c.tc : Thread Cert.Reference5Ideal.nD Cert.Reference5Ideal.τ).loc Cert.Reference5Ideal.main_arg7) = m ((c.tc : Thread nD τ).loc main_arg7)
      ∧ m' ((c.tc : Thread Cert.Reference5Ideal.nD Cert.Reference5Ideal.τ).loc Cert.Reference5Ideal.main_arg8) = m ((c.tc : Thread nD τ).loc main_arg8)
      ∧ m' ((c.tc : Thread Cert.Reference5Ideal.nD Cert.Reference5Ideal.τ).loc Cert.Reference5Ideal.main_arg9) = m ((c.tc : Thread nD τ).loc main_arg9)
      ∧ m' ((c.tc : Thread Cert.Reference5Ideal.nD Cert.Reference5Ideal.τ).loc Cert.Reference5Ideal.main_arg10) = m ((c.tc : Thread nD τ).loc main_arg10)) :
    ofVal (StableHlo.launchContents m' c) = inp m c ∧ tgtVal (StableHlo.launchContents m' c) = tgt m c := by
  obtain ⟨a0, a1, a2, a3, a4, a5, a6, a7, a8, a9, a10⟩ := h
  exact ⟨by unfold ofVal inp; congr 1 <;> assumption, a10⟩

/-- The kernel's four results are the values that the reference computes. -/
theorem algebraic : Cert.algebraic_Kernel5Ideal_Reference5Ideal := by
  intro m ρ m' ρ' _ hagree
  refine ⟨fun c => (inp m c).dout (tgt m c), fun c => (inp m c).mout, fun c => (inp m c).y, fun c => (inp m c).sq (tgt m c), ?_, ?_⟩
  · refine (θ_run Cert.Kernel5Ideal.defs _ _).mono (fun _ h c => ?_) (Cert.Kernel5Ideal.Value.run_blocks (F := Ideal) m ρ)
    obtain ⟨h0, h1, h2, h3, hr⟩ := h c
    rw [out12] at h0; rw [out13] at h1; rw [out14] at h2; rw [out15] at h3
    exact ⟨h0, h1, h2, h3, hr⟩
  · refine (θ_run Cert.Reference5Ideal.defs _ _).mono (fun _ h c => ?_) (Cert.Reference5Ideal.Value.run (F := Ideal) m' ρ')
    obtain ⟨h0, h1, h2, h3, hr⟩ := h c
    obtain ⟨hin, ht⟩ := inp_eq m m' c (hagree c)
    rw [Cert.Reference5Ideal.Read.val_main_v39_eq] at h0
    rw [Cert.Reference5Ideal.Read.val_main_v40_eq] at h1
    rw [Cert.Reference5Ideal.Read.val_main_v22_eq] at h2
    rw [Cert.Reference5Ideal.Read.val_main_v43_eq] at h3
    exact ⟨h0.trans ((dout_eq (StableHlo.launchContents m' c)).trans (congr (congrArg In.dout hin) ht)), h1.trans ((mout_eq (StableHlo.launchContents m' c)).trans (congrArg In.mout hin)),
      h2.trans ((y_eq (StableHlo.launchContents m' c)).trans (congrArg In.y hin)), h3.trans ((sq_eq (StableHlo.launchContents m' c)).trans (congr (congrArg In.sq hin) ht)), hr⟩

end Cert.TailFwd
-- ==== Proof.TailNextBlock.lean ====
module

public import proofs.«01_k».proof.Proof.Gen.Kernel6Ideal.Skeleton
public import proofs.«01_k».proof.Proof.Gen.Reference6Ideal.Read
public import proofs.«01_k».proof.Proof.TailFwdBlock
public import Idealize.ShloMosaic.Lib.Pipeline.ValueKit

/-! # The gated merge followed by the next layer's norm

The merge is the one of the last layer. What follows it, instead of the loss, is the norm of the layer's output. -/

@[expose] public section

set_option maxRecDepth 16384

noncomputable section

open Idealize.ShloMosaic Idealize.ShloMosaic.TcCoe Idealize.SL.Sem
open Idealize.ShloMosaic.Pipeline (Dat)

namespace Cert.TailFwd

namespace In
open Cert.Reference6Ideal Cert.Reference6Ideal.Read
variable (I : In) (ng : Vec Ideal S1024 .f32)

/-- The next layer's input, rounded, and its transpose; `ng` the gain of the next layer's norm. -/
def h : Vec Ideal S8192x1024 .bf16 := val_main_v51 I.x I.cv I.at' I.pv I.z I.wc I.wa I.wp I.wo I.g ng
def hT : Vec Ideal S1024x8192 .bf16 := val_main_v53 I.x I.cv I.at' I.pv I.z I.wc I.wa I.wp I.wo I.g ng

theorem h_apply (r : Fin 8192) (l : Fin 1024) : I.h ng (ix2 r l) = I.out (ix2 r l) * Ideal.rsqrt (Ideal.div (∑ k, I.out (ix2 r k) * I.out (ix2 r k))
      (Ideal.ofBits .f32 0x44800000#32) + Ideal.ofBits .f32 0x358637BD#32) * ng (ix1 l) := by
  have e : val_main_v36 I.x I.cv I.at' I.pv I.z I.wc I.wa I.wp I.wo I.g = I.out := rfl
  unfold h
  generalize I.out = O at e
  pointwise [val_main_v51, val_main_v49, val_main_v48, val_main_v47, val_main_v46, val_main_v45, val_main_v44, val_main_v43,
    val_main_v42, val_main_v41, val_main_v40, val_main_v39, val_main_v38, val_main_v37, e,
    val_main_cst_4, val_main_cst_5, val_main_cst_6]

theorem hT_apply (r : Fin 8192) (l : Fin 1024) : I.hT ng (ix2 l r) = I.h ng (ix2 r l) := by
  unfold hT h
  pointwise [val_main_v53, val_main_v52, val_main_v51]

end In

open Cert.Kernel6Ideal Cert.Kernel6Ideal.Gen

namespace Blk
variable {I : In} {row : Fin 256 → Fin 8192} (B : Blk I row)

/-- The layer's output, and the sums of the squares of its rows. -/
def no : FVec Ideal S256x1024 .f32 :=
  k0_pay14 (k0_pay6 B.pv B.wp) B.lo B.hi B.z5 (k0_pay11 (F := Ideal)) B.wo B.x B.g
def ns : FVec Ideal S256x1 .f32 :=
  k0_pay15 (k0_pay6 B.pv B.wp) B.lo B.hi B.z5 (k0_pay11 (F := Ideal)) B.wo B.x B.g

theorem no_apply (r : Fin 256) (l : Fin 1024) : B.no (ix2 r l) = I.out (ix2 (row r) l) := by
  have e : k0_pay13 (k0_pay6 B.pv B.wp) B.lo B.hi B.z5 (k0_pay11 (F := Ideal)) B.wo = B.py := rfl
  rw [← B.out_of]
  unfold no
  generalize B.py = Y at e
  pointwise [k0_pay14, e]

theorem ns_apply (r : Fin 256) : B.ns (ix2 r 0) = ∑ k, I.out (ix2 (row r) k) * I.out (ix2 (row r) k) := by
  simp only [← B.no_apply]
  unfold ns no
  generalize hO : k0_pay14 (k0_pay6 B.pv B.wp) B.lo B.hi B.z5 (k0_pay11 (F := Ideal)) B.wo B.x B.g = O
  pointwise [k0_pay15, hO]

variable (G : Vec Ideal S1x1024 .f32) (ng : Vec Ideal Cert.Reference6Ideal.S1024 .f32) (hG : ∀ l, G (ix2 0 l) = ng (ix1 l))

include hG in
theorem nh_apply (r : Fin 256) (l : Fin 1024) :
    k0_pay2 B.no B.ns (k0_pay16 (F := Ideal)) G (ix2 r l) = I.h ng (ix2 (row r) l) := by
  rw [In.h_apply]; simp only [← B.ns_apply]; simp only [← B.no_apply, ← hG]
  generalize B.no = O
  generalize B.ns = S
  pointwise [k0_pay1, k0_pay2, k0_pay16]

include hG in
theorem nt_apply (r : Fin 256) (l : Fin 1024) :
    k0_pay3 B.no B.ns (k0_pay16 (F := Ideal)) G (ix2 l r) = I.hT ng (ix2 l (row r)) := by
  rw [In.hT_apply, In.h_apply]; simp only [← B.ns_apply]; simp only [← B.no_apply, ← hG]
  generalize B.no = O
  generalize B.ns = S
  pointwise [k0_pay1, k0_pay2, k0_pay3, k0_pay16]

end Blk
end Cert.TailFwd
-- ==== Proof.TailNext.lean ====
module

public import proofs.«01_k».proof.Proof.Gen.Kernel6Ideal.Frame
public import proofs.«01_k».proof.Proof.TailNextBlock
public import Idealize.ShloMosaic.Lib.Pipeline.ValueKit
public import Idealize.ShloMosaic.Lib.Pipeline.ReadBack

/-! # The arrays the gated merge before the last layer ends with

Grid point `t` is given rows `256 t …` of the arrays that are cut by rows, and the weights whole. -/

@[expose] public section

set_option maxRecDepth 16384

noncomputable section

open Idealize.ShloMosaic Idealize.ShloMosaic.TcCoe Idealize.SL.Sem
open Idealize.ShloMosaic.Pipeline (Dat)

namespace Cert.TailNext
open Cert.TailFwd (In Blk)
open Cert.Kernel6Ideal Cert.Kernel6Ideal.Gen
variable (m : (ℓ : Loc nD τ sig) → Buf (Elt Ideal) ℓ) (c : Dev nD)

/-- The arrays the program is given, and the gain of the next layer's norm. -/
def inp : In where
  x := m ((c : Thread nD τ).loc main_arg0)
  cv := m ((c : Thread nD τ).loc main_arg1)
  at' := m ((c : Thread nD τ).loc main_arg2)
  pv := m ((c : Thread nD τ).loc main_arg3)
  z := m ((c : Thread nD τ).loc main_arg4)
  wc := m ((c : Thread nD τ).loc main_arg5)
  wa := m ((c : Thread nD τ).loc main_arg6)
  wp := m ((c : Thread nD τ).loc main_arg7)
  wo := m ((c : Thread nD τ).loc main_arg8)
  g := m ((c : Thread nD τ).loc main_arg9)

def ng : Vec Ideal Cert.Reference6Ideal.S1024 .f32 := m ((c : Thread nD τ).loc main_arg10)

theorem pt_lt (t : Fin cfg0.N) : t.val < 32 := t.isLt

/-- Row `r` of point `t`'s block. -/
def rowAt (t : Fin cfg0.N) (r : Fin 256) : Fin 8192 := ⟨t.val * 256 + r.val, by have := pt_lt t; omega⟩

theorem idx : ∀ t : Fin cfg0.N, win0_0.index t = ![t.val, 0] ∧ win0_1.index t = ![t.val, 0] ∧ win0_2.index t = ![t.val, 0]
    ∧ win0_3.index t = ![t.val, 3] ∧ win0_4.index t = ![t.val, 4] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] ∧ win0_13.index t = ![t.val, 0] ∧ win0_14.index t = ![t.val, 0]
    ∧ win0_15.index t = ![t.val, 0] ∧ win0_16.index t = ![0, t.val] :=
  (by decide +kernel : ∀ t : Fin grid0.N, _)

theorem V_cv : V m c main_v5 = (inp m c).cv := by
  unfold V; after_results; rfl
theorem V_at : V m c main_v6 = (inp m c).at' := by
  unfold V; after_results; rfl
theorem V_pv : V m c main_v7 = (inp m c).pv := by
  unfold V; after_results; rfl
theorem V_wc : V m c main_v0 = (inp m c).wc := by
  unfold V; after_results; rfl
theorem V_wa : V m c main_v1 = (inp m c).wa := by
  unfold V; after_results; rfl
theorem V_wp : V m c main_v2 = (inp m c).wp := by
  unfold V; after_results; rfl
theorem V_wo : V m c main_v3 = (inp m c).wo := by
  unfold V; after_results; rfl
theorem V_g (l : Fin 1024) : V m c main_v4 (ix2 0 l) = (inp m c).g (ix1 l) := by
  unfold V; after_results; pointwise; rfl

theorem V_ng (l : Fin 1024) : V m c main_v8 (ix2 0 l) = ng m c (ix1 l) := by
  unfold V; after_results; pointwise; rfl

set_option maxHeartbeats 1600000 in
/-- Grid point `t`'s blocks, with what each of them holds. -/
def blk (t : Fin cfg0.N) : Blk (inp m c) (rowAt t) where
  cv := iblk m c 0 t
  at' := iblk m c 1 t
  pv := iblk m c 2 t
  za := iblk m c 3 t
  zb := iblk m c 4 t
  x := iblk m c 5 t
  wc := iblk m c 6 t
  wa := iblk m c 7 t
  wp := iblk m c 8 t
  wo := iblk m c 9 t
  g := iblk m c 10 t
  hcv r l := by
    rw [← V_cv]; unfold rowAt; blk_ext [iblk, idx t]
  hat r l := by
    rw [← V_at]; unfold rowAt; blk_ext [iblk, idx t]
  hpv r l := by
    rw [← V_pv]; unfold rowAt; blk_ext [iblk, idx t]
  hza r l := by unfold rowAt inp; blk_ext [iblk, V, idx t]
  hzb r l := by unfold rowAt inp; blk_ext [iblk, V, idx t]
  hx r l := by unfold rowAt inp; blk_ext [iblk, V, idx t]
  hwc k l := by
    rw [← V_wc]; blk_ext [iblk, idx t]
  hwa k l := by
    rw [← V_wa]; blk_ext [iblk, idx t]
  hwp k l := by
    rw [← V_wp]; blk_ext [iblk, idx t]
  hwo k l := by
    rw [← V_wo]; blk_ext [iblk, idx t]
  hg l := by
    rw [← V_g]; blk_ext [iblk, idx t]

theorem gains (t : Fin cfg0.N) (l : Fin 1024) : iblk m c 11 t (ix2 0 l) = ng m c (ix1 l) := by
  rw [← V_ng]; blk_ext [iblk, idx t]

set_option maxHeartbeats 1600000 in
theorem point12 (t : Fin cfg0.N) (r : Fin 256) (l : Fin 1024) :
    (dats m 0 c).after 12 t (ix2 r l) = (inp m c).out (ix2 (rowAt t r) l) := by
  refine Eq.trans ?_ ((blk m c t).no_apply r l)
  rw [after0_12]; unfold_out out0_12; frame_out; rfl

theorem out12 : (dats m 0 c).arrAt 12 cfg0.N = (inp m c).out := by
  refine (dats m 0 c).arrAt_eq_of_covers 12 _ (by decide +kernel) fun t _ y => ?_
  blk_simp [idx t]
  idx_vars y
  refine (point12 m c t y0 y1).trans ?_
  unfold rowAt; blk_ext [idx t]

set_option maxHeartbeats 1600000 in
theorem point13 (t : Fin cfg0.N) (r : Fin 256) (l : Fin 1024) :
    (dats m 0 c).after 13 t (ix2 r l) = (inp m c).mout (ix2 (rowAt t r) l) := by
  refine Eq.trans ?_ (((blk m c t).mg_apply r l).trans ((inp m c).mout_apply _ l).symm)
  rw [after0_13]; unfold_out out0_13; frame_out; rfl

theorem out13 : (dats m 0 c).arrAt 13 cfg0.N = (inp m c).mout := by
  refine (dats m 0 c).arrAt_eq_of_covers 13 _ (by decide +kernel) fun t _ y => ?_
  blk_simp [idx t]
  idx_vars y
  refine (point13 m c t y0 y1).trans ?_
  unfold rowAt; blk_ext [idx t]

set_option maxHeartbeats 1600000 in
theorem point14 (t : Fin cfg0.N) (r : Fin 256) (l : Fin 1024) :
    (dats m 0 c).after 14 t (ix2 r l) = (inp m c).y (ix2 (rowAt t r) l) := by
  refine Eq.trans ?_ ((blk m c t).py_apply r l)
  rw [after0_14]; unfold_out out0_14; frame_out; rfl

theorem out14 : (dats m 0 c).arrAt 14 cfg0.N = (inp m c).y := by
  refine (dats m 0 c).arrAt_eq_of_covers 14 _ (by decide +kernel) fun t _ y => ?_
  blk_simp [idx t]
  idx_vars y
  refine (point14 m c t y0 y1).trans ?_
  unfold rowAt; blk_ext [idx t]

set_option maxHeartbeats 1600000 in
theorem point15 (t : Fin cfg0.N) (r : Fin 256) (l : Fin 1024) :
    (dats m 0 c).after 15 t (ix2 r l) = (inp m c).h (ng m c) (ix2 (rowAt t r) l) := by
  refine Eq.trans ?_ ((blk m c t).nh_apply _ _ (gains m c t) r l)
  rw [after0_15]; unfold_out out0_15; frame_out; rfl

theorem out15 : (dats m 0 c).arrAt 15 cfg0.N = (inp m c).h (ng m c) := by
  refine (dats m 0 c).arrAt_eq_of_covers 15 _ (by decide +kernel) fun t _ y => ?_
  blk_simp [idx t]
  idx_vars y
  refine (point15 m c t y0 y1).trans ?_
  unfold rowAt; blk_ext [idx t]

set_option maxHeartbeats 1600000 in
theorem point16 (t : Fin cfg0.N) (r : Fin 256) (l : Fin 1024) :
    (dats m 0 c).after 16 t (ix2 l r) = (inp m c).hT (ng m c) (ix2 l (rowAt t r)) := by
  refine Eq.trans ?_ ((blk m c t).nt_apply _ _ (gains m c t) r l)
  rw [after0_16]; unfold_out out0_16; frame_out; rfl

theorem out16 : (dats m 0 c).arrAt 16 cfg0.N = (inp m c).hT (ng m c) := by
  refine (dats m 0 c).arrAt_eq_of_covers 16 _ (by decide +kernel) fun t _ y => ?_
  blk_simp [idx t]
  idx_vars y
  refine (point16 m c t y1 y0).trans ?_
  unfold rowAt; blk_ext [idx t]

end Cert.TailNext
-- ==== Proof.TailNextClaim.lean ====
module

public import proofs.«01_k».proof.Defs
public import proofs.«01_k».proof.Proof.TailNext
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Quiescent

/-! # The claims about the gated merge before the last layer -/

@[expose] public section

set_option maxRecDepth 16384

noncomputable section

open Idealize.ShloMosaic Idealize.ShloMosaic.TcCoe Idealize.SL.Sem
open Idealize.ShloMosaic.Pipeline (Dat)

namespace Cert.TailNext
open Cert.TailFwd (In)
open Cert.Kernel6Ideal Cert.Kernel6Ideal.Gen

theorem frame_kernel : Cert.quiescent_Kernel6 := fun m ρ _ => Cert.Kernel6.Gen.frame m ρ
theorem frame_ideal : Cert.quiescent_Kernel6Ideal := fun m ρ _ => Cert.Kernel6Ideal.Gen.frame (F := Ideal) m ρ
theorem frame_reference : Cert.quiescent_Reference6Ideal := fun m ρ _ =>
  (θ_run Cert.Reference6Ideal.defs _ _).mono (fun r h => ⟨fun c => (h c).2.2.2.2.2,
      Idealize.ShloMosaic.sem_eq_zero_of_no_sems (by decide) r.2⟩)
    (Cert.Reference6Ideal.Value.run (F := Ideal) m ρ)

/-- The arrays in the reference's buffers. -/
def ofVal (V : Valuation Cert.Reference6Ideal.τ Cert.Reference6Ideal.sig (Elt Ideal)) : In where
  x := V (Proc.devRef .tc Cert.Reference6Ideal.main_arg0)
  cv := V (Proc.devRef .tc Cert.Reference6Ideal.main_arg1)
  at' := V (Proc.devRef .tc Cert.Reference6Ideal.main_arg2)
  pv := V (Proc.devRef .tc Cert.Reference6Ideal.main_arg3)
  z := V (Proc.devRef .tc Cert.Reference6Ideal.main_arg4)
  wc := V (Proc.devRef .tc Cert.Reference6Ideal.main_arg5)
  wa := V (Proc.devRef .tc Cert.Reference6Ideal.main_arg6)
  wp := V (Proc.devRef .tc Cert.Reference6Ideal.main_arg7)
  wo := V (Proc.devRef .tc Cert.Reference6Ideal.main_arg8)
  g := V (Proc.devRef .tc Cert.Reference6Ideal.main_arg9)

def ngVal (V : Valuation Cert.Reference6Ideal.τ Cert.Reference6Ideal.sig (Elt Ideal)) : Vec Ideal Cert.Reference6Ideal.S1024 .f32 := V (Proc.devRef .tc Cert.Reference6Ideal.main_arg10)

theorem out_eq (V : Valuation Cert.Reference6Ideal.τ Cert.Reference6Ideal.sig (Elt Ideal)) :
    Cert.Reference6Ideal.Read.val_main_v36 (F := Ideal) (V (Proc.devRef .tc Cert.Reference6Ideal.main_arg0)) (V (Proc.devRef .tc Cert.Reference6Ideal.main_arg1)) (V (Proc.devRef .tc Cert.Reference6Ideal.main_arg2)) (V (Proc.devRef .tc Cert.Reference6Ideal.main_arg3)) (V (Proc.devRef .tc Cert.Reference6Ideal.main_arg4)) (V (Proc.devRef .tc Cert.Reference6Ideal.main_arg5)) (V (Proc.devRef .tc Cert.Reference6Ideal.main_arg6)) (V (Proc.devRef .tc Cert.Reference6Ideal.main_arg7)) (V (Proc.devRef .tc Cert.Reference6Ideal.main_arg8)) (V (Proc.devRef .tc Cert.Reference6Ideal.main_arg9))
      = (ofVal V).out := rfl
theorem mout_eq (V : Valuation Cert.Reference6Ideal.τ Cert.Reference6Ideal.sig (Elt Ideal)) :
    Cert.Reference6Ideal.Read.val_main_v50 (F := Ideal) (V (Proc.devRef .tc Cert.Reference6Ideal.main_arg1)) (V (Proc.devRef .tc Cert.Reference6Ideal.main_arg2)) (V (Proc.devRef .tc Cert.Reference6Ideal.main_arg3)) (V (Proc.devRef .tc Cert.Reference6Ideal.main_arg4)) (V (Proc.devRef .tc Cert.Reference6Ideal.main_arg5)) (V (Proc.devRef .tc Cert.Reference6Ideal.main_arg6)) (V (Proc.devRef .tc Cert.Reference6Ideal.main_arg7))
      = (ofVal V).mout := rfl
theorem y_eq (V : Valuation Cert.Reference6Ideal.τ Cert.Reference6Ideal.sig (Elt Ideal)) :
    Cert.Reference6Ideal.Read.val_main_v22 (F := Ideal) (V (Proc.devRef .tc Cert.Reference6Ideal.main_arg1)) (V (Proc.devRef .tc Cert.Reference6Ideal.main_arg2)) (V (Proc.devRef .tc Cert.Reference6Ideal.main_arg3)) (V (Proc.devRef .tc Cert.Reference6Ideal.main_arg4)) (V (Proc.devRef .tc Cert.Reference6Ideal.main_arg5)) (V (Proc.devRef .tc Cert.Reference6Ideal.main_arg6)) (V (Proc.devRef .tc Cert.Reference6Ideal.main_arg7)) (V (Proc.devRef .tc Cert.Reference6Ideal.main_arg8))
      = (ofVal V).y := rfl
theorem h_eq (V : Valuation Cert.Reference6Ideal.τ Cert.Reference6Ideal.sig (Elt Ideal)) :
    Cert.Reference6Ideal.Read.val_main_v51 (F := Ideal) (V (Proc.devRef .tc Cert.Reference6Ideal.main_arg0)) (V (Proc.devRef .tc Cert.Reference6Ideal.main_arg1)) (V (Proc.devRef .tc Cert.Reference6Ideal.main_arg2)) (V (Proc.devRef .tc Cert.Reference6Ideal.main_arg3)) (V (Proc.devRef .tc Cert.Reference6Ideal.main_arg4)) (V (Proc.devRef .tc Cert.Reference6Ideal.main_arg5)) (V (Proc.devRef .tc Cert.Reference6Ideal.main_arg6)) (V (Proc.devRef .tc Cert.Reference6Ideal.main_arg7)) (V (Proc.devRef .tc Cert.Reference6Ideal.main_arg8)) (V (Proc.devRef .tc Cert.Reference6Ideal.main_arg9)) (V (Proc.devRef .tc Cert.Reference6Ideal.main_arg10))
      = (ofVal V).h (ngVal V) := rfl
theorem hT_eq (V : Valuation Cert.Reference6Ideal.τ Cert.Reference6Ideal.sig (Elt Ideal)) :
    Cert.Reference6Ideal.Read.val_main_v53 (F := Ideal) (V (Proc.devRef .tc Cert.Reference6Ideal.main_arg0)) (V (Proc.devRef .tc Cert.Reference6Ideal.main_arg1)) (V (Proc.devRef .tc Cert.Reference6Ideal.main_arg2)) (V (Proc.devRef .tc Cert.Reference6Ideal.main_arg3)) (V (Proc.devRef .tc Cert.Reference6Ideal.main_arg4)) (V (Proc.devRef .tc Cert.Reference6Ideal.main_arg5)) (V (Proc.devRef .tc Cert.Reference6Ideal.main_arg6)) (V (Proc.devRef .tc Cert.Reference6Ideal.main_arg7)) (V (Proc.devRef .tc Cert.Reference6Ideal.main_arg8)) (V (Proc.devRef .tc Cert.Reference6Ideal.main_arg9)) (V (Proc.devRef .tc Cert.Reference6Ideal.main_arg10))
      = (ofVal V).hT (ngVal V) := rfl

/-- Where the two programs are given the same arrays, the reference's buffers hold the kernel's arrays. -/
theorem inp_eq (m : (ℓ : Loc nD τ sig) → Buf (Elt Ideal) ℓ)
    (m' : (ℓ : Loc Cert.Reference6Ideal.nD Cert.Reference6Ideal.τ Cert.Reference6Ideal.sig) → Buf (Elt Ideal) ℓ) (c : Dev nD)
    (h : m' ((c.tc : Thread Cert.Reference6Ideal.nD Cert.Reference6Ideal.τ).loc Cert.Reference6Ideal.main_arg0) = m ((c.tc : Thread nD τ).loc main_arg0)
      ∧ m' ((c.tc : Thread Cert.Reference6Ideal.nD Cert.Reference6Ideal.τ).loc Cert.Reference6Ideal.main_arg1) = m ((c.tc : Thread nD τ).loc main_arg1)
      ∧ m' ((c.tc : Thread Cert.Reference6Ideal.nD Cert.Reference6Ideal.τ).loc Cert.Reference6Ideal.main_arg2) = m ((c.tc : Thread nD τ).loc main_arg2)
      ∧ m' ((c.tc : Thread Cert.Reference6Ideal.nD Cert.Reference6Ideal.τ).loc Cert.Reference6Ideal.main_arg3) = m ((c.tc : Thread nD τ).loc main_arg3)
      ∧ m' ((c.tc : Thread Cert.Reference6Ideal.nD Cert.Reference6Ideal.τ).loc Cert.Reference6Ideal.main_arg4) = m ((c.tc : Thread nD τ).loc main_arg4)
      ∧ m' ((c.tc : Thread Cert.Reference6Ideal.nD Cert.Reference6Ideal.τ).loc Cert.Reference6Ideal.main_arg5) = m ((c.tc : Thread nD τ).loc main_arg5)
      ∧ m' ((c.tc : Thread Cert.Reference6Ideal.nD Cert.Reference6Ideal.τ).loc Cert.Reference6Ideal.main_arg6) = m ((c.tc : Thread nD τ).loc main_arg6)
      ∧ m' ((c.tc : Thread Cert.Reference6Ideal.nD Cert.Reference6Ideal.τ).loc Cert.Reference6Ideal.main_arg7) = m ((c.tc : Thread nD τ).loc main_arg7)
      ∧ m' ((c.tc : Thread Cert.Reference6Ideal.nD Cert.Reference6Ideal.τ).loc Cert.Reference6Ideal.main_arg8) = m ((c.tc : Thread nD τ).loc main_arg8)
      ∧ m' ((c.tc : Thread Cert.Reference6Ideal.nD Cert.Reference6Ideal.τ).loc Cert.Reference6Ideal.main_arg9) = m ((c.tc : Thread nD τ).loc main_arg9)
      ∧ m' ((c.tc : Thread Cert.Reference6Ideal.nD Cert.Reference6Ideal.τ).loc Cert.Reference6Ideal.main_arg10) = m ((c.tc : Thread nD τ).loc main_arg10)) :
    ofVal (StableHlo.launchContents m' c) = inp m c ∧ ngVal (StableHlo.launchContents m' c) = ng m c := by
  obtain ⟨a0, a1, a2, a3, a4, a5, a6, a7, a8, a9, a10⟩ := h
  exact ⟨by unfold ofVal inp; congr 1 <;> assumption, a10⟩

/-- The kernel's five results are the values that the reference computes. -/
theorem algebraic : Cert.algebraic_Kernel6Ideal_Reference6Ideal := by
  intro m ρ m' ρ' _ hagree
  refine ⟨fun c => (inp m c).out, fun c => (inp m c).mout, fun c => (inp m c).y, fun c => (inp m c).h (ng m c), fun c => (inp m c).hT (ng m c), ?_, ?_⟩
  · refine (θ_run Cert.Kernel6Ideal.defs _ _).mono (fun _ h c => ?_) (Cert.Kernel6Ideal.Value.run_blocks (F := Ideal) m ρ)
    obtain ⟨h0, h1, h2, h3, h4, hr⟩ := h c
    rw [out12] at h0; rw [out13] at h1; rw [out14] at h2; rw [out15] at h3; rw [out16] at h4
    exact ⟨h0, h1, h2, h3, h4, hr⟩
  · refine (θ_run Cert.Reference6Ideal.defs _ _).mono (fun _ h c => ?_) (Cert.Reference6Ideal.Value.run (F := Ideal) m' ρ')
    obtain ⟨h0, h1, h2, h3, h4, hr⟩ := h c
    obtain ⟨hin, ht⟩ := inp_eq m m' c (hagree c)
    rw [Cert.Reference6Ideal.Read.val_main_v36_eq] at h0
    rw [Cert.Reference6Ideal.Read.val_main_v50_eq] at h1
    rw [Cert.Reference6Ideal.Read.val_main_v22_eq] at h2
    rw [Cert.Reference6Ideal.Read.val_main_v51_eq] at h3
    rw [Cert.Reference6Ideal.Read.val_main_v53_eq] at h4
    exact ⟨h0.trans ((out_eq (StableHlo.launchContents m' c)).trans (congrArg In.out hin)),
      h1.trans ((mout_eq (StableHlo.launchContents m' c)).trans (congrArg In.mout hin)),
      h2.trans ((y_eq (StableHlo.launchContents m' c)).trans (congrArg In.y hin)),
      h3.trans ((h_eq (StableHlo.launchContents m' c)).trans (congr (congrArg In.h hin) ht)),
      h4.trans ((hT_eq (StableHlo.launchContents m' c)).trans (congr (congrArg In.hT hin) ht)), hr⟩

end Cert.TailNext
-- ==== Proof.PoolFwdIdealFrame.lean ====
module

public import proofs.«01_k».proof.Proof.Gen.Kernel7Ideal.Frame.Runs
public import Idealize.ShloMosaic.Lib.Claim

/-! The pooling's forward call, over the ideal numbers: it ends and leaves its arguments as they were. The second loop of a point
reads a scratch whose first sixteen rows are zeros and whose other rows the first loop has copied: together these writes reach
every place of it, so what it held before is nowhere read. -/

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What one trip of the copying loop writes: the rows of the block it has read, sixteen rows further down. -/
theorem tripL1_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (X : BufTy.Contents (Elt F) arg1.view.ty) (k : Fin k0_t1_loop.trips) :
    tripL_k0_t1 (F := F) Variants.none c none i arg1 harg1 arg2 harg2 arg3 harg3 arg4 harg4 arg5 harg5 arg6 harg6 X k
      = [⟨Rect.unit (s := S2064x512) (k0_off2 k) S256x512.size (k0_off2_inb k),
          k0_pay2 (arg1.view.readAt (Elt F) (Rect.unit (s := S2048x512) (k0_off1 k) S256x512.size (k0_off1_inb k)).toLoadRect X)⟩] := by
  unfold tripL_k0_t1 trip_k0_t1; rfl

/-- The writes of a trip are among the writes of the trips up to any later one. -/
theorem mem_pb1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (X : BufTy.Contents (Elt F) arg1.view.ty) (k : Fin k0_t1_loop.trips) (n : ℕ) (hk : k.val < n) (hn : n ≤ k0_t1_loop.trips) :
    (⟨Rect.unit (s := S2064x512) (k0_off2 k) S256x512.size (k0_off2_inb k),
          k0_pay2 (arg1.view.readAt (Elt F) (Rect.unit (s := S2048x512) (k0_off1 k) S256x512.size (k0_off1_inb k)).toLoadRect X)⟩ : View.Piece (Elt F) S2064x512 .f32)
      ∈ pb_k0_t1 (F := F) Variants.none c none i arg1 harg1 arg2 harg2 arg3 harg3 arg4 harg4 arg5 harg5 arg6 harg6 X n := by
  induction n with
  | zero => omega
  | succ n ih =>
    rw [pb_k0_t1_succ Variants.none c none i arg1 harg1 arg2 harg2 arg3 harg3 arg4 harg4 arg5 harg5 arg6 harg6 X ⟨n, hn⟩, tripL1_eq]
    rcases Nat.lt_succ_iff_lt_or_eq.mp hk with h | h
    · exact List.mem_append_right _ (ih h (by omega))
    · subst h; exact List.mem_append_left _ (List.mem_singleton.mpr rfl)

/-- Where writes reach every place of a whole buffer, what it held before does not matter. -/
theorem writes_over_junk {Val : EltTy → Type} [∀ e, Nonempty (Val e)] {κ : Kind} {sp : Space} {s : Shape} {e : EltTy}
    {w : Memref sig κ sp s e} (hw : w.IsWhole) (f : w.view.ty.Contents Val) (L : List (View.Piece Val s e))
    (hc : ∀ y, ∃ p ∈ L, y ∈ p.1.set) : w.view.writes Val f L = w.view.writes Val w.view.junk L := by
  obtain ⟨b, rfl, rfl, rfl, h⟩ := hw; cases h
  funext y
  exact View.read_writes_apply_eq (View.whole b) f (View.whole b) (View.whole b).junk y L (hc y)

/-- The sixteen rows of zeros, then the rows of the sequence: what the scratch has had written before the second loop, last write first. -/
def lined (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (X : BufTy.Contents (Elt F) arg1.view.ty) : List (View.Piece (Elt F) S2064x512 .f32) :=
  pb_k0_t1 (F := F) Variants.none c none i arg1 harg1 arg2 harg2 arg3 harg3 arg4 harg4 arg5 harg5 arg6 harg6 X (Scf.trips k0_t1_loop.lb k0_t1_loop.ub k0_t1_loop.st)
    ++ [⟨Rect.unit ![0, 0] S16x512.size inb_S2064x512_S16x512_0_0, k0_pay1⟩]

/-- These writes reach every place of the scratch. -/
theorem lined_cover (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (X : BufTy.Contents (Elt F) arg1.view.ty) (y : S2064x512.Idx) : ∃ p ∈ lined (F := F) c i arg1 harg1 arg2 harg2 arg3 harg3 arg4 harg4 arg5 harg5 arg6 harg6 X, y ∈ p.1.set := by
  unfold lined
  have h0 : (y 0).val < 2064 := (y 0).isLt
  have h1 : (y 1).val < 512 := (y 1).isLt
  by_cases h : (y 0).val < 16
  · refine ⟨_, List.mem_append_right _ (List.mem_singleton.mpr rfl), ?_⟩
    refine (Rect.mem_set_unit (inb := inb_S2064x512_S16x512_0_0)).mpr ?_
    refine Fin.forall_fin_two.mpr ⟨⟨Nat.zero_le _, ?_⟩, ⟨Nat.zero_le _, ?_⟩⟩
    · show (y 0).val < 0 + 16; omega
    · show (y 1).val < 0 + 512; omega
  · have ht : k0_t1_loop.trips = 8 := by decide +kernel
    let k : Fin k0_t1_loop.trips := ⟨((y 0).val - 16) / 256, by omega⟩
    refine ⟨_, List.mem_append_left _ (mem_pb1 c i arg1 harg1 arg2 harg2 arg3 harg3 arg4 harg4 arg5 harg5 arg6 harg6 X k _ k.isLt (le_refl _)), ?_⟩
    refine (Rect.mem_set_unit (inb := k0_off2_inb k)).mpr ?_
    rw [k0_off2_eq]
    refine Fin.forall_fin_two.mpr ⟨?_, ⟨Nat.zero_le _, ?_⟩⟩
    · show 256 * (((y 0).val - 16) / 256) + 16 ≤ (y 0).val ∧ (y 0).val < 256 * (((y 0).val - 16) / 256) + 16 + 256
      omega
    · show (y 1).val < 0 + 512; omega

/-- So what the scratch held before does not matter. -/
theorem lined_writes (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (X : BufTy.Contents (Elt F) arg1.view.ty) (f : BufTy.Contents (Elt F) arg6.view.ty) :
    arg6.view.writes (Elt F) f (lined (F := F) c i arg1 harg1 arg2 harg2 arg3 harg3 arg4 harg4 arg5 harg5 arg6 harg6 X) = arg6.view.writes (Elt F) arg6.view.junk (lined (F := F) c i arg1 harg1 arg2 harg2 arg3 harg3 arg4 harg4 arg5 harg5 arg6 harg6 X) :=
  writes_over_junk harg6 f _ (lined_cover c i arg1 harg1 arg2 harg2 arg3 harg3 arg4 harg4 arg5 harg5 arg6 harg6 X)

set_option maxHeartbeats 1000000 in
/-- The body at one point, from whole buffers with the inputs at their contents and the rest at anything: the writes it leaves in the output's buffer, and that it runs. -/
noncomputable def kernelRun0_A (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (x0 : Vec F S2048x512 .f32) (x1 : Vec F S2048x512 .f32) (x2 : Vec F S4x128x128 .bf16) (x3 : Vec F S8x512 .f32) :
    { L4 : List (View.Piece (Elt F) S2048x512 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ d, owns (c : Thread nD τ) arg6 fullShare d)) -∗ K ⟨⟩))
          ⊢ wp frame (wpE (defs₀ (F := F)) Variants.none c none) E (cc0_pool_fwd i arg1 harg1 arg2 harg2 arg3 harg3 arg4 harg4 arg5 harg5 arg6 harg6) K } := by
  refine ⟨?_, fun E K => ?run⟩
  case run =>
    simp only [cc0_pool_fwd_eq_skeleton]; unfold cc0_pool_fwd_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    rw [show arg6.view.writes (Elt F) fs0 (pb_k0_t1 (F := F) Variants.none c none i arg1 harg1 arg2 harg2 arg3 harg3 arg4 harg4 arg5 harg5 arg6 harg6 (harg1.unread x0) (Scf.trips k0_t1_loop.lb k0_t1_loop.ub k0_t1_loop.st) ++ [⟨Rect.unit ![0, 0] S16x512.size inb_S2064x512_S16x512_0_0, k0_pay1⟩]) = _ from lined_writes c i arg1 harg1 arg2 harg2 arg3 harg3 arg4 harg4 arg5 harg5 arg6 harg6 (harg1.unread x0) fs0]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _, _; isplitr; swap; · iexact HS0
    ipureintro; rfl

/-- These writes reach every place of the block. -/
theorem cover0_A_4 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (x0 : Vec F S2048x512 .f32) (x1 : Vec F S2048x512 .f32) (x2 : Vec F S4x128x128 .bf16) (x3 : Vec F S8x512 .f32) (y : S2048x512.Idx) :
    ∃ pc ∈ (kernelRun0_A c i arg1 harg1 arg2 harg2 arg3 harg3 arg4 harg4 arg5 harg5 arg6 harg6 x0 x1 x2 x3).1, y ∈ pc.1.set :=
  View.cover_of_tiledL (kernelRun0_A c i arg1 harg1 arg2 harg2 arg3 harg3 arg4 harg4 arg5 harg5 arg6 harg6 x0 x1 x2 x3).1 S256x512.size (by sl_kernel_rfl) y

/-- What the body leaves in the output's buffer. -/
def out0_A_4 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (x0 : Vec F S2048x512 .f32) (x1 : Vec F S2048x512 .f32) (x2 : Vec F S4x128x128 .bf16) (x3 : Vec F S8x512 .f32) : Vec F S2048x512 .bf16 :=
  VO0_4.read (Elt F) (VO0_4.writes (Elt F) VO0_4.junk (kernelRun0_A c i arg1 harg1 arg2 harg2 arg3 harg3 arg4 harg4 arg5 harg5 arg6 harg6 x0 x1 x2 x3).1)

/-- What the output's buffer holds after the body at a point. -/
def outsAt0 (c : Dev nD) (t : Fin cfg0.N) : Vec F S2048x512 .bf16 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)

/-- What the pipeline's arrays and buffers hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := Pipeline.shareOf spec0 w
  owed _ := 0

/-- The arrays, as the call finds them. -/
theorem A_eq (c : Dev nD) (w : Fin cfg0.W) : (dats m 0 c).A w = V m c (Pipeline.arrRef spec0 w) := by
  dsimp only [dats]

/-- What the body leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body runs at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨HS0, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _)

/-- The body at a point, as the table of bodies has it. -/
theorem defs₀_row (t : Fin cfg0.N) :
    defs₀ (F := F) .tc cfg0.body (cfg0.bodyArgs t (cfg0.slots t)) = bodyAt0 t := by
  unfold defs₀; rw [Defs.onTc_tc]

/-- The same, in the library's form. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole program runs. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The program ends, its arguments as they were, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- After the run, the output's array. -/
theorem post4 (r : PUnit × MemSt nD τ sig (Elt F)) (h : Pipeline.FramePost cfgs (dats m) 0 (V m) r) (c : Dev nD) :
    r.2.mem ((c : Thread nD τ).loc main_v6) = (dats m 0 c).arrAt 4 cfg0.N :=
  (h c).1 4

/-- After the run, an argument is as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the run, an argument is as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run, an argument is as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run, an argument is as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run, with the output's array named and the arguments as they were. -/
theorem run_blocks : θ_run defs (onTc (τ := τ) (main (F := F))) ⟨m, fun _ => 0, ρ⟩ fun r => ∀ c : Dev nD,
      r.2.mem ((c : Thread nD τ).loc main_v6) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

end Cert.Kernel7Ideal.Hand

end
-- ==== Proof.PoolFwdRef.lean ====
module

public import proofs.«01_k».proof.Proof.Gen.Reference7Ideal.Read
public import Idealize.ShloMosaic.Lib.Pipeline.ValueKit

/-! # The reference pooling, read at an entry -/

@[expose] public section

set_option maxRecDepth 16384

noncomputable section

open Idealize.ShloMosaic Idealize.ShloMosaic.TcCoe Idealize.SL.Sem
open Idealize.ShloMosaic.Pipeline (Dat)

namespace Cert.PoolFwd
open Cert.Reference7Ideal Cert.Reference7Ideal.Gen Cert.Reference7Ideal.Read

/-- The arrays both programs are given: the projected activations, the mixing matrices of the four
groups, their biases, and the scale. -/
structure In where
  z : Vec Ideal S8192x7680 .f32
  pw : Vec Ideal S4x128x128 .f32
  pb : Vec Ideal S4x128 .f32
  ps : Vec Ideal S512 .f32

/-- Row `t` of sequence `b`. -/
def row (b : Fin 4) (t : Fin 2048) : Fin 8192 := ⟨2048 * b.val + t.val, by omega⟩

namespace In
variable (I : In)

/-- The pooled column `l` of sequence `b`, `d` rows before row `t`: zero before the sequence begins. -/
def D (d : ℕ) (b : Fin 4) (t : Fin 2048) (l : Fin 512) : EReal :=
  if d ≤ t.val then I.z (ix2 (row b ⟨t.val - d, by omega⟩) ⟨3584 + l.val, by omega⟩) else 0

/-- The pooled columns, sequence by sequence. -/
theorem u_apply (b : Fin 4) (t : Fin 2048) (l : Fin 512) : val_main_v1 I.z (ix3 b t l) = I.D 0 b t l := by
  unfold D row
  rw [if_pos (Nat.zero_le _)]
  pointwise [val_main_v1, val_main_v0]
  exact congrArg (fun n => I.z (ix2 n _)) (Fin.ext (by simp only; omega))

/-- The padded sequences, fifteen rows of zeros in front. -/
theorem before_apply (b : Fin 4) (j : Fin 2063) (l : Fin 512) (d : ℕ) (hd : d ≤ 15) (t : Fin 2048) (hj : j.val = 15 - d + t.val) :
    val_main_v3 I.z (ix3 b j l) = I.D d b t l := by
  generalize hu : val_main_v1 I.z = u
  have hu' := I.u_apply
  rw [hu] at hu'
  unfold D at hu' ⊢
  have ht := t.isLt
  pointwise [val_main_v3, hu, val_main_call0_v0, val_main_c]
  by_cases h : d ≤ t.val
  · rw [dif_pos (by omega), if_pos h, hu', if_pos (Nat.zero_le _)]
    exact congrArg (fun n => I.z (ix2 (row b n) _)) (Fin.ext (by simp only; omega))
  · rw [dif_neg (by omega), if_neg h]
    show ((((0#32 : BitVec 32).toInt : ℤ) : ℝ) : EReal) = 0
    simp

/-- The sum of the `d + 1` rows that end at row `t`. -/
def S : ℕ → Fin 4 → Fin 2048 → Fin 512 → EReal
  | 0, b, t, l => I.D 0 b t l
  | d + 1, b, t, l => S d b t l + I.D (d + 1) b t l

/-- The sums of two rows, of three, and so on to sixteen, as the reference adds them up. -/
theorem sum1 (b : Fin 4) (t : Fin 2048) (l : Fin 512) : val_main_v8 I.z (ix3 b t l) = I.S 1 b t l := by
  pointwise [val_main_v8, val_main_v7]
  rw [I.u_apply, I.before_apply b _ l 1 (by omega) t (by simp)]; rfl
theorem sum2 (b : Fin 4) (t : Fin 2048) (l : Fin 512) : val_main_v10 I.z (ix3 b t l) = I.S 2 b t l := by
  pointwise [val_main_v10, val_main_v9]
  rw [I.sum1, I.before_apply b _ l 2 (by omega) t (by simp)]; rfl
theorem sum3 (b : Fin 4) (t : Fin 2048) (l : Fin 512) : val_main_v12 I.z (ix3 b t l) = I.S 3 b t l := by
  pointwise [val_main_v12, val_main_v11]
  rw [I.sum2, I.before_apply b _ l 3 (by omega) t (by simp)]; rfl
theorem sum4 (b : Fin 4) (t : Fin 2048) (l : Fin 512) : val_main_v14 I.z (ix3 b t l) = I.S 4 b t l := by
  pointwise [val_main_v14, val_main_v13]
  rw [I.sum3, I.before_apply b _ l 4 (by omega) t (by simp)]; rfl
theorem sum5 (b : Fin 4) (t : Fin 2048) (l : Fin 512) : val_main_v16 I.z (ix3 b t l) = I.S 5 b t l := by
  pointwise [val_main_v16, val_main_v15]
  rw [I.sum4, I.before_apply b _ l 5 (by omega) t (by simp)]; rfl
theorem sum6 (b : Fin 4) (t : Fin 2048) (l : Fin 512) : val_main_v18 I.z (ix3 b t l) = I.S 6 b t l := by
  pointwise [val_main_v18, val_main_v17]
  rw [I.sum5, I.before_apply b _ l 6 (by omega) t (by simp)]; rfl
theorem sum7 (b : Fin 4) (t : Fin 2048) (l : Fin 512) : val_main_v20 I.z (ix3 b t l) = I.S 7 b t l := by
  pointwise [val_main_v20, val_main_v19]
  rw [I.sum6, I.before_apply b _ l 7 (by omega) t (by simp)]; rfl
theorem sum8 (b : Fin 4) (t : Fin 2048) (l : Fin 512) : val_main_v22 I.z (ix3 b t l) = I.S 8 b t l := by
  pointwise [val_main_v22, val_main_v21]
  rw [I.sum7, I.before_apply b _ l 8 (by omega) t (by simp)]; rfl
theorem sum9 (b : Fin 4) (t : Fin 2048) (l : Fin 512) : val_main_v24 I.z (ix3 b t l) = I.S 9 b t l := by
  pointwise [val_main_v24, val_main_v23]
  rw [I.sum8, I.before_apply b _ l 9 (by omega) t (by simp)]; rfl
theorem sum10 (b : Fin 4) (t : Fin 2048) (l : Fin 512) : val_main_v26 I.z (ix3 b t l) = I.S 10 b t l := by
  pointwise [val_main_v26, val_main_v25]
  rw [I.sum9, I.before_apply b _ l 10 (by omega) t (by simp)]; rfl
theorem sum11 (b : Fin 4) (t : Fin 2048) (l : Fin 512) : val_main_v28 I.z (ix3 b t l) = I.S 11 b t l := by
  pointwise [val_main_v28, val_main_v27]
  rw [I.sum10, I.before_apply b _ l 11 (by omega) t (by simp)]; rfl
theorem sum12 (b : Fin 4) (t : Fin 2048) (l : Fin 512) : val_main_v30 I.z (ix3 b t l) = I.S 12 b t l := by
  pointwise [val_main_v30, val_main_v29]
  rw [I.sum11, I.before_apply b _ l 12 (by omega) t (by simp)]; rfl
theorem sum13 (b : Fin 4) (t : Fin 2048) (l : Fin 512) : val_main_v32 I.z (ix3 b t l) = I.S 13 b t l := by
  pointwise [val_main_v32, val_main_v31]
  rw [I.sum12, I.before_apply b _ l 13 (by omega) t (by simp)]; rfl
theorem sum14 (b : Fin 4) (t : Fin 2048) (l : Fin 512) : val_main_v34 I.z (ix3 b t l) = I.S 14 b t l := by
  pointwise [val_main_v34, val_main_v33]
  rw [I.sum13, I.before_apply b _ l 14 (by omega) t (by simp)]; rfl
theorem sum15 (b : Fin 4) (t : Fin 2048) (l : Fin 512) : val_main_v36 I.z (ix3 b t l) = I.S 15 b t l := by
  pointwise [val_main_v36, val_main_v35]
  rw [I.sum14, I.before_apply b _ l 15 (by omega) t (by simp)]; rfl

/-- How many rows of the window of `w` rows that ends at row `t` the sequence has. -/
def cnt (w : BitVec 32) (t : Fin 2048) : EReal := FloatOps.sitofp (F := Ideal) .f32 (IntOp.minsi (IntOp.addi (BitVec.ofNat 32 t.val) 1#32) w)

/-- One group of the mixed columns: the windows' means, less the columns themselves, times the group's matrix. -/
def mix (g : Fin 4) (d : ℕ) (w : BitVec 32) (b : Fin 4) (t : Fin 2048) (l : Fin 128) : EReal :=
  ∑ k : Fin 128, (Ideal.div (I.S d b t ⟨128 * g.val + k.val, by omega⟩) (cnt w t) - I.D 0 b t ⟨128 * g.val + k.val, by omega⟩) * I.pw (ix3 g k l)

/-- The mixed columns of each group. -/
theorem mix0_apply (b : Fin 4) (t : Fin 2048) (l : Fin 128) : val_main_v48 I.z I.pw (ix2 (row b t) l) = I.mix 0 1 2#32 b t l := by
  unfold mix cnt row
  pointwise [val_main_v48, val_main_v47, val_main_v46, val_main_v45, val_main_v44, val_main_v43, val_main_v42, val_main_v41, val_main_v40, val_main_v39, val_main_v38, val_main_v37, val_main_v6, val_main_v5, val_main_v4, val_main_c_0, val_main_c_1]
  exact Finset.sum_congr rfl fun x _ => by rw [I.sum1, I.u_apply]
theorem mix1_apply (b : Fin 4) (t : Fin 2048) (l : Fin 128) : val_main_v60 I.z I.pw (ix2 (row b t) l) = I.mix 1 3 4#32 b t l := by
  unfold mix cnt row
  pointwise [val_main_v60, val_main_v59, val_main_v58, val_main_v57, val_main_v56, val_main_v55, val_main_v54, val_main_v53, val_main_v52, val_main_v51, val_main_v50, val_main_v49, val_main_v6, val_main_v5, val_main_v4, val_main_c_0, val_main_c_2]
  exact Finset.sum_congr rfl fun x _ => by rw [I.sum3, I.u_apply]
theorem mix2_apply (b : Fin 4) (t : Fin 2048) (l : Fin 128) : val_main_v72 I.z I.pw (ix2 (row b t) l) = I.mix 2 7 8#32 b t l := by
  unfold mix cnt row
  pointwise [val_main_v72, val_main_v71, val_main_v70, val_main_v69, val_main_v68, val_main_v67, val_main_v66, val_main_v65, val_main_v64, val_main_v63, val_main_v62, val_main_v61, val_main_v6, val_main_v5, val_main_v4, val_main_c_0, val_main_c_3]
  exact Finset.sum_congr rfl fun x _ => by rw [I.sum7, I.u_apply]
theorem mix3_apply (b : Fin 4) (t : Fin 2048) (l : Fin 128) : val_main_v84 I.z I.pw (ix2 (row b t) l) = I.mix 3 15 16#32 b t l := by
  unfold mix cnt row
  pointwise [val_main_v84, val_main_v83, val_main_v82, val_main_v81, val_main_v80, val_main_v79, val_main_v78, val_main_v77, val_main_v76, val_main_v75, val_main_v74, val_main_v73, val_main_v6, val_main_v5, val_main_v4, val_main_c_0, val_main_c_4]
  exact Finset.sum_congr rfl fun x _ => by rw [I.sum15, I.u_apply]

/-- The mixed columns of the four groups side by side. -/
def mixed (b : Fin 4) (t : Fin 2048) (l : Fin 512) : EReal := val_main_v85 I.z I.pw (ix2 (row b t) l)

/-- The result. -/
def out : Vec Ideal S8192x512 .bf16 := val_main_v101 I.z I.pw I.pb I.ps

/-- The mixed columns of each group, at their places among all columns. -/
theorem mixed0 (b : Fin 4) (t : Fin 2048) (l : Fin 128) : I.mixed b t ⟨0 + l.val, by omega⟩ = I.mix 0 1 2#32 b t l := by
  rw [← mix0_apply]
  unfold mixed
  pointwise [val_main_v85]
theorem mixed1 (b : Fin 4) (t : Fin 2048) (l : Fin 128) : I.mixed b t ⟨128 + l.val, by omega⟩ = I.mix 1 3 4#32 b t l := by
  rw [← mix1_apply]
  unfold mixed
  pointwise [val_main_v85]
theorem mixed2 (b : Fin 4) (t : Fin 2048) (l : Fin 128) : I.mixed b t ⟨256 + l.val, by omega⟩ = I.mix 2 7 8#32 b t l := by
  rw [← mix2_apply]
  unfold mixed
  pointwise [val_main_v85]
  rw [dif_neg (by omega), dif_neg (by omega), dif_pos (by omega)]
  exact congrArg (fun n => val_main_v72 I.z I.pw (ix2 (row b t) n)) (Fin.ext (by simp only; omega))
theorem mixed3 (b : Fin 4) (t : Fin 2048) (l : Fin 128) : I.mixed b t ⟨384 + l.val, by omega⟩ = I.mix 3 15 16#32 b t l := by
  rw [← mix3_apply]
  unfold mixed
  pointwise [val_main_v85]
  rw [dif_neg (by omega), dif_neg (by omega), dif_neg (by omega)]
  exact congrArg (fun n => val_main_v84 I.z I.pw (ix2 (row b t) n)) (Fin.ext (by simp only; omega))

/-- The bias of column `l`. -/
def bias (l : Fin 512) : EReal := I.pb (ix2 ⟨l.val / 128, by omega⟩ ⟨l.val % 128, by omega⟩)

/-- An entry of the result. -/
theorem out_apply (b : Fin 4) (t : Fin 2048) (l : Fin 512) : I.out (ix2 (row b t) l)
    = (I.mixed b t l + I.bias l) * I.ps (ix1 l)
      * (I.z (ix2 (row b t) ⟨4096 + l.val, by omega⟩) * Ideal.div 1 (1 + Ideal.exp (-I.z (ix2 (row b t) ⟨4096 + l.val, by omega⟩)))) := by
  unfold out mixed bias
  generalize hm : val_main_v85 I.z I.pw = m
  pointwise [val_main_v101, val_main_v100, val_main_v99, val_main_v98, val_main_v97,
    val_main_v96, val_main_v95, val_main_v94, val_main_v93, val_main_v92, val_main_v91, val_main_v90, val_main_v89, val_main_v88,
    val_main_v87, val_main_v86, hm, val_main_cst, val_main_cst_5, val_main_v2]

end In
end Cert.PoolFwd
-- ==== Proof.PoolFwdBlock.lean ====
module

public import proofs.«01_k».proof.Proof.PoolFwdIdealFrame
public import proofs.«01_k».proof.Proof.PoolFwdRef
public import Idealize.ShloMosaic.Lib.Pipeline.ValueKit

/-! # One trip of the pooling's second loop -/

@[expose] public section

set_option maxRecDepth 16384

noncomputable section

open Idealize.ShloMosaic Idealize.ShloMosaic.TcCoe Idealize.SL.Sem
open Idealize.ShloMosaic.Pipeline (Dat)

namespace Cert.PoolFwd
open Cert.Kernel7Ideal Cert.Kernel7Ideal.Gen

/-- What a trip stores, of what it has loaded. -/
def trip2 {F : FTy → Type} [FloatOps F] (k : Fin k0_t2_loop.trips) (win : Vec F S272x512 .f32) (u gate : Vec F S256x512 .f32)
    (w0 w1 w2 w3 : Vec F S1x128x128 .bf16) (v0 v1 : Vec F S1x512 .f32) : FVec F S256x512 .bf16 :=
  k0_pay3 gate
    (k0_pay15 (k0_pay7 win) (k0_pay8 win) (k0_pay9 win) (k0_pay11 0#32 1#32 k) (k0_pay12 0#32 1#32 k)
      (k0_pay13 0#32 1#32 k) u (k0_pay14 0#32 1#32 k win u) w0 w1 w2 w3 v0 v1)
    (k0_pay16 gate)

/-- What a trip is given: the window of the lined-up sequence, the rows of the sequence and of the gate, and the weights whole. -/
structure Trip (I : In) (b : Fin 4) (k : Fin k0_t2_loop.trips) (at' : Fin 256 → Fin 2048) where
  win : Vec Ideal S272x512 .f32
  u : Vec Ideal S256x512 .f32
  gate : Vec Ideal S256x512 .f32
  w0 : Vec Ideal S1x128x128 .bf16
  w1 : Vec Ideal S1x128x128 .bf16
  w2 : Vec Ideal S1x128x128 .bf16
  w3 : Vec Ideal S1x128x128 .bf16
  v0 : Vec Ideal S1x512 .f32
  v1 : Vec Ideal S1x512 .f32
  hat : ∀ r, (at' r).val = 256 * k.val + r.val
  hwin : ∀ (r : Fin 256) (d : ℕ) (hd : d ≤ 15) (l : Fin 512) (q : Fin 272), q.val + d = 16 + r.val → win (ix2 q l) = I.D d b (at' r) l
  hu : ∀ (r : Fin 256) (l : Fin 512), u (ix2 r l) = I.D 0 b (at' r) l
  hgate : ∀ (r : Fin 256) (l : Fin 512), gate (ix2 r l) = I.z (ix2 (row b (at' r)) ⟨4096 + l.val, by omega⟩)
  hw0 : ∀ i j, w0 (ix3 0 i j) = I.pw (ix3 0 i j)
  hw1 : ∀ i j, w1 (ix3 0 i j) = I.pw (ix3 1 i j)
  hw2 : ∀ i j, w2 (ix3 0 i j) = I.pw (ix3 2 i j)
  hw3 : ∀ i j, w3 (ix3 0 i j) = I.pw (ix3 3 i j)
  hv0 : ∀ l, v0 (ix2 0 l) = I.bias l
  hv1 : ∀ l, v1 (ix2 0 l) = I.ps (ix1 l)

namespace Trip
variable {I : In} {b : Fin 4} {k : Fin k0_t2_loop.trips} {at' : Fin 256 → Fin 2048} (T : Trip I b k at')
include T

/-- The window's rows added in pairs, -/
theorem pay4_apply (r : Fin 256) (d : ℕ) (hd : d ≤ 14) (l : Fin 512) (q : Fin 272) (hq : q.val + d = 16 + r.val) :
    k0_pay4 T.win (ix2 q l) = I.D d b (at' r) l + I.D (d + 1) b (at' r) l := by
  have h := T.hwin
  generalize T.win = w at h
  pointwise [k0_pay4]
  rw [h r d (by omega) l q hq, h r (d + 1) (by omega) l _ (by simp only; omega)]

/-- in fours, -/
theorem pay5_apply (r : Fin 256) (d : ℕ) (hd : d ≤ 12) (l : Fin 384) (q : Fin 272) (hq : q.val + d = 16 + r.val) :
    k0_pay5 T.win (ix2 q l) = I.D d b (at' r) ⟨128 + l.val, by omega⟩ + I.D (d + 1) b (at' r) ⟨128 + l.val, by omega⟩
      + (I.D (d + 2) b (at' r) ⟨128 + l.val, by omega⟩ + I.D (d + 3) b (at' r) ⟨128 + l.val, by omega⟩) := by
  have h := T.pay4_apply
  unfold k0_pay5
  generalize k0_pay4 T.win = w at h
  pointwise []
  rw [h r d (by omega) _ _ (by omega), h r (d + 2) (by omega) _ _ (by simp only; omega)]

/-- and in eights. -/
theorem pay6_apply (r : Fin 256) (d : ℕ) (hd : d ≤ 8) (l : Fin 256) (q : Fin 272) (hq : q.val + d = 16 + r.val) :
    k0_pay6 T.win (ix2 q l) = I.D d b (at' r) ⟨256 + l.val, by omega⟩ + I.D (d + 1) b (at' r) ⟨256 + l.val, by omega⟩
      + (I.D (d + 2) b (at' r) ⟨256 + l.val, by omega⟩ + I.D (d + 3) b (at' r) ⟨256 + l.val, by omega⟩)
      + (I.D (d + 4) b (at' r) ⟨256 + l.val, by omega⟩ + I.D (d + 5) b (at' r) ⟨256 + l.val, by omega⟩
      + (I.D (d + 6) b (at' r) ⟨256 + l.val, by omega⟩ + I.D (d + 7) b (at' r) ⟨256 + l.val, by omega⟩)) := by
  have h := T.pay5_apply
  unfold k0_pay6
  generalize k0_pay5 T.win = w at h
  pointwise []
  rw [h r d (by omega) _ _ (by omega), h r (d + 4) (by omega) _ _ (by simp only; omega)]
  simp only [← Nat.add_assoc]

/-- The sums of each group, out of the added rows: of four rows, -/
theorem pay7_apply (r : Fin 256) (l : Fin 128) : k0_pay7 T.win (ix2 r l) = I.S 3 b (at' r) ⟨128 + l.val, by omega⟩ := by
  have h := T.pay5_apply
  unfold k0_pay7
  generalize k0_pay5 T.win = w at h
  pointwise []
  rw [h r 0 (by omega) _ _ (by simp)]
  simp only [In.S, Nat.zero_add, add_assoc]

/-- of eight, -/
theorem pay8_apply (r : Fin 256) (l : Fin 128) : k0_pay8 T.win (ix2 r l) = I.S 7 b (at' r) ⟨256 + l.val, by omega⟩ := by
  have h := T.pay6_apply
  unfold k0_pay8
  generalize k0_pay6 T.win = w at h
  pointwise []
  rw [h r 0 (by omega) _ _ (by simp)]
  simp only [In.S, Nat.zero_add, add_assoc]

/-- and of sixteen. -/
theorem pay9_apply (r : Fin 256) (l : Fin 128) : k0_pay9 T.win (ix2 r l) = I.S 15 b (at' r) ⟨384 + l.val, by omega⟩ := by
  have h := T.pay6_apply
  unfold k0_pay9
  generalize k0_pay6 T.win = w at h
  pointwise []
  rw [h r 0 (by omega) _ _ (by simp), h r 8 (by omega) _ _ (by simp only; omega)]
  have e : (⟨256 + (128 + l.val), by omega⟩ : Fin 512) = ⟨384 + l.val, by omega⟩ := Fin.ext (by simp only; omega)
  simp only [In.S, Nat.zero_add, add_assoc, e]

/-- How many rows of a window there are, counted in words. -/
theorem count (r : Fin 256) : IntOp.addi (Scalar.addi (Scalar.muli (Scf.iv 0#32 1#32 k) 256#32) 1#32) (BitVec.ofNat 32 r.val)
    = IntOp.addi (BitVec.ofNat 32 (at' r).val) 1#32 := by
  rw [T.hat]
  have hk : k.val < 8 := k.isLt
  have hr := r.isLt
  apply BitVec.eq_of_toNat_eq
  simp [IntOp.addi, Scalar.addi, Scalar.muli, Scf.iv, IntOp.muli]
  omega

/-- The counts of windows of four rows, -/
theorem pay11_apply (r : Fin 256) : k0_pay11 (F := Ideal) 0#32 1#32 k (ix2 r 0) = In.cnt 4#32 (at' r) := by
  pointwise [k0_pay11, k0_pay10]
  rw [T.count]; rfl

/-- of eight, -/
theorem pay12_apply (r : Fin 256) : k0_pay12 (F := Ideal) 0#32 1#32 k (ix2 r 0) = In.cnt 8#32 (at' r) := by
  pointwise [k0_pay12, k0_pay10]
  rw [T.count]; rfl

/-- and of sixteen. -/
theorem pay13_apply (r : Fin 256) : k0_pay13 (F := Ideal) 0#32 1#32 k (ix2 r 0) = In.cnt 16#32 (at' r) := by
  pointwise [k0_pay13, k0_pay10]
  rw [T.count]; rfl

/-- The pooled columns of the first group. -/
theorem pay14_apply (r : Fin 256) (l : Fin 128) : k0_pay14 0#32 1#32 k T.win T.u (ix2 r l)
    = Ideal.div (I.S 1 b (at' r) ⟨0 + l.val, by omega⟩) (In.cnt 2#32 (at' r)) - I.D 0 b (at' r) ⟨0 + l.val, by omega⟩ := by
  have h := T.pay4_apply
  unfold k0_pay14
  generalize k0_pay4 T.win = w at h
  pointwise [k0_pay10]
  rw [h r 0 (by omega) _ _ (by simp), T.count, T.hu]
  simp
  rfl

/-- The four products side by side, shifted and scaled. -/
theorem pay15_apply (r : Fin 256) (l : Fin 512) :
    k0_pay15 (k0_pay7 T.win) (k0_pay8 T.win) (k0_pay9 T.win) (k0_pay11 0#32 1#32 k) (k0_pay12 0#32 1#32 k) (k0_pay13 0#32 1#32 k) T.u
      (k0_pay14 0#32 1#32 k T.win T.u) T.w0 T.w1 T.w2 T.w3 T.v0 T.v1 (ix2 r l)
      = (I.mixed b (at' r) l + I.bias l) * I.ps (ix1 l) := by
  have h7 := T.pay7_apply r; have h8 := T.pay8_apply r; have h9 := T.pay9_apply r
  have h11 := T.pay11_apply r; have h12 := T.pay12_apply r; have h13 := T.pay13_apply r; have h14 := T.pay14_apply r
  generalize k0_pay7 T.win = p7 at h7 ⊢
  generalize k0_pay8 T.win = p8 at h8 ⊢
  generalize k0_pay9 T.win = p9 at h9 ⊢
  generalize k0_pay11 (F := Ideal) 0#32 1#32 k = p11 at h11 ⊢
  generalize k0_pay12 (F := Ideal) 0#32 1#32 k = p12 at h12 ⊢
  generalize k0_pay13 (F := Ideal) 0#32 1#32 k = p13 at h13 ⊢
  generalize k0_pay14 0#32 1#32 k T.win T.u = p14 at h14 ⊢
  pointwise [k0_pay15]
  rw [T.hv0, T.hv1]
  congr 2
  by_cases c0 : l.val < 128
  · rw [dif_pos c0, (congrArg (I.mixed b (at' r)) (Fin.ext (by simp))).trans (I.mixed0 b (at' r) ⟨l.val, c0⟩)]
    exact Finset.sum_congr rfl fun x _ => by rw [h14, T.hw0]; rfl
  rw [dif_neg c0]
  by_cases c1 : l.val - 128 < 128
  · rw [dif_pos c1, (congrArg (I.mixed b (at' r)) (Fin.ext (by simp only; omega))).trans (I.mixed1 b (at' r) ⟨l.val - 128, c1⟩)]
    exact Finset.sum_congr rfl fun x _ => by rw [h7, h11, T.hu, T.hw1]; rfl
  rw [dif_neg c1]
  by_cases c2 : l.val - 128 - 128 < 128
  · rw [dif_pos c2, (congrArg (I.mixed b (at' r)) (Fin.ext (by simp only; omega))).trans (I.mixed2 b (at' r) ⟨l.val - 128 - 128, c2⟩)]
    exact Finset.sum_congr rfl fun x _ => by rw [h8, h12, T.hu, T.hw2]; rfl
  rw [dif_neg c2, (congrArg (I.mixed b (at' r)) (Fin.ext (by simp only; omega))).trans (I.mixed3 b (at' r) ⟨l.val - 128 - 128 - 128, by omega⟩)]
  exact Finset.sum_congr rfl fun x _ => by rw [h9, h13, T.hu, T.hw3]; rfl

/-- What the trip stores, as the reference has it. -/
theorem stored (r : Fin 256) (l : Fin 512) :
    trip2 k T.win T.u T.gate T.w0 T.w1 T.w2 T.w3 T.v0 T.v1 (ix2 r l) = I.out (ix2 (row b (at' r)) l) := by
  unfold trip2
  have h := T.pay15_apply r l
  rw [I.out_apply, ← h, ← T.hgate]
  generalize (k0_pay15 (k0_pay7 T.win) (k0_pay8 T.win) (k0_pay9 T.win) (k0_pay11 0#32 1#32 k) (k0_pay12 0#32 1#32 k)
        (k0_pay13 0#32 1#32 k) T.u (k0_pay14 0#32 1#32 k T.win T.u) T.w0 T.w1 T.w2 T.w3 T.v0 T.v1) = p
  pointwise [k0_pay3, k0_pay16]
  rw [zero_sub]

end Trip
end Cert.PoolFwd
-- ==== Proof.PoolFwdOut.lean ====
module

public import proofs.«01_k».proof.Proof.PoolFwdBlock
public import Idealize.ShloMosaic.Lib.Pipeline.ValueKit

/-! # What one grid point of the pooling leaves in its block

The scratch holds sixteen rows of zeros and then the sequence, so the rows a trip of the second loop reads are the sequence's rows
and, before its first one, zeros. The eight trips store the block's rows 256 at a time. -/

@[expose] public section

set_option maxRecDepth 16384

noncomputable section

open Idealize.ShloMosaic Idealize.ShloMosaic.TcCoe Idealize.SL.Sem
open Idealize.ShloMosaic.Pipeline (Dat)

namespace Cert.PoolFwd
open Cert.Kernel7Ideal Cert.Kernel7Ideal.Gen Cert.Kernel7Ideal.Hand

variable {F : FTy → Type} [FloatOps F]

/-- A load of 256 rows of a whole buffer. -/
theorem load_rows (w : Memref sig .tc .vmem S2048x512 .f32) (hw : w.IsWhole) (d : Vec F S2048x512 .f32) (off : Fin S2048x512.rank → ℕ)
    (inb : ∀ a, off a + S256x512.size a ≤ S2048x512.size a) (o : ℕ) (ho : o + 256 ≤ 2048) (hoff : off = ![o, 0]) (r : Fin 256) (l : Fin 512) :
    View.readAt (Elt F) w.view (Rect.unit (s := S2048x512) off S256x512.size inb).toLoadRect (hw.unread d) (ix2 r l) = d (ix2 ⟨o + r.val, by omega⟩ l) := by
  subst hoff
  rw [View.readAt_eq_ld, Memref.IsWhole.read_unread]
  pointwise

/-- A load of one matrix of a whole buffer of four. -/
theorem load_mat (w : Memref sig .tc .vmem S4x128x128 .bf16) (hw : w.IsWhole) (d : Vec F S4x128x128 .bf16) (g : ℕ) (hg : g < 4)
    (inb : ∀ a, (![g, 0, 0] : Fin 3 → ℕ) a + S1x128x128.size a ≤ S4x128x128.size a) (i j : Fin 128) :
    View.readAt (Elt F) w.view (Rect.unit (s := S4x128x128) ![g, 0, 0] S1x128x128.size inb).toLoadRect (hw.unread d) (ix3 0 i j) = d (ix3 ⟨g, hg⟩ i j) := by
  rw [View.readAt_eq_ld, Memref.IsWhole.read_unread]
  pointwise

/-- A load of one row of a whole buffer of eight. -/
theorem load_row (w : Memref sig .tc .vmem S8x512 .f32) (hw : w.IsWhole) (d : Vec F S8x512 .f32) (g : ℕ) (hg : g < 8)
    (inb : ∀ a, (![g, 0] : Fin 2 → ℕ) a + S1x512.size a ≤ S8x512.size a) (l : Fin 512) :
    View.readAt (Elt F) w.view (Rect.unit (s := S8x512) ![g, 0] S1x512.size inb).toLoadRect (hw.unread d) (ix2 0 l) = d (ix2 ⟨g, hg⟩ l) := by
  rw [View.readAt_eq_ld, Memref.IsWhole.read_unread]
  pointwise

/-- Where a rectangle of whole rows has its places. -/
theorem emb_rows {R a C : ℕ} (off : Fin 2 → ℕ) (inb : ∀ x, off x + (![a, C] : Fin 2 → ℕ) x ≤ (![R, C] : Fin 2 → ℕ) x) (o : ℕ) (ho : o + a ≤ R)
    (hoff : off = ![o, 0]) (r : Fin a) (l : Fin C) :
    (Rect.unit (s := ⟨2, ![R, C]⟩) off ![a, C] inb).emb (ix2 r l) = ix2 (⟨o + r.val, by omega⟩ : Fin R) l := by
  subst hoff
  funext x
  refine Fin.ext ?_
  rw [Rect.emb_apply]
  revert x
  refine Fin.forall_fin_two.mpr ⟨?_, ?_⟩
  · show o + 1 * r.val = o + r.val; omega
  · show 0 + 1 * l.val = l.val; omega

/-- The lined-up sequence, place by place. -/
def lineup (x0 : Vec F S2048x512 .f32) (z : F .f32) (y : S2064x512.Idx) : F .f32 :=
  if h : 16 ≤ (y 0).val then x0 (ix2 ⟨(y 0).val - 16, by have : (y 0).val < 2064 := (y 0).isLt; omega⟩ (y 1)) else z

/-- The writes of the trips of the copying loop are those of some trip. -/
theorem of_pb1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (X : BufTy.Contents (Elt F) arg1.view.ty) (n : ℕ) (hn : n ≤ k0_t1_loop.trips) (p : View.Piece (Elt F) S2064x512 .f32)
    (hp : p ∈ pb_k0_t1 (F := F) Variants.none c none i arg1 harg1 arg2 harg2 arg3 harg3 arg4 harg4 arg5 harg5 arg6 harg6 X n) :
    ∃ k : Fin k0_t1_loop.trips, p = ⟨Rect.unit (s := S2064x512) (k0_off2 k) S256x512.size (k0_off2_inb k),
          k0_pay2 (arg1.view.readAt (Elt F) (Rect.unit (s := S2048x512) (k0_off1 k) S256x512.size (k0_off1_inb k)).toLoadRect X)⟩ := by
  induction n with
  | zero => exact absurd hp List.not_mem_nil
  | succ n ih =>
    rw [pb_k0_t1_succ Variants.none c none i arg1 harg1 arg2 harg2 arg3 harg3 arg4 harg4 arg5 harg5 arg6 harg6 X ⟨n, hn⟩, tripL1_eq] at hp
    rcases List.mem_append.mp hp with h | h
    · exact ⟨_, List.mem_singleton.mp h⟩
    · exact ih (by omega) h

/-- The scratch, once lined up, holds the lined-up sequence. -/
theorem read_lined (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (x0 : Vec Ideal S2048x512 .f32) (f : BufTy.Contents (Elt Ideal) arg6.view.ty) (y : S2064x512.Idx) :
    arg6.view.read (Elt Ideal) (arg6.view.writes (Elt Ideal) f (lined (F := Ideal) c i arg1 harg1 arg2 harg2 arg3 harg3 arg4 harg4 arg5 harg5 arg6 harg6 (harg1.unread x0))) y
      = lineup (F := Ideal) x0 (0 : EReal) y := by
  refine View.read_writes_apply_of_pieces _ _ (lineup (F := Ideal) x0 (0 : EReal)) _ (fun p hp x => ?_) y
    (lined_cover c i arg1 harg1 arg2 harg2 arg3 harg3 arg4 harg4 arg5 harg5 arg6 harg6 (harg1.unread x0) y)
  unfold lined at hp
  rcases List.mem_append.mp hp with h | h
  · obtain ⟨k, rfl⟩ := of_pb1 c i arg1 harg1 arg2 harg2 arg3 harg3 arg4 harg4 arg5 harg5 arg6 harg6 _ _ (le_refl _) p h
    have hk : k.val < 8 := k.isLt
    idx_vars x
    rename_i X
    rw [emb_rows _ _ (256 * k.val + 16) (by omega) (k0_off2_eq k)]
    unfold lineup
    rw [dif_pos (by show 16 ≤ 256 * k.val + 16 + x0.val; omega)]
    unfold k0_pay2
    pointwise []
    rw [load_rows _ _ _ _ _ (256 * k.val) (by omega) (k0_off1_eq k)]
    exact congrArg (fun n => X (ix2 n x1)) (Fin.ext (by simp only; omega))
  · obtain rfl := List.mem_singleton.mp h
    idx_vars x
    rw [emb_rows _ _ 0 (by omega) rfl]
    unfold lineup
    rw [dif_neg (by show ¬ 16 ≤ 0 + x0.val; omega)]
    pointwise [k0_pay1]

/-- What one trip of the second loop writes. -/
theorem tripL2_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty) (k : Fin k0_t2_loop.trips) :
    tripL_k0_t2 (F := F) Variants.none c none i arg1 harg1 arg2 harg2 arg3 harg3 arg4 harg4 arg5 harg5 arg6 harg6 X1 X2 X3 X4 X6 k
      = [⟨Rect.unit (s := S2048x512) (k0_off4 k) S256x512.size (k0_off4_inb k), trip2 (F := F) k
          (arg6.view.readAt (Elt F) (Rect.unit (s := S2064x512) (k0_off3 k) S272x512.size (k0_off3_inb k)).toLoadRect X6)
          (arg1.view.readAt (Elt F) (Rect.unit (s := S2048x512) (k0_off4 k) S256x512.size (k0_off4_inb k)).toLoadRect X1)
          (arg2.view.readAt (Elt F) (Rect.unit (s := S2048x512) (k0_off4 k) S256x512.size (k0_off4_inb k)).toLoadRect X2)
          (arg3.view.readAt (Elt F) (Rect.unit (s := S4x128x128) ![0, 0, 0] S1x128x128.size inb_S4x128x128_S1x128x128_0_0_0).toLoadRect X3)
          (arg3.view.readAt (Elt F) (Rect.unit (s := S4x128x128) ![1, 0, 0] S1x128x128.size inb_S4x128x128_S1x128x128_1_0_0).toLoadRect X3)
          (arg3.view.readAt (Elt F) (Rect.unit (s := S4x128x128) ![2, 0, 0] S1x128x128.size inb_S4x128x128_S1x128x128_2_0_0).toLoadRect X3)
          (arg3.view.readAt (Elt F) (Rect.unit (s := S4x128x128) ![3, 0, 0] S1x128x128.size inb_S4x128x128_S1x128x128_3_0_0).toLoadRect X3)
          (arg4.view.readAt (Elt F) (Rect.unit (s := S8x512) ![0, 0] S1x512.size inb_S8x512_S1x512_0_0).toLoadRect X4)
          (arg4.view.readAt (Elt F) (Rect.unit (s := S8x512) ![1, 0] S1x512.size inb_S8x512_S1x512_1_0).toLoadRect X4)⟩] := by
  unfold tripL_k0_t2 trip_k0_t2; rfl

/-- The body's writes are those of the trips of the second loop. -/
theorem kernelRun_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (x0 : Vec F S2048x512 .f32) (x1 : Vec F S2048x512 .f32) (x2 : Vec F S4x128x128 .bf16) (x3 : Vec F S8x512 .f32) :
    (kernelRun0_A c i arg1 harg1 arg2 harg2 arg3 harg3 arg4 harg4 arg5 harg5 arg6 harg6 x0 x1 x2 x3).1
      = pb_k0_t2 (F := F) Variants.none c none i arg1 harg1 arg2 harg2 arg3 harg3 arg4 harg4 arg5 harg5 arg6 harg6
          (harg1.unread x0) (harg2.unread x1) (harg3.unread x2) (harg4.unread x3)
          (arg6.view.writes (Elt F) arg6.view.junk (lined (F := F) c i arg1 harg1 arg2 harg2 arg3 harg3 arg4 harg4 arg5 harg5 arg6 harg6 (harg1.unread x0)))
          (Scf.trips k0_t2_loop.lb k0_t2_loop.ub k0_t2_loop.st) := by
  unfold kernelRun0_A; rfl

/-- The writes of the trips of the second loop are those of some trip, -/
theorem of_pb2 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (X1 : BufTy.Contents (Elt F) arg1.view.ty) (X2 : BufTy.Contents (Elt F) arg2.view.ty) (X3 : BufTy.Contents (Elt F) arg3.view.ty) (X4 : BufTy.Contents (Elt F) arg4.view.ty) (X6 : BufTy.Contents (Elt F) arg6.view.ty)
    (n : ℕ) (hn : n ≤ k0_t2_loop.trips) (p : View.Piece (Elt F) S2048x512 .bf16)
    (hp : p ∈ pb_k0_t2 (F := F) Variants.none c none i arg1 harg1 arg2 harg2 arg3 harg3 arg4 harg4 arg5 harg5 arg6 harg6 X1 X2 X3 X4 X6 n) :
    ∃ k : Fin k0_t2_loop.trips, p ∈ tripL_k0_t2 (F := F) Variants.none c none i arg1 harg1 arg2 harg2 arg3 harg3 arg4 harg4 arg5 harg5 arg6 harg6 X1 X2 X3 X4 X6 k := by
  induction n with
  | zero => exact absurd hp List.not_mem_nil
  | succ n ih =>
    rw [pb_k0_t2_succ Variants.none c none i arg1 harg1 arg2 harg2 arg3 harg3 arg4 harg4 arg5 harg5 arg6 harg6 X1 X2 X3 X4 X6 ⟨n, hn⟩] at hp
    rcases List.mem_append.mp hp with h | h
    · exact ⟨_, h⟩
    · exact ih (by omega) h

/-- What a grid point leaves: the reference's rows of the point's sequence. -/
theorem out_eq (I : In) (b : Fin 4) (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S4x128x128 .bf16) (harg3 : arg3.IsWhole) (arg4 : Memref sig .tc .vmem S8x512 .f32) (harg4 : arg4.IsWhole) (arg5 : Memref sig .tc .vmem S2048x512 .bf16) (harg5 : arg5.IsWhole) (arg6 : Memref sig .tc .vmem S2064x512 .f32) (harg6 : arg6.IsWhole)
    (x0 : Vec Ideal S2048x512 .f32) (x1 : Vec Ideal S2048x512 .f32) (x2 : Vec Ideal S4x128x128 .bf16) (x3 : Vec Ideal S8x512 .f32)
    (h0 : ∀ t l, x0 (ix2 t l) = I.D 0 b t l) (h1 : ∀ t (l : Fin 512), x1 (ix2 t l) = I.z (ix2 (row b t) ⟨4096 + l.val, by omega⟩))
    (h2 : ∀ g i j, x2 (ix3 g i j) = I.pw (ix3 g i j)) (h3 : ∀ l, x3 (ix2 0 l) = I.bias l) (h4 : ∀ l, x3 (ix2 1 l) = I.ps (ix1 l)) (y : S2048x512.Idx) :
    out0_A_4 c i arg1 harg1 arg2 harg2 arg3 harg3 arg4 harg4 arg5 harg5 arg6 harg6 x0 x1 x2 x3 y = I.out (ix2 (row b (y 0)) (y 1)) := by
  have hc := cover0_A_4 c i arg1 harg1 arg2 harg2 arg3 harg3 arg4 harg4 arg5 harg5 arg6 harg6 x0 x1 x2 x3 y
  have he := kernelRun_eq c i arg1 harg1 arg2 harg2 arg3 harg3 arg4 harg4 arg5 harg5 arg6 harg6 x0 x1 x2 x3
  unfold out0_A_4
  generalize (kernelRun0_A c i arg1 harg1 arg2 harg2 arg3 harg3 arg4 harg4 arg5 harg5 arg6 harg6 x0 x1 x2 x3).1 = L at hc he ⊢
  refine View.read_writes_apply_of_pieces VO0_4 VO0_4.junk (fun y => I.out (ix2 (row b (y 0)) (y 1))) L (fun p hp x => ?_) y hc
  rw [he] at hp
  obtain ⟨k, hp⟩ := of_pb2 c i arg1 harg1 arg2 harg2 arg3 harg3 arg4 harg4 arg5 harg5 arg6 harg6 _ _ _ _ _ _ (le_refl _) p hp
  rw [tripL2_eq] at hp
  obtain rfl := List.mem_singleton.mp hp
  have hk : k.val < 8 := k.isLt
  have at_lt (r : Fin 256) : 256 * k.val + r.val < 2048 := by omega
  let T : Trip I b k (fun r => ⟨256 * k.val + r.val, at_lt r⟩) := {
    win := (arg6.view.readAt (Elt Ideal) (Rect.unit (s := S2064x512) (k0_off3 k) S272x512.size (k0_off3_inb k)).toLoadRect (arg6.view.writes (Elt Ideal) arg6.view.junk (lined (F := Ideal) c i arg1 harg1 arg2 harg2 arg3 harg3 arg4 harg4 arg5 harg5 arg6 harg6 (harg1.unread x0))))
    u := arg1.view.readAt (Elt Ideal) (Rect.unit (s := S2048x512) (k0_off4 k) S256x512.size (k0_off4_inb k)).toLoadRect (harg1.unread x0)
    gate := arg2.view.readAt (Elt Ideal) (Rect.unit (s := S2048x512) (k0_off4 k) S256x512.size (k0_off4_inb k)).toLoadRect (harg2.unread x1)
    w0 := arg3.view.readAt (Elt Ideal) (Rect.unit (s := S4x128x128) ![0, 0, 0] S1x128x128.size inb_S4x128x128_S1x128x128_0_0_0).toLoadRect (harg3.unread x2)
    w1 := arg3.view.readAt (Elt Ideal) (Rect.unit (s := S4x128x128) ![1, 0, 0] S1x128x128.size inb_S4x128x128_S1x128x128_1_0_0).toLoadRect (harg3.unread x2)
    w2 := arg3.view.readAt (Elt Ideal) (Rect.unit (s := S4x128x128) ![2, 0, 0] S1x128x128.size inb_S4x128x128_S1x128x128_2_0_0).toLoadRect (harg3.unread x2)
    w3 := arg3.view.readAt (Elt Ideal) (Rect.unit (s := S4x128x128) ![3, 0, 0] S1x128x128.size inb_S4x128x128_S1x128x128_3_0_0).toLoadRect (harg3.unread x2)
    v0 := arg4.view.readAt (Elt Ideal) (Rect.unit (s := S8x512) ![0, 0] S1x512.size inb_S8x512_S1x512_0_0).toLoadRect (harg4.unread x3)
    v1 := arg4.view.readAt (Elt Ideal) (Rect.unit (s := S8x512) ![1, 0] S1x512.size inb_S8x512_S1x512_1_0).toLoadRect (harg4.unread x3)
    hat := fun r => rfl
    hwin := fun r d hd l q hq => by
      rw [View.readAt_eq_ld]
      show arg6.view.read (Elt Ideal) _ ((Rect.unit (s := S2064x512) (k0_off3 k) S272x512.size (k0_off3_inb k)).emb (ix2 q l)) = _
      rw [read_lined, emb_rows _ _ (256 * k.val) (by omega) (k0_off3_eq k)]
      unfold lineup
      by_cases hh : d ≤ 256 * k.val + r.val
      · rw [dif_pos (by show 16 ≤ 256 * k.val + q.val; omega)]
        refine (h0 _ _).trans ?_
        unfold In.D
        rw [if_pos (Nat.zero_le _), if_pos hh]
        exact congrArg (fun n => I.z (ix2 (row b n) _)) (Fin.ext (by show 256 * k.val + q.val - 16 - 0 = 256 * k.val + r.val - d; omega))
      · rw [dif_neg (by show ¬ 16 ≤ 256 * k.val + q.val; omega)]
        unfold In.D
        rw [if_neg hh]
    hu := fun r l => by rw [load_rows _ _ _ _ _ (256 * k.val) (by omega) (k0_off4_eq k), h0]
    hgate := fun r l => by rw [load_rows _ _ _ _ _ (256 * k.val) (by omega) (k0_off4_eq k), h1]
    hw0 := fun i j => by rw [load_mat _ _ _ 0 (by omega), h2]; rfl
    hw1 := fun i j => by rw [load_mat _ _ _ 1 (by omega), h2]; rfl
    hw2 := fun i j => by rw [load_mat _ _ _ 2 (by omega), h2]; rfl
    hw3 := fun i j => by rw [load_mat _ _ _ 3 (by omega), h2]; rfl
    hv0 := fun l => by rw [load_row _ _ _ 0 (by omega)]; exact h3 l
    hv1 := fun l => by rw [load_row _ _ _ 1 (by omega)]; exact h4 l }
  idx_vars x
  rw [emb_rows _ _ (256 * k.val) (by omega) (k0_off4_eq k)]
  exact T.stored _ _

end Cert.PoolFwd
-- ==== Proof.PoolFwd.lean ====
module

public import proofs.«01_k».proof.Proof.PoolFwdOut
public import Idealize.ShloMosaic.Lib.Pipeline.ValueKit
public import Idealize.ShloMosaic.Lib.Pipeline.ReadBack

/-! # The array the pooling's forward call ends with

Grid point `t` is given the rows of sequence `t` of the two groups of columns it reads, and the weights whole. -/

@[expose] public section

set_option maxRecDepth 16384

noncomputable section

open Idealize.ShloMosaic Idealize.ShloMosaic.TcCoe Idealize.SL.Sem
open Idealize.ShloMosaic.Pipeline (Dat)

namespace Cert.PoolFwd
open Cert.Kernel7Ideal Cert.Kernel7Ideal.Gen Cert.Kernel7Ideal.Hand
variable (m : (ℓ : Loc nD τ sig) → Buf (Elt Ideal) ℓ) (c : Dev nD)

/-- The arrays the program is given. -/
def inp : In where
  z := m ((c : Thread nD τ).loc main_arg0)
  pw := m ((c : Thread nD τ).loc main_arg1)
  pb := m ((c : Thread nD τ).loc main_arg2)
  ps := m ((c : Thread nD τ).loc main_arg3)

/-- There are four grid points. -/
theorem pt_lt (t : Fin cfg0.N) : t.val < 4 := t.isLt

/-- The sequence of a grid point. -/
def seqAt (t : Fin cfg0.N) : Fin 4 := ⟨t.val, pt_lt t⟩

/-- Which block of each array a grid point takes. -/
theorem idx : ∀ t : Fin cfg0.N, win0_0.index t = ![t.val, 7] ∧ win0_1.index t = ![t.val, 8] ∧ win0_2.index t = ![0, 0, 0]
    ∧ win0_3.index t = ![0, 0] ∧ win0_4.index t = ![t.val, 0] :=
  (by decide +kernel : ∀ t : Fin grid0.N, _)

/-- The cast mixing matrices are, over the reals, the mixing matrices. -/
theorem V_pw : V m c main_v0 = (inp m c).pw := by
  simp only [V, hostOps0, hostOps0_1, List.flatten_cons, List.flatten_nil, List.cons_append, List.nil_append, List.append_nil]
  after_results_simp
  rfl

/-- A grid point is given its sequence of the pooled columns, -/
theorem block0 (t : Fin cfg0.N) (r : Fin 2048) (l : Fin 512) : iblk m c 0 t (ix2 r l) = (inp m c).D 0 (seqAt t) r l := by
  unfold In.D
  rw [if_pos (Nat.zero_le _)]
  unfold row seqAt inp
  blk_ext [iblk, V, idx t]

/-- of the gate, -/
theorem block1 (t : Fin cfg0.N) (r : Fin 2048) (l : Fin 512) :
    iblk m c 1 t (ix2 r l) = (inp m c).z (ix2 (row (seqAt t) r) ⟨4096 + l.val, by omega⟩) := by
  unfold row seqAt inp
  blk_ext [iblk, V, idx t]

/-- and the matrices whole. -/
theorem block2 (t : Fin cfg0.N) (g : Fin 4) (i j : Fin 128) : iblk m c 2 t (ix3 g i j) = (inp m c).pw (ix3 g i j) := by
  rw [← V_pw]
  blk_ext [iblk, idx t]

/-- The array of eight rows that the host lays out: the biases, the scale, and six rows of zeros. -/
theorem V_rows : V m c main_v5 = pad S8x512 ![0, 0] ![6, 0] ![0, 0]
    (concatenate S2x512 0 [⟨S1x512, broadcastInDim S1x512 ![1] bcast_S512_S1x512_1 (shapeCast S512 (inp m c).pb shapeCasts_S4x128_S512)⟩,
      ⟨S1x512, broadcastInDim S1x512 ![1] bcast_S512_S1x512_1 (inp m c).ps⟩] concatenates_S1x512_S1x512_S2x512_d0)
    (sitofp (F := Ideal) .f32 (constantI S_ 32 0#32)) pads_S2x512_S8x512_060_000 h_S_ := by
  simp only [V, hostOps0, hostOps0_1, List.flatten_cons, List.flatten_nil, List.cons_append, List.nil_append, List.append_nil]
  after_results_simp
  rfl

/-- Its first row, -/
theorem V_bias (l : Fin 512) : V m c main_v5 (ix2 0 l) = (inp m c).bias l := by
  rw [V_rows]
  unfold In.bias
  pointwise []

/-- and its second. -/
theorem V_scale (l : Fin 512) : V m c main_v5 (ix2 1 l) = (inp m c).ps (ix1 l) := by
  rw [V_rows]
  pointwise []

/-- The block of biases and scale is that array. -/
theorem block3 (t : Fin cfg0.N) (g : Fin 8) (l : Fin 512) : iblk m c 3 t (ix2 g l) = V m c main_v5 (ix2 g l) := by
  blk_ext [iblk, idx t]

/-- What a grid point leaves, row by row. -/
theorem point (t : Fin cfg0.N) (r : Fin 2048) (l : Fin 512) : outsAt0 m c t (ix2 r l) = (inp m c).out (ix2 (row (seqAt t) r) l) := by
  unfold outsAt0
  exact out_eq (inp m c) (seqAt t) c _ _ _ _ _ _ _ _ _ _ _ _ _ _ _ _ _ (block0 m c t) (block1 m c t) (block2 m c t)
    (fun l => (block3 m c t 0 l).trans (V_bias m c l)) (fun l => (block3 m c t 1 l).trans (V_scale m c l)) (ix2 r l)

/-- The output's array is the reference's. -/
theorem out4 : (dats m 0 c).arrAt 4 cfg0.N = (inp m c).out := by
  refine (dats m 0 c).arrAt_eq_of_covers 4 _ (by decide +kernel) fun t _ y => ?_
  blk_simp [idx t]; rw [after0_4]
  idx_vars y
  refine (point m c t y0 y1).trans ?_
  unfold row seqAt; blk_ext [idx t]

end Cert.PoolFwd
-- ==== Proof.PoolFwdClaim.lean ====
module

public import proofs.«01_k».proof.Defs
public import proofs.«01_k».proof.Proof.PoolFwd
public import proofs.«01_k».proof.Proof.Gen.Kernel7
public import proofs.«01_k».proof.Proof.Gen.Reference7Ideal.Run
public import proofs.«01_k».proof.Proof.Gen.Reference7Ideal.Read
public import Idealize.ShloMosaic.Lib.Quiescent

/-! # The claims about the pooling's forward call -/

@[expose] public section

set_option maxRecDepth 16384

noncomputable section

open Idealize.ShloMosaic Idealize.ShloMosaic.TcCoe Idealize.SL.Sem
open Idealize.ShloMosaic.Pipeline (Dat)

namespace Cert.PoolFwd
open Cert.Kernel7Ideal Cert.Kernel7Ideal.Gen

/-- The kernel and the ideal kernel have the same text, so their tables of bodies are the same over the machine's floats, -/
theorem bodies_eq : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | 0, (t, s) => rfl
  | ⟨_ + 1, h⟩, _ => exact absurd h (Nat.not_lt.2 (Nat.le_add_left _ _))

/-- with their pipelines too. -/
theorem tables_eq : Cert.Kernel7.defs (F := Bits) = Cert.Kernel7Ideal.defs (F := Bits) := by
  unfold Cert.Kernel7.defs Cert.Kernel7Ideal.defs
  exact congrArg (Pipeline.defs _) bodies_eq

/-- The kernel runs to its end and keeps its arguments. -/
theorem frame_kernel : Cert.quiescent_Kernel7 := fun m ρ _ => by
  rw [tables_eq]
  exact Cert.Kernel7Ideal.Hand.frame (F := Bits) m ρ

/-- So does the kernel over the extended reals, -/
theorem frame_ideal : Cert.quiescent_Kernel7Ideal := fun m ρ _ => Cert.Kernel7Ideal.Hand.frame (F := Ideal) m ρ
/-- and so does the reference. -/
theorem frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The arrays in the reference's buffers. -/
def ofVal (V : Valuation Cert.Reference7Ideal.τ Cert.Reference7Ideal.sig (Elt Ideal)) : In where
  z := V (Proc.devRef .tc Cert.Reference7Ideal.main_arg0)
  pw := V (Proc.devRef .tc Cert.Reference7Ideal.main_arg1)
  pb := V (Proc.devRef .tc Cert.Reference7Ideal.main_arg2)
  ps := V (Proc.devRef .tc Cert.Reference7Ideal.main_arg3)

/-- The reference's result, by its name. -/
theorem out_def (V : Valuation Cert.Reference7Ideal.τ Cert.Reference7Ideal.sig (Elt Ideal)) :
    Cert.Reference7Ideal.Read.val_main_v101 (F := Ideal) (V (Proc.devRef .tc Cert.Reference7Ideal.main_arg0)) (V (Proc.devRef .tc Cert.Reference7Ideal.main_arg1)) (V (Proc.devRef .tc Cert.Reference7Ideal.main_arg2)) (V (Proc.devRef .tc Cert.Reference7Ideal.main_arg3))
      = (ofVal V).out := rfl

/-- Where the two programs are given the same arrays, the reference's buffers hold the kernel's arrays. -/
theorem inp_eq (m : (ℓ : Loc nD τ sig) → Buf (Elt Ideal) ℓ)
    (m' : (ℓ : Loc Cert.Reference7Ideal.nD Cert.Reference7Ideal.τ Cert.Reference7Ideal.sig) → Buf (Elt Ideal) ℓ) (c : Dev nD)
    (h : m' ((c.tc : Thread Cert.Reference7Ideal.nD Cert.Reference7Ideal.τ).loc Cert.Reference7Ideal.main_arg0) = m ((c.tc : Thread nD τ).loc main_arg0)
      ∧ m' ((c.tc : Thread Cert.Reference7Ideal.nD Cert.Reference7Ideal.τ).loc Cert.Reference7Ideal.main_arg1) = m ((c.tc : Thread nD τ).loc main_arg1)
      ∧ m' ((c.tc : Thread Cert.Reference7Ideal.nD Cert.Reference7Ideal.τ).loc Cert.Reference7Ideal.main_arg2) = m ((c.tc : Thread nD τ).loc main_arg2)
      ∧ m' ((c.tc : Thread Cert.Reference7Ideal.nD Cert.Reference7Ideal.τ).loc Cert.Reference7Ideal.main_arg3) = m ((c.tc : Thread nD τ).loc main_arg3)) :
    ofVal (StableHlo.launchContents m' c) = inp m c := by
  obtain ⟨a0, a1, a2, a3⟩ := h
  unfold ofVal inp; congr 1 <;> assumption

/-- The kernel's result is the value that the reference computes. -/
theorem algebraic : Cert.algebraic_Kernel7Ideal_Reference7Ideal := by
  intro m ρ m' ρ' _ hagree
  refine ⟨fun c => (inp m c).out, ?_, ?_⟩
  · refine (θ_run Cert.Kernel7Ideal.defs _ _).mono (fun _ h c => ?_) (Cert.Kernel7Ideal.Hand.run_blocks (F := Ideal) m ρ)
    obtain ⟨h0, hr⟩ := h c
    rw [out4] at h0
    exact ⟨h0, hr⟩
  · refine (θ_run Cert.Reference7Ideal.defs _ _).mono (fun _ h c => ?_) (Cert.Reference7Ideal.Value.run (F := Ideal) m' ρ')
    obtain ⟨h0, hr⟩ := h c
    rw [Cert.Reference7Ideal.Read.val_main_v101_eq] at h0
    exact ⟨h0.trans ((out_def (StableHlo.launchContents m' c)).trans (congrArg In.out (inp_eq m m' c (hagree c)))), hr⟩

end Cert.PoolFwd
-- ==== Proof.ConvFwdIdealFrame.lean ====
module

public import proofs.«01_k».proof.Proof.Gen.Kernel8Ideal.Frame.Runs
public import Idealize.ShloMosaic.Lib.Claim

/-! The convolution's forward call, over the ideal numbers: it ends and leaves its arguments as they were. The second loop of a
point reads a scratch whose first thirty-two rows are zeros and whose other rows the first loop has filled: together these writes
reach every place of it, so what it held before is nowhere read. -/

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What one trip of the gating loop writes: the rows of the block it has read, gated, thirty-two rows further down. -/
theorem tripL1_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (X : BufTy.Contents (Elt F) arg1.view.ty) (Y : BufTy.Contents (Elt F) arg2.view.ty) (k : Fin k0_t1_loop.trips) :
    tripL_k0_t1 (F := F) Variants.none c none i arg1 harg1 arg2 harg2 arg3 harg3 arg4 harg4 arg5 harg5 arg6 harg6 arg7 harg7 arg8 harg8 X Y k
      = [⟨Rect.unit (s := S2080x512) (k0_off2 k) S256x512.size (k0_off2_inb k),
          k0_pay2 (arg1.view.readAt (Elt F) (Rect.unit (s := S2048x512) (k0_off1 k) S256x512.size (k0_off1_inb k)).toLoadRect X)
            (arg2.view.readAt (Elt F) (Rect.unit (s := S2048x512) (k0_off1 k) S256x512.size (k0_off1_inb k)).toLoadRect Y)⟩] := by
  unfold tripL_k0_t1 trip_k0_t1; rfl

/-- The writes of a trip are among the writes of the trips up to any later one. -/
theorem mem_pb1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (X : BufTy.Contents (Elt F) arg1.view.ty) (Y : BufTy.Contents (Elt F) arg2.view.ty) (k : Fin k0_t1_loop.trips) (n : ℕ) (hk : k.val < n) (hn : n ≤ k0_t1_loop.trips) :
    (⟨Rect.unit (s := S2080x512) (k0_off2 k) S256x512.size (k0_off2_inb k),
          k0_pay2 (arg1.view.readAt (Elt F) (Rect.unit (s := S2048x512) (k0_off1 k) S256x512.size (k0_off1_inb k)).toLoadRect X)
            (arg2.view.readAt (Elt F) (Rect.unit (s := S2048x512) (k0_off1 k) S256x512.size (k0_off1_inb k)).toLoadRect Y)⟩ : View.Piece (Elt F) S2080x512 .f32)
      ∈ pb_k0_t1 (F := F) Variants.none c none i arg1 harg1 arg2 harg2 arg3 harg3 arg4 harg4 arg5 harg5 arg6 harg6 arg7 harg7 arg8 harg8 X Y n := by
  induction n with
  | zero => omega
  | succ n ih =>
    rw [pb_k0_t1_succ Variants.none c none i arg1 harg1 arg2 harg2 arg3 harg3 arg4 harg4 arg5 harg5 arg6 harg6 arg7 harg7 arg8 harg8 X Y ⟨n, hn⟩, tripL1_eq]
    rcases Nat.lt_succ_iff_lt_or_eq.mp hk with h | h
    · exact List.mem_append_right _ (ih h (by omega))
    · subst h; exact List.mem_append_left _ (List.mem_singleton.mpr rfl)

/-- Where writes reach every place of a whole buffer, what it held before does not matter. -/
theorem writes_over_junk {Val : EltTy → Type} [∀ e, Nonempty (Val e)] {κ : Kind} {sp : Space} {s : Shape} {e : EltTy}
    {w : Memref sig κ sp s e} (hw : w.IsWhole) (f : w.view.ty.Contents Val) (L : List (View.Piece Val s e))
    (hc : ∀ y, ∃ p ∈ L, y ∈ p.1.set) : w.view.writes Val f L = w.view.writes Val w.view.junk L := by
  obtain ⟨b, rfl, rfl, rfl, h⟩ := hw; cases h
  funext y
  exact View.read_writes_apply_eq (View.whole b) f (View.whole b) (View.whole b).junk y L (hc y)

/-- The thirty-two rows of zeros, then the gated rows of the sequence: what the scratch has had written before the second loop, last write first. -/
def lined (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (X : BufTy.Contents (Elt F) arg1.view.ty) (Y : BufTy.Contents (Elt F) arg2.view.ty) : List (View.Piece (Elt F) S2080x512 .f32) :=
  pb_k0_t1 (F := F) Variants.none c none i arg1 harg1 arg2 harg2 arg3 harg3 arg4 harg4 arg5 harg5 arg6 harg6 arg7 harg7 arg8 harg8 X Y (Scf.trips k0_t1_loop.lb k0_t1_loop.ub k0_t1_loop.st)
    ++ [⟨Rect.unit ![0, 0] S32x512.size inb_S2080x512_S32x512_0_0, k0_pay1⟩]

/-- These writes reach every place of the scratch. -/
theorem lined_cover (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (X : BufTy.Contents (Elt F) arg1.view.ty) (Y : BufTy.Contents (Elt F) arg2.view.ty) (y : S2080x512.Idx) : ∃ p ∈ lined (F := F) c i arg1 harg1 arg2 harg2 arg3 harg3 arg4 harg4 arg5 harg5 arg6 harg6 arg7 harg7 arg8 harg8 X Y, y ∈ p.1.set := by
  unfold lined
  have h0 : (y 0).val < 2080 := (y 0).isLt
  have h1 : (y 1).val < 512 := (y 1).isLt
  by_cases h : (y 0).val < 32
  · refine ⟨_, List.mem_append_right _ (List.mem_singleton.mpr rfl), ?_⟩
    refine (Rect.mem_set_unit (inb := inb_S2080x512_S32x512_0_0)).mpr ?_
    refine Fin.forall_fin_two.mpr ⟨⟨Nat.zero_le _, ?_⟩, ⟨Nat.zero_le _, ?_⟩⟩
    · show (y 0).val < 0 + 32; omega
    · show (y 1).val < 0 + 512; omega
  · have ht : k0_t1_loop.trips = 8 := by decide +kernel
    let k : Fin k0_t1_loop.trips := ⟨((y 0).val - 32) / 256, by omega⟩
    refine ⟨_, List.mem_append_left _ (mem_pb1 c i arg1 harg1 arg2 harg2 arg3 harg3 arg4 harg4 arg5 harg5 arg6 harg6 arg7 harg7 arg8 harg8 X Y k _ k.isLt (le_refl _)), ?_⟩
    refine (Rect.mem_set_unit (inb := k0_off2_inb k)).mpr ?_
    rw [k0_off2_eq]
    refine Fin.forall_fin_two.mpr ⟨?_, ⟨Nat.zero_le _, ?_⟩⟩
    · show 256 * (((y 0).val - 32) / 256) + 32 ≤ (y 0).val ∧ (y 0).val < 256 * (((y 0).val - 32) / 256) + 32 + 256
      omega
    · show (y 1).val < 0 + 512; omega

/-- So what the scratch held before does not matter. -/
theorem lined_writes (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (X : BufTy.Contents (Elt F) arg1.view.ty) (Y : BufTy.Contents (Elt F) arg2.view.ty) (f : BufTy.Contents (Elt F) arg8.view.ty) :
    arg8.view.writes (Elt F) f (lined (F := F) c i arg1 harg1 arg2 harg2 arg3 harg3 arg4 harg4 arg5 harg5 arg6 harg6 arg7 harg7 arg8 harg8 X Y) = arg8.view.writes (Elt F) arg8.view.junk (lined (F := F) c i arg1 harg1 arg2 harg2 arg3 harg3 arg4 harg4 arg5 harg5 arg6 harg6 arg7 harg7 arg8 harg8 X Y) :=
  writes_over_junk harg8 f _ (lined_cover c i arg1 harg1 arg2 harg2 arg3 harg3 arg4 harg4 arg5 harg5 arg6 harg6 arg7 harg7 arg8 harg8 X Y)

set_option maxHeartbeats 1000000 in
/-- The body at one point, from whole buffers with the inputs at their contents and the rest at anything: the writes it leaves in the outputs' buffers, and that it runs. -/
noncomputable def kernelRun0_A (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 : Vec F S2048x512 .f32) (x1 : Vec F S2048x512 .f32) (x2 : Vec F S2048x512 .f32) (x3 : Vec F S32x512 .f32) (x4 : Vec F S8x512 .f32) :
    Σ' (L5 : List (View.Piece (Elt F) S2048x512 .bf16)), { L6 : List (View.Piece (Elt F) S2048x512 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d)) -∗ K ⟨⟩))
          ⊢ wp frame (wpE (defs₀ (F := F)) Variants.none c none) E (cc0_conv_fwd i arg1 harg1 arg2 harg2 arg3 harg3 arg4 harg4 arg5 harg5 arg6 harg6 arg7 harg7 arg8 harg8) K } := by
  refine ⟨?_, ?_, fun E K => ?run⟩
  case run =>
    simp only [cc0_conv_fwd_eq_skeleton]; unfold cc0_conv_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    rw [show arg8.view.writes (Elt F) fs0 (pb_k0_t1 (F := F) Variants.none c none i arg1 harg1 arg2 harg2 arg3 harg3 arg4 harg4 arg5 harg5 arg6 harg6 arg7 harg7 arg8 harg8 (harg1.unread x0) (harg2.unread x1) (Scf.trips k0_t1_loop.lb k0_t1_loop.ub k0_t1_loop.st) ++ [⟨Rect.unit ![0, 0] S32x512.size inb_S2080x512_S32x512_0_0, k0_pay1⟩]) = _ from lined_writes c i arg1 harg1 arg2 harg2 arg3 harg3 arg4 harg4 arg5 harg5 arg6 harg6 arg7 harg7 arg8 harg8 (harg1.unread x0) (harg2.unread x1) fs0]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _, _; isplitr; swap; · iexact HS0
    ipureintro; rfl

/-- These writes reach every place of the block. -/
theorem cover0_A_5 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 : Vec F S2048x512 .f32) (x1 : Vec F S2048x512 .f32) (x2 : Vec F S2048x512 .f32) (x3 : Vec F S32x512 .f32) (x4 : Vec F S8x512 .f32) (y : S2048x512.Idx) :
    ∃ pc ∈ (kernelRun0_A c i arg1 harg1 arg2 harg2 arg3 harg3 arg4 harg4 arg5 harg5 arg6 harg6 arg7 harg7 arg8 harg8 x0 x1 x2 x3 x4).1, y ∈ pc.1.set :=
  View.cover_of_tiledL (kernelRun0_A c i arg1 harg1 arg2 harg2 arg3 harg3 arg4 harg4 arg5 harg5 arg6 harg6 arg7 harg7 arg8 harg8 x0 x1 x2 x3 x4).1 S256x512.size (by sl_kernel_rfl) y

/-- What the body leaves in the output's buffer. -/
def out0_A_5 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 : Vec F S2048x512 .f32) (x1 : Vec F S2048x512 .f32) (x2 : Vec F S2048x512 .f32) (x3 : Vec F S32x512 .f32) (x4 : Vec F S8x512 .f32) : Vec F S2048x512 .bf16 :=
  VO0_5.read (Elt F) (VO0_5.writes (Elt F) VO0_5.junk (kernelRun0_A c i arg1 harg1 arg2 harg2 arg3 harg3 arg4 harg4 arg5 harg5 arg6 harg6 arg7 harg7 arg8 harg8 x0 x1 x2 x3 x4).1)

/-- What the output's buffer holds after the body at a point. -/
def outsAt5 (c : Dev nD) (t : Fin cfg0.N) : Vec F S2048x512 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t)

/-- These writes reach every place of the block. -/
theorem cover0_A_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 : Vec F S2048x512 .f32) (x1 : Vec F S2048x512 .f32) (x2 : Vec F S2048x512 .f32) (x3 : Vec F S32x512 .f32) (x4 : Vec F S8x512 .f32) (y : S2048x512.Idx) :
    ∃ pc ∈ (kernelRun0_A c i arg1 harg1 arg2 harg2 arg3 harg3 arg4 harg4 arg5 harg5 arg6 harg6 arg7 harg7 arg8 harg8 x0 x1 x2 x3 x4).2.1, y ∈ pc.1.set :=
  View.cover_of_tiledL (kernelRun0_A c i arg1 harg1 arg2 harg2 arg3 harg3 arg4 harg4 arg5 harg5 arg6 harg6 arg7 harg7 arg8 harg8 x0 x1 x2 x3 x4).2.1 S256x512.size (by sl_kernel_rfl) y

/-- What the body leaves in the output's buffer. -/
def out0_A_6 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 : Vec F S2048x512 .f32) (x1 : Vec F S2048x512 .f32) (x2 : Vec F S2048x512 .f32) (x3 : Vec F S32x512 .f32) (x4 : Vec F S8x512 .f32) : Vec F S2048x512 .f32 :=
  VO0_6.read (Elt F) (VO0_6.writes (Elt F) VO0_6.junk (kernelRun0_A c i arg1 harg1 arg2 harg2 arg3 harg3 arg4 harg4 arg5 harg5 arg6 harg6 arg7 harg7 arg8 harg8 x0 x1 x2 x3 x4).2.1)

/-- What the output's buffer holds after the body at a point. -/
def outsAt6 (c : Dev nD) (t : Fin cfg0.N) : Vec F S2048x512 .f32 :=
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t)

/-- What the pipeline's arrays and buffers hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt5 m c t)
    | ⟨6, _⟩ => (outsAt6 m c t)
  Φ _ := Pipeline.ΦA spec0 c
  q w := Pipeline.shareOf spec0 w
  owed _ := 0

/-- The arrays, as the call finds them. -/
theorem A_eq (c : Dev nD) (w : Fin cfg0.W) : (dats m 0 c).A w = V m c (Pipeline.arrRef spec0 w) := by
  dsimp only [dats]

/-- What the body leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt5 m c t) := by dsimp only [dats]
theorem after0_6 (c : Dev nD) (t : Fin cfg0.N) : (dats m 0 c).after 6 t = (outsAt6 m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body runs at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt5 outsAt6
  unfold out0_A_5 out0_A_6
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _ _)

/-- The body at a point, as the table of bodies has it. -/
theorem defs₀_row (t : Fin cfg0.N) :
    defs₀ (F := F) .tc cfg0.body (cfg0.bodyArgs t (cfg0.slots t)) = bodyAt0 t := by
  unfold defs₀; rw [Defs.onTc_tc]

/-- The same, in the library's form. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole program runs. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program ends, its arguments as they were, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- After the run, the first output's array, -/
theorem post5 (r : PUnit × MemSt nD τ sig (Elt F)) (h : Pipeline.FramePost cfgs (dats m) 0 (V m) r) (c : Dev nD) :
    r.2.mem ((c : Thread nD τ).loc main_v6_0) = (dats m 0 c).arrAt 5 cfg0.N :=
  (h c).1 5

/-- and the second's. -/
theorem post6 (r : PUnit × MemSt nD τ sig (Elt F)) (h : Pipeline.FramePost cfgs (dats m) 0 (V m) r) (c : Dev nD) :
    r.2.mem ((c : Thread nD τ).loc main_v6_1) = (dats m 0 c).arrAt 6 cfg0.N :=
  (h c).1 6

/-- The run, with the outputs' arrays named and the arguments as they were. -/
theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨post5 m r h.1 c, post6 m r h.1 c, h.2 c⟩) (θ_run_and (run_main m ρ) (unchanged m ρ))

end Cert.Kernel8Ideal.Hand

end
-- ==== Proof.ConvFwdRef.lean ====
module

public import proofs.«01_k».proof.Proof.Gen.Reference8Ideal.Read
public import Idealize.ShloMosaic.Lib.Pipeline.ValueKit

/-! # The reference convolution, read at an entry -/

@[expose] public section

set_option maxRecDepth 16384

noncomputable section

open Idealize.ShloMosaic Idealize.ShloMosaic.TcCoe Idealize.SL.Sem
open Idealize.ShloMosaic.Pipeline (Dat)

namespace Cert.ConvFwd
open Cert.Reference8Ideal Cert.Reference8Ideal.Gen Cert.Reference8Ideal.Read

/-- The arrays both programs are given: the projected activations, the weights of the thirty-one delays, the biases, and the
gain and shift of the norm. -/
structure In where
  z : Vec Ideal S8192x7680 .f32
  dw : Vec Ideal S31x512 .f32
  db : Vec Ideal S512 .f32
  lg : Vec Ideal S512 .f32
  lb : Vec Ideal S512 .f32

/-- Row `t` of sequence `b`. -/
def row (b : Fin 4) (t : Fin 2048) : Fin 8192 := ⟨2048 * b.val + t.val, by omega⟩

/-- The logistic function as both programs write it. -/
def sg (x : EReal) : EReal := Ideal.div 1 (1 + Ideal.exp (-x))

/-- The mean of a row, -/
def mean (c : Fin 512 → EReal) : EReal := Ideal.div (∑ k, c k) (Ideal.ofBits .f32 0x44000000#32)

/-- and the row brought to mean zero and variance one. -/
def normed (c : Fin 512 → EReal) (l : Fin 512) : EReal :=
  (c l - mean c) * Ideal.rsqrt (Ideal.div (∑ k, (c k - mean c) * (c k - mean c)) (Ideal.ofBits .f32 0x44000000#32) + Ideal.ofBits .f32 0x358637BD#32)

namespace In
variable (I : In)

/-- The gated column `l` of sequence `b` at row `t`, -/
def u (b : Fin 4) (t : Fin 2048) (l : Fin 512) : EReal :=
  I.z (ix2 (row b t) ⟨l.val, by omega⟩) * sg (I.z (ix2 (row b t) ⟨512 + l.val, by omega⟩))

/-- and `d` rows before row `t`: zero before the sequence begins. -/
def D (d : ℕ) (b : Fin 4) (t : Fin 2048) (l : Fin 512) : EReal :=
  if d ≤ t.val then I.u b ⟨t.val - d, by omega⟩ l else 0

/-- The weight number `n` of a column. -/
def w (n : ℕ) (l : Fin 512) : EReal := I.dw (ix2 ⟨n % 31, Nat.mod_lt _ (by omega)⟩ l)

/-- The gated columns, sequence by sequence. -/
theorem u_apply (b : Fin 4) (t : Fin 2048) (l : Fin 512) : val_main_v9 I.z (ix3 b t l) = I.u b t l := by
  unfold u row sg
  pointwise [val_main_v9, val_main_v8, val_main_v7, val_main_v6, val_main_v5, val_main_v4, val_main_v3, val_main_v2, val_main_v1,
    val_main_v0, val_main_cst, val_main_cst_0]
  have e : (⟨b.val * 2048 + t.val, by omega⟩ : Fin 8192) = ⟨2048 * b.val + t.val, by omega⟩ := Fin.ext (by simp only; omega)
  simp only [e]

/-- The padded sequences, thirty rows of zeros in front. -/
theorem before_apply (b : Fin 4) (j : Fin 2078) (l : Fin 512) (d : ℕ) (hd : d ≤ 30) (t : Fin 2048) (hj : j.val = 30 - d + t.val) :
    val_main_v11 I.z (ix3 b j l) = I.D d b t l := by
  generalize hu : val_main_v9 I.z = u
  have hu' := I.u_apply
  rw [hu] at hu'
  unfold D
  have ht := t.isLt
  pointwise [val_main_v11, hu, val_main_call0_v0, val_main_c]
  by_cases h : d ≤ t.val
  · rw [dif_pos (by omega), if_pos h, hu']
    exact congrArg (fun n => I.u b n l) (Fin.ext (by simp only; omega))
  · rw [dif_neg (by omega), if_neg h]
    show ((((0#32 : BitVec 32).toInt : ℤ) : ℝ) : EReal) = 0
    simp

/-- The sum of the first `n + 1` weighted rows, the farthest first. -/
def S : ℕ → Fin 4 → Fin 2048 → Fin 512 → EReal
  | 0, b, t, l => I.D 30 b t l * I.w 0 l
  | n + 1, b, t, l => S n b t l + I.D (30 - (n + 1)) b t l * I.w (n + 1) l

theorem sum0 (b : Fin 4) (t : Fin 2048) (l : Fin 512) : val_main_v17 I.z I.dw (ix3 b t l) = I.S 0 b t l := by
  pointwise [val_main_v17, val_main_v16, val_main_v15, val_main_v14, val_main_v13, val_main_v12]
  rw [I.before_apply b _ l 30 (by omega) t (by simp)]; rfl
theorem sum1 (b : Fin 4) (t : Fin 2048) (l : Fin 512) : val_main_v24 I.z I.dw (ix3 b t l) = I.S 1 b t l := by
  pointwise [val_main_v24, val_main_v23, val_main_v22, val_main_v21, val_main_v20, val_main_v19, val_main_v18]
  rw [I.sum0, I.before_apply b _ l 29 (by omega) t (by simp)]; rfl
theorem sum2 (b : Fin 4) (t : Fin 2048) (l : Fin 512) : val_main_v31 I.z I.dw (ix3 b t l) = I.S 2 b t l := by
  pointwise [val_main_v31, val_main_v30, val_main_v29, val_main_v28, val_main_v27, val_main_v26, val_main_v25]
  rw [I.sum1, I.before_apply b _ l 28 (by omega) t (by simp)]; rfl
theorem sum3 (b : Fin 4) (t : Fin 2048) (l : Fin 512) : val_main_v38 I.z I.dw (ix3 b t l) = I.S 3 b t l := by
  pointwise [val_main_v38, val_main_v37, val_main_v36, val_main_v35, val_main_v34, val_main_v33, val_main_v32]
  rw [I.sum2, I.before_apply b _ l 27 (by omega) t (by simp)]; rfl
theorem sum4 (b : Fin 4) (t : Fin 2048) (l : Fin 512) : val_main_v45 I.z I.dw (ix3 b t l) = I.S 4 b t l := by
  pointwise [val_main_v45, val_main_v44, val_main_v43, val_main_v42, val_main_v41, val_main_v40, val_main_v39]
  rw [I.sum3, I.before_apply b _ l 26 (by omega) t (by simp)]; rfl
theorem sum5 (b : Fin 4) (t : Fin 2048) (l : Fin 512) : val_main_v52 I.z I.dw (ix3 b t l) = I.S 5 b t l := by
  pointwise [val_main_v52, val_main_v51, val_main_v50, val_main_v49, val_main_v48, val_main_v47, val_main_v46]
  rw [I.sum4, I.before_apply b _ l 25 (by omega) t (by simp)]; rfl
theorem sum6 (b : Fin 4) (t : Fin 2048) (l : Fin 512) : val_main_v59 I.z I.dw (ix3 b t l) = I.S 6 b t l := by
  pointwise [val_main_v59, val_main_v58, val_main_v57, val_main_v56, val_main_v55, val_main_v54, val_main_v53]
  rw [I.sum5, I.before_apply b _ l 24 (by omega) t (by simp)]; rfl
theorem sum7 (b : Fin 4) (t : Fin 2048) (l : Fin 512) : val_main_v66 I.z I.dw (ix3 b t l) = I.S 7 b t l := by
  pointwise [val_main_v66, val_main_v65, val_main_v64, val_main_v63, val_main_v62, val_main_v61, val_main_v60]
  rw [I.sum6, I.before_apply b _ l 23 (by omega) t (by simp)]; rfl
theorem sum8 (b : Fin 4) (t : Fin 2048) (l : Fin 512) : val_main_v73 I.z I.dw (ix3 b t l) = I.S 8 b t l := by
  pointwise [val_main_v73, val_main_v72, val_main_v71, val_main_v70, val_main_v69, val_main_v68, val_main_v67]
  rw [I.sum7, I.before_apply b _ l 22 (by omega) t (by simp)]; rfl
theorem sum9 (b : Fin 4) (t : Fin 2048) (l : Fin 512) : val_main_v80 I.z I.dw (ix3 b t l) = I.S 9 b t l := by
  pointwise [val_main_v80, val_main_v79, val_main_v78, val_main_v77, val_main_v76, val_main_v75, val_main_v74]
  rw [I.sum8, I.before_apply b _ l 21 (by omega) t (by simp)]; rfl
theorem sum10 (b : Fin 4) (t : Fin 2048) (l : Fin 512) : val_main_v87 I.z I.dw (ix3 b t l) = I.S 10 b t l := by
  pointwise [val_main_v87, val_main_v86, val_main_v85, val_main_v84, val_main_v83, val_main_v82, val_main_v81]
  rw [I.sum9, I.before_apply b _ l 20 (by omega) t (by simp)]; rfl
theorem sum11 (b : Fin 4) (t : Fin 2048) (l : Fin 512) : val_main_v94 I.z I.dw (ix3 b t l) = I.S 11 b t l := by
  pointwise [val_main_v94, val_main_v93, val_main_v92, val_main_v91, val_main_v90, val_main_v89, val_main_v88]
  rw [I.sum10, I.before_apply b _ l 19 (by omega) t (by simp)]; rfl
theorem sum12 (b : Fin 4) (t : Fin 2048) (l : Fin 512) : val_main_v101 I.z I.dw (ix3 b t l) = I.S 12 b t l := by
  pointwise [val_main_v101, val_main_v100, val_main_v99, val_main_v98, val_main_v97, val_main_v96, val_main_v95]
  rw [I.sum11, I.before_apply b _ l 18 (by omega) t (by simp)]; rfl
theorem sum13 (b : Fin 4) (t : Fin 2048) (l : Fin 512) : val_main_v108 I.z I.dw (ix3 b t l) = I.S 13 b t l := by
  pointwise [val_main_v108, val_main_v107, val_main_v106, val_main_v105, val_main_v104, val_main_v103, val_main_v102]
  rw [I.sum12, I.before_apply b _ l 17 (by omega) t (by simp)]; rfl
theorem sum14 (b : Fin 4) (t : Fin 2048) (l : Fin 512) : val_main_v115 I.z I.dw (ix3 b t l) = I.S 14 b t l := by
  pointwise [val_main_v115, val_main_v114, val_main_v113, val_main_v112, val_main_v111, val_main_v110, val_main_v109]
  rw [I.sum13, I.before_apply b _ l 16 (by omega) t (by simp)]; rfl
theorem sum15 (b : Fin 4) (t : Fin 2048) (l : Fin 512) : val_main_v122 I.z I.dw (ix3 b t l) = I.S 15 b t l := by
  pointwise [val_main_v122, val_main_v121, val_main_v120, val_main_v119, val_main_v118, val_main_v117, val_main_v116]
  rw [I.sum14, I.before_apply b _ l 15 (by omega) t (by simp)]; rfl
theorem sum16 (b : Fin 4) (t : Fin 2048) (l : Fin 512) : val_main_v129 I.z I.dw (ix3 b t l) = I.S 16 b t l := by
  pointwise [val_main_v129, val_main_v128, val_main_v127, val_main_v126, val_main_v125, val_main_v124, val_main_v123]
  rw [I.sum15, I.before_apply b _ l 14 (by omega) t (by simp)]; rfl
theorem sum17 (b : Fin 4) (t : Fin 2048) (l : Fin 512) : val_main_v136 I.z I.dw (ix3 b t l) = I.S 17 b t l := by
  pointwise [val_main_v136, val_main_v135, val_main_v134, val_main_v133, val_main_v132, val_main_v131, val_main_v130]
  rw [I.sum16, I.before_apply b _ l 13 (by omega) t (by simp)]; rfl
theorem sum18 (b : Fin 4) (t : Fin 2048) (l : Fin 512) : val_main_v143 I.z I.dw (ix3 b t l) = I.S 18 b t l := by
  pointwise [val_main_v143, val_main_v142, val_main_v141, val_main_v140, val_main_v139, val_main_v138, val_main_v137]
  rw [I.sum17, I.before_apply b _ l 12 (by omega) t (by simp)]; rfl
theorem sum19 (b : Fin 4) (t : Fin 2048) (l : Fin 512) : val_main_v150 I.z I.dw (ix3 b t l) = I.S 19 b t l := by
  pointwise [val_main_v150, val_main_v149, val_main_v148, val_main_v147, val_main_v146, val_main_v145, val_main_v144]
  rw [I.sum18, I.before_apply b _ l 11 (by omega) t (by simp)]; rfl
theorem sum20 (b : Fin 4) (t : Fin 2048) (l : Fin 512) : val_main_v157 I.z I.dw (ix3 b t l) = I.S 20 b t l := by
  pointwise [val_main_v157, val_main_v156, val_main_v155, val_main_v154, val_main_v153, val_main_v152, val_main_v151]
  rw [I.sum19, I.before_apply b _ l 10 (by omega) t (by simp)]; rfl
theorem sum21 (b : Fin 4) (t : Fin 2048) (l : Fin 512) : val_main_v164 I.z I.dw (ix3 b t l) = I.S 21 b t l := by
  pointwise [val_main_v164, val_main_v163, val_main_v162, val_main_v161, val_main_v160, val_main_v159, val_main_v158]
  rw [I.sum20, I.before_apply b _ l 9 (by omega) t (by simp)]; rfl
theorem sum22 (b : Fin 4) (t : Fin 2048) (l : Fin 512) : val_main_v171 I.z I.dw (ix3 b t l) = I.S 22 b t l := by
  pointwise [val_main_v171, val_main_v170, val_main_v169, val_main_v168, val_main_v167, val_main_v166, val_main_v165]
  rw [I.sum21, I.before_apply b _ l 8 (by omega) t (by simp)]; rfl
theorem sum23 (b : Fin 4) (t : Fin 2048) (l : Fin 512) : val_main_v178 I.z I.dw (ix3 b t l) = I.S 23 b t l := by
  pointwise [val_main_v178, val_main_v177, val_main_v176, val_main_v175, val_main_v174, val_main_v173, val_main_v172]
  rw [I.sum22, I.before_apply b _ l 7 (by omega) t (by simp)]; rfl
theorem sum24 (b : Fin 4) (t : Fin 2048) (l : Fin 512) : val_main_v185 I.z I.dw (ix3 b t l) = I.S 24 b t l := by
  pointwise [val_main_v185, val_main_v184, val_main_v183, val_main_v182, val_main_v181, val_main_v180, val_main_v179]
  rw [I.sum23, I.before_apply b _ l 6 (by omega) t (by simp)]; rfl
theorem sum25 (b : Fin 4) (t : Fin 2048) (l : Fin 512) : val_main_v192 I.z I.dw (ix3 b t l) = I.S 25 b t l := by
  pointwise [val_main_v192, val_main_v191, val_main_v190, val_main_v189, val_main_v188, val_main_v187, val_main_v186]
  rw [I.sum24, I.before_apply b _ l 5 (by omega) t (by simp)]; rfl
theorem sum26 (b : Fin 4) (t : Fin 2048) (l : Fin 512) : val_main_v199 I.z I.dw (ix3 b t l) = I.S 26 b t l := by
  pointwise [val_main_v199, val_main_v198, val_main_v197, val_main_v196, val_main_v195, val_main_v194, val_main_v193]
  rw [I.sum25, I.before_apply b _ l 4 (by omega) t (by simp)]; rfl
theorem sum27 (b : Fin 4) (t : Fin 2048) (l : Fin 512) : val_main_v206 I.z I.dw (ix3 b t l) = I.S 27 b t l := by
  pointwise [val_main_v206, val_main_v205, val_main_v204, val_main_v203, val_main_v202, val_main_v201, val_main_v200]
  rw [I.sum26, I.before_apply b _ l 3 (by omega) t (by simp)]; rfl
theorem sum28 (b : Fin 4) (t : Fin 2048) (l : Fin 512) : val_main_v213 I.z I.dw (ix3 b t l) = I.S 28 b t l := by
  pointwise [val_main_v213, val_main_v212, val_main_v211, val_main_v210, val_main_v209, val_main_v208, val_main_v207]
  rw [I.sum27, I.before_apply b _ l 2 (by omega) t (by simp)]; rfl
theorem sum29 (b : Fin 4) (t : Fin 2048) (l : Fin 512) : val_main_v220 I.z I.dw (ix3 b t l) = I.S 29 b t l := by
  pointwise [val_main_v220, val_main_v219, val_main_v218, val_main_v217, val_main_v216, val_main_v215, val_main_v214]
  rw [I.sum28, I.before_apply b _ l 1 (by omega) t (by simp)]; rfl
theorem sum30 (b : Fin 4) (t : Fin 2048) (l : Fin 512) : val_main_v227 I.z I.dw (ix3 b t l) = I.S 30 b t l := by
  pointwise [val_main_v227, val_main_v226, val_main_v225, val_main_v224, val_main_v223, val_main_v222, val_main_v221]
  rw [I.sum29, I.before_apply b _ l 0 (by omega) t (by simp)]; rfl

/-- All the weighted rows. -/
theorem S_all (b : Fin 4) (t : Fin 2048) (l : Fin 512) : I.S 30 b t l = I.D 30 b t l * I.w 0 l + I.D 29 b t l * I.w 1 l + I.D 28 b t l * I.w 2 l + I.D 27 b t l * I.w 3 l + I.D 26 b t l * I.w 4 l + I.D 25 b t l * I.w 5 l + I.D 24 b t l * I.w 6 l + I.D 23 b t l * I.w 7 l + I.D 22 b t l * I.w 8 l + I.D 21 b t l * I.w 9 l + I.D 20 b t l * I.w 10 l + I.D 19 b t l * I.w 11 l + I.D 18 b t l * I.w 12 l + I.D 17 b t l * I.w 13 l + I.D 16 b t l * I.w 14 l + I.D 15 b t l * I.w 15 l + I.D 14 b t l * I.w 16 l + I.D 13 b t l * I.w 17 l + I.D 12 b t l * I.w 18 l + I.D 11 b t l * I.w 19 l + I.D 10 b t l * I.w 20 l + I.D 9 b t l * I.w 21 l + I.D 8 b t l * I.w 22 l + I.D 7 b t l * I.w 23 l + I.D 6 b t l * I.w 24 l + I.D 5 b t l * I.w 25 l + I.D 4 b t l * I.w 26 l + I.D 3 b t l * I.w 27 l + I.D 2 b t l * I.w 28 l + I.D 1 b t l * I.w 29 l + I.D 0 b t l * I.w 30 l := rfl

/-- The two results: the convolution, and the gated output. -/
def u1 : Vec Ideal S8192x512 .f32 := val_main_v231 I.z I.dw I.db
def out : Vec Ideal S8192x512 .bf16 := val_main_v269 I.z I.dw I.db I.lg I.lb

theorem u1_apply (b : Fin 4) (t : Fin 2048) (l : Fin 512) : I.u1 (ix2 (row b t) l) = I.S 30 b t l + I.db (ix1 l) := by
  unfold u1
  rw [← I.sum30]
  generalize hs : val_main_v227 I.z I.dw = s
  unfold row
  pointwise [val_main_v231, val_main_v230, val_main_v229, val_main_v228, hs]

/-- The norm's value. -/
def ln (r : Fin 8192) (l : Fin 512) : EReal := normed (fun k => I.u1 (ix2 r k)) l * I.lg (ix1 l) + I.lb (ix1 l)

theorem ln_apply (r : Fin 8192) (l : Fin 512) : val_main_v253 I.z I.dw I.db I.lg I.lb (ix2 r l) = I.ln r l := by
  unfold ln normed mean u1
  generalize hs : val_main_v231 I.z I.dw I.db = s
  pointwise [val_main_v253, val_main_v252, val_main_v251, val_main_v250, val_main_v249, val_main_v248, val_main_v247, val_main_v246,
    val_main_v245, val_main_v244, val_main_v243, val_main_v242, val_main_v241, val_main_v240, val_main_v239, val_main_v238,
    val_main_v237, val_main_v236, val_main_v235, val_main_v234, val_main_v233, val_main_v232, val_main_cst_1, val_main_cst_2,
    val_main_cst_3, val_main_cst_4, val_main_cst_5, hs]

theorem out_apply (r : Fin 8192) (l : Fin 512) : I.out (ix2 r l)
    = I.ln r l * sg (I.ln r l) * (I.z (ix2 r ⟨1024 + l.val, by omega⟩) * sg (I.z (ix2 r ⟨1024 + l.val, by omega⟩))) := by
  unfold out sg
  rw [← ln_apply]
  generalize hn : val_main_v253 I.z I.dw I.db I.lg I.lb = n
  pointwise [val_main_v269, val_main_v268, val_main_v267, val_main_v266, val_main_v265, val_main_v264, val_main_v263, val_main_v262,
    val_main_v261, val_main_v260, val_main_v259, val_main_v258, val_main_v257, val_main_v256, val_main_v255, val_main_v254,
    val_main_cst_6, val_main_cst_7, val_main_cst_8, val_main_cst_9, val_main_v10, hn]

end In
end Cert.ConvFwd
-- ==== Proof.ConvFwdBlock.lean ====
module

public import proofs.«01_k».proof.Proof.ConvFwdIdealFrame
public import proofs.«01_k».proof.Proof.ConvFwdRef
public import Idealize.ShloMosaic.Lib.Pipeline.ValueKit
public import Mathlib.Tactic.Abel

/-! # One trip of the convolution's second loop

A trip adds the thirty-one weighted rows in the order of eight rotations of its window; the reference adds them farthest first.
Sums of extended reals may be reordered. -/

@[expose] public section

set_option maxRecDepth 16384

noncomputable section

open Idealize.ShloMosaic Idealize.ShloMosaic.TcCoe Idealize.SL.Sem
open Idealize.ShloMosaic.Pipeline (Dat)

namespace Cert.ConvFwd
open Cert.Kernel8Ideal Cert.Kernel8Ideal.Gen

section
variable {F : FTy → Type} [FloatOps F]

/-- The weighted rows added so far, after each part of a trip, -/
def acc1 (win : Vec F S288x512 .f32) (w : Fin 32 → Vec F S1x512 .f32) : FVec F S256x512 .f32 :=
  k0_pay11 win (w 30) (w 22) (w 14) (w 6) (w 29)
def acc2 (win : Vec F S288x512 .f32) (w : Fin 32 → Vec F S1x512 .f32) : FVec F S256x512 .f32 :=
  k0_pay12 (k0_pay4 win) (k0_pay5 win) (acc1 win w) (w 21) (w 13) (w 5) (w 28) (w 20) (w 12) (w 4)
def acc3 (win : Vec F S288x512 .f32) (w : Fin 32 → Vec F S1x512 .f32) : FVec F S256x512 .f32 :=
  k0_pay14 (k0_pay6 win) (k0_pay7 win) (acc2 win w) (k0_pay13 (k0_pay6 win)) (w 27) (w 19) (w 11) (w 3) (w 26) (w 18) (w 10) (w 2)
def acc4 (win : Vec F S288x512 .f32) (w : Fin 32 → Vec F S1x512 .f32) : FVec F S256x512 .f32 :=
  k0_pay15 (k0_pay8 win) (k0_pay9 win) (acc3 win w) (w 25) (w 17) (w 9) (w 1) (w 24) (w 16) (w 8)
/-- the convolution, -/
def conv (win : Vec F S288x512 .f32) (w : Fin 32 → Vec F S1x512 .f32) (v0 : Vec F S1x512 .f32) : FVec F S256x512 .f32 :=
  k0_pay17 (k0_pay10 win) (acc4 win w) (k0_pay16 (k0_pay9 win)) (w 0) (w 23) (w 15) (w 7) v0
/-- its norm, -/
def norm (win : Vec F S288x512 .f32) (w : Fin 32 → Vec F S1x512 .f32) (v0 : Vec F S1x512 .f32) : FVec F S256x512 .f32 :=
  k0_pay18 (k0_pay10 win) (acc4 win w) (k0_pay16 (k0_pay9 win)) (w 0) (w 23) (w 15) (w 7) v0
/-- and the gated output. -/
def gated (win : Vec F S288x512 .f32) (w : Fin 32 → Vec F S1x512 .f32) (v0 v1 v2 : Vec F S1x512 .f32) (gate : Vec F S256x512 .f32) : FVec F S256x512 .bf16 :=
  k0_pay3 (norm win w v0) v1 v2 gate
end

/-- What a trip is given: the window of the lined-up sequence, the weights, the rows of the norm's array, and the rows of the gate. -/
structure Trip (I : In) (b : Fin 4) (at' : Fin 256 → Fin 2048) where
  win : Vec Ideal S288x512 .f32
  w : Fin 32 → Vec Ideal S1x512 .f32
  v0 : Vec Ideal S1x512 .f32
  v1 : Vec Ideal S1x512 .f32
  v2 : Vec Ideal S1x512 .f32
  gate : Vec Ideal S256x512 .f32
  hwin : ∀ (r : Fin 256) (d : ℕ) (hd : d ≤ 30) (l : Fin 512) (q : Fin 288), q.val + d = 32 + r.val → win (ix2 q l) = I.D d b (at' r) l
  hw : ∀ (n : Fin 32) (hn : n.val < 31) (l : Fin 512), w n (ix2 0 l) = I.w n.val l
  hv0 : ∀ l, v0 (ix2 0 l) = I.db (ix1 l)
  hv1 : ∀ l, v1 (ix2 0 l) = I.lg (ix1 l)
  hv2 : ∀ l, v2 (ix2 0 l) = I.lb (ix1 l)
  hgate : ∀ (r : Fin 256) (l : Fin 512), gate (ix2 r l) = I.z (ix2 (row b (at' r)) ⟨1024 + l.val, by omega⟩)

namespace Trip
variable {I : In} {b : Fin 4} {at' : Fin 256 → Fin 2048} (T : Trip I b at')
include T

/-- The rotated windows. -/
theorem rot1 (r : Fin 256) (d : ℕ) (hd : d ≤ 30) (l : Fin 512) (q : Fin 288) (hq : q.val + d = 32 + r.val + 1) (h : 1 ≤ q.val) :
    k0_pay4 T.win (ix2 q l) = I.D d b (at' r) l := by
  have hw := T.hwin
  generalize T.win = w at hw
  have hq' := q.isLt
  pointwise [k0_pay4]
  exact hw r d hd l _ (by simp only; omega)
theorem rot2 (r : Fin 256) (d : ℕ) (hd : d ≤ 30) (l : Fin 512) (q : Fin 288) (hq : q.val + d = 32 + r.val + 2) (h : 2 ≤ q.val) :
    k0_pay5 T.win (ix2 q l) = I.D d b (at' r) l := by
  have hw := T.hwin
  generalize T.win = w at hw
  have hq' := q.isLt
  pointwise [k0_pay5]
  exact hw r d hd l _ (by simp only; omega)
theorem rot3 (r : Fin 256) (d : ℕ) (hd : d ≤ 30) (l : Fin 512) (q : Fin 288) (hq : q.val + d = 32 + r.val + 3) (h : 3 ≤ q.val) :
    k0_pay6 T.win (ix2 q l) = I.D d b (at' r) l := by
  have hw := T.hwin
  generalize T.win = w at hw
  have hq' := q.isLt
  pointwise [k0_pay6]
  exact hw r d hd l _ (by simp only; omega)
theorem rot4 (r : Fin 256) (d : ℕ) (hd : d ≤ 30) (l : Fin 512) (q : Fin 288) (hq : q.val + d = 32 + r.val + 4) (h : 4 ≤ q.val) :
    k0_pay7 T.win (ix2 q l) = I.D d b (at' r) l := by
  have hw := T.hwin
  generalize T.win = w at hw
  have hq' := q.isLt
  pointwise [k0_pay7]
  exact hw r d hd l _ (by simp only; omega)
theorem rot5 (r : Fin 256) (d : ℕ) (hd : d ≤ 30) (l : Fin 512) (q : Fin 288) (hq : q.val + d = 32 + r.val + 5) (h : 5 ≤ q.val) :
    k0_pay8 T.win (ix2 q l) = I.D d b (at' r) l := by
  have hw := T.hwin
  generalize T.win = w at hw
  have hq' := q.isLt
  pointwise [k0_pay8]
  exact hw r d hd l _ (by simp only; omega)
theorem rot6 (r : Fin 256) (d : ℕ) (hd : d ≤ 30) (l : Fin 512) (q : Fin 288) (hq : q.val + d = 32 + r.val + 6) (h : 6 ≤ q.val) :
    k0_pay9 T.win (ix2 q l) = I.D d b (at' r) l := by
  have hw := T.hwin
  generalize T.win = w at hw
  have hq' := q.isLt
  pointwise [k0_pay9]
  exact hw r d hd l _ (by simp only; omega)
theorem rot7 (r : Fin 256) (d : ℕ) (hd : d ≤ 30) (l : Fin 512) (q : Fin 288) (hq : q.val + d = 32 + r.val + 7) (h : 7 ≤ q.val) :
    k0_pay10 T.win (ix2 q l) = I.D d b (at' r) l := by
  have hw := T.hwin
  generalize T.win = w at hw
  have hq' := q.isLt
  pointwise [k0_pay10]
  exact hw r d hd l _ (by simp only; omega)

/-- The weighted rows of a part. -/
theorem acc1_apply (r : Fin 256) (l : Fin 512) : acc1 T.win T.w (ix2 r l)
    = I.D 0 b (at' r) l * I.w 30 l + I.D 8 b (at' r) l * I.w 22 l + I.D 16 b (at' r) l * I.w 14 l + I.D 24 b (at' r) l * I.w 6 l + I.D 1 b (at' r) l * I.w 29 l := by
  have h0 := T.hwin
  have h1 := T.rot1
  unfold acc1
  generalize hp : k0_pay4 T.win = p1 at h1
  generalize hW : T.win = p0 at h0 hp
  pointwise [k0_pay11, hp]
  rw [h0 r 0 (by omega) l _ (by simp only <;> omega),
    h0 r 8 (by omega) l _ (by simp only <;> omega),
    h0 r 16 (by omega) l _ (by simp only <;> omega),
    h0 r 24 (by omega) l _ (by simp only <;> omega),
    h1 r 1 (by omega) l _ (by simp only <;> omega) (by simp only <;> omega), T.hw 30 (by decide), T.hw 22 (by decide), T.hw 14 (by decide), T.hw 6 (by decide), T.hw 29 (by decide)]
  try rfl

/-- The weighted rows of a part. -/
theorem acc2_apply (r : Fin 256) (l : Fin 512) : acc2 T.win T.w (ix2 r l)
    = acc1 T.win T.w (ix2 r l) + I.D 9 b (at' r) l * I.w 21 l + I.D 17 b (at' r) l * I.w 13 l + I.D 25 b (at' r) l * I.w 5 l + I.D 2 b (at' r) l * I.w 28 l + I.D 10 b (at' r) l * I.w 20 l + I.D 18 b (at' r) l * I.w 12 l + I.D 26 b (at' r) l * I.w 4 l := by
  have h1 := T.rot1
  have h2 := T.rot2
  unfold acc2
  generalize acc1 T.win T.w = A
  generalize k0_pay4 T.win = p1 at h1 ⊢
  generalize k0_pay5 T.win = p2 at h2 ⊢
  pointwise [k0_pay12]
  rw [h1 r 9 (by omega) l _ (by simp only <;> omega) (by simp only <;> omega),
    h1 r 17 (by omega) l _ (by simp only <;> omega) (by simp only <;> omega),
    h1 r 25 (by omega) l _ (by simp only <;> omega) (by simp only <;> omega),
    h2 r 2 (by omega) l _ (by simp only <;> omega) (by simp only <;> omega),
    h2 r 10 (by omega) l _ (by simp only <;> omega) (by simp only <;> omega),
    h2 r 18 (by omega) l _ (by simp only <;> omega) (by simp only <;> omega),
    h2 r 26 (by omega) l _ (by simp only <;> omega) (by simp only <;> omega), T.hw 21 (by decide), T.hw 13 (by decide), T.hw 5 (by decide), T.hw 28 (by decide), T.hw 20 (by decide), T.hw 12 (by decide), T.hw 4 (by decide)]
  try rfl

/-- The weighted rows of a part. -/
theorem acc3_apply (r : Fin 256) (l : Fin 512) : acc3 T.win T.w (ix2 r l)
    = acc2 T.win T.w (ix2 r l) + I.D 3 b (at' r) l * I.w 27 l + I.D 11 b (at' r) l * I.w 19 l + I.D 19 b (at' r) l * I.w 11 l + I.D 27 b (at' r) l * I.w 3 l + I.D 4 b (at' r) l * I.w 26 l + I.D 12 b (at' r) l * I.w 18 l + I.D 20 b (at' r) l * I.w 10 l + I.D 28 b (at' r) l * I.w 2 l := by
  have h3 := T.rot3
  have h4 := T.rot4
  unfold acc3
  generalize acc2 T.win T.w = A
  generalize k0_pay6 T.win = p3 at h3 ⊢
  generalize k0_pay7 T.win = p4 at h4 ⊢
  pointwise [k0_pay14, k0_pay13]
  rw [h3 r 3 (by omega) l _ (by simp only <;> omega) (by simp only <;> omega),
    h3 r 11 (by omega) l _ (by simp only <;> omega) (by simp only <;> omega),
    h3 r 19 (by omega) l _ (by simp only <;> omega) (by simp only <;> omega),
    h3 r 27 (by omega) l _ (by simp only <;> omega) (by simp only <;> omega),
    h4 r 4 (by omega) l _ (by simp only <;> omega) (by simp only <;> omega),
    h4 r 12 (by omega) l _ (by simp only <;> omega) (by simp only <;> omega),
    h4 r 20 (by omega) l _ (by simp only <;> omega) (by simp only <;> omega),
    h4 r 28 (by omega) l _ (by simp only <;> omega) (by simp only <;> omega), T.hw 27 (by decide), T.hw 19 (by decide), T.hw 11 (by decide), T.hw 3 (by decide), T.hw 26 (by decide), T.hw 18 (by decide), T.hw 10 (by decide), T.hw 2 (by decide)]
  try rfl

/-- The weighted rows of a part. -/
theorem acc4_apply (r : Fin 256) (l : Fin 512) : acc4 T.win T.w (ix2 r l)
    = acc3 T.win T.w (ix2 r l) + I.D 5 b (at' r) l * I.w 25 l + I.D 13 b (at' r) l * I.w 17 l + I.D 21 b (at' r) l * I.w 9 l + I.D 29 b (at' r) l * I.w 1 l + I.D 6 b (at' r) l * I.w 24 l + I.D 14 b (at' r) l * I.w 16 l + I.D 22 b (at' r) l * I.w 8 l := by
  have h5 := T.rot5
  have h6 := T.rot6
  unfold acc4
  generalize acc3 T.win T.w = A
  generalize k0_pay8 T.win = p5 at h5 ⊢
  generalize k0_pay9 T.win = p6 at h6 ⊢
  pointwise [k0_pay15]
  rw [h5 r 5 (by omega) l _ (by simp only <;> omega) (by simp only <;> omega),
    h5 r 13 (by omega) l _ (by simp only <;> omega) (by simp only <;> omega),
    h5 r 21 (by omega) l _ (by simp only <;> omega) (by simp only <;> omega),
    h5 r 29 (by omega) l _ (by simp only <;> omega) (by simp only <;> omega),
    h6 r 6 (by omega) l _ (by simp only <;> omega) (by simp only <;> omega),
    h6 r 14 (by omega) l _ (by simp only <;> omega) (by simp only <;> omega),
    h6 r 22 (by omega) l _ (by simp only <;> omega) (by simp only <;> omega), T.hw 25 (by decide), T.hw 17 (by decide), T.hw 9 (by decide), T.hw 1 (by decide), T.hw 24 (by decide), T.hw 16 (by decide), T.hw 8 (by decide)]
  try rfl

/-- The convolution is the reference's. -/
theorem conv_apply (r : Fin 256) (l : Fin 512) : conv T.win T.w T.v0 (ix2 r l) = I.u1 (ix2 (row b (at' r)) l) := by
  have e : conv T.win T.w T.v0 (ix2 r l) = acc4 T.win T.w (ix2 r l) + I.D 30 b (at' r) l * I.w 0 l + I.D 7 b (at' r) l * I.w 23 l + I.D 15 b (at' r) l * I.w 15 l + I.D 23 b (at' r) l * I.w 7 l + I.db (ix1 l) := by
    have h6 := T.rot6
    have h7 := T.rot7
    unfold conv
    generalize acc4 T.win T.w = A
    generalize k0_pay9 T.win = p6 at h6 ⊢
    generalize k0_pay10 T.win = p7 at h7 ⊢
    pointwise [k0_pay17, k0_pay16]
    rw [h6 r 30 (by omega) l _ (by simp only <;> omega) (by simp only <;> omega),
      h7 r 7 (by omega) l _ (by simp only <;> omega) (by simp only <;> omega),
      h7 r 15 (by omega) l _ (by simp only <;> omega) (by simp only <;> omega),
      h7 r 23 (by omega) l _ (by simp only <;> omega) (by simp only <;> omega), T.hw 0 (by decide), T.hw 23 (by decide), T.hw 15 (by decide), T.hw 7 (by decide), T.hv0]
    try rfl
  rw [e, T.acc4_apply, T.acc3_apply, T.acc2_apply, T.acc1_apply, In.u1_apply, In.S_all]
  congr 1
  abel

/-- Its norm, -/
theorem norm_apply (r : Fin 256) (l : Fin 512) : norm T.win T.w T.v0 (ix2 r l) = normed (fun k => I.u1 (ix2 (row b (at' r)) k)) l := by
  have h := T.conv_apply
  have e : norm T.win T.w T.v0 (ix2 r l) = normed (fun k => conv T.win T.w T.v0 (ix2 r k)) l := by
    unfold norm conv normed mean
    generalize hc : k0_pay17 (k0_pay10 T.win) (acc4 T.win T.w) (k0_pay16 (k0_pay9 T.win)) (T.w 0) (T.w 23) (T.w 15) (T.w 7) T.v0 = c
    generalize k0_pay10 T.win = p7 at hc ⊢
    generalize acc4 T.win T.w = A at hc ⊢
    generalize k0_pay16 (k0_pay9 T.win) = p6 at hc ⊢
    pointwise [k0_pay18, hc]
  rw [e]
  exact congrArg (fun f => normed f l) (funext fun k => h r k)

/-- and the gated output. -/
theorem gated_apply (r : Fin 256) (l : Fin 512) : gated T.win T.w T.v0 T.v1 T.v2 T.gate (ix2 r l) = I.out (ix2 (row b (at' r)) l) := by
  rw [In.out_apply, ← T.hgate]
  unfold In.ln gated
  rw [← T.norm_apply, ← T.hv1, ← T.hv2]
  generalize norm T.win T.w T.v0 = n
  unfold sg
  pointwise [k0_pay3]
  simp only [zero_sub]

end Trip
end Cert.ConvFwd
-- ==== Proof.ConvFwdOut.lean ====
module

public import proofs.«01_k».proof.Proof.ConvFwdBlock
public import Idealize.ShloMosaic.Lib.Pipeline.ValueKit

/-! # What one grid point of the convolution leaves in its blocks

The scratch holds thirty-two rows of zeros and then the gated sequence, so the rows a trip of the second loop reads are the
sequence's rows and, before its first one, zeros. The eight trips store the blocks' rows 256 at a time. -/

@[expose] public section

set_option maxRecDepth 16384

noncomputable section

open Idealize.ShloMosaic Idealize.ShloMosaic.TcCoe Idealize.SL.Sem
open Idealize.ShloMosaic.Pipeline (Dat)

namespace Cert.ConvFwd
open Cert.Kernel8Ideal Cert.Kernel8Ideal.Gen Cert.Kernel8Ideal.Hand

variable {F : FTy → Type} [FloatOps F]

/-- A load of 256 rows of a whole buffer. -/
theorem load_rows (w : Memref sig .tc .vmem S2048x512 .f32) (hw : w.IsWhole) (d : Vec F S2048x512 .f32) (off : Fin S2048x512.rank → ℕ)
    (inb : ∀ a, off a + S256x512.size a ≤ S2048x512.size a) (o : ℕ) (ho : o + 256 ≤ 2048) (hoff : off = ![o, 0]) (r : Fin 256) (l : Fin 512) :
    View.readAt (Elt F) w.view (Rect.unit (s := S2048x512) off S256x512.size inb).toLoadRect (hw.unread d) (ix2 r l) = d (ix2 ⟨o + r.val, by omega⟩ l) := by
  subst hoff
  rw [View.readAt_eq_ld, Memref.IsWhole.read_unread]
  pointwise

/-- A load of one row of a whole buffer of eight, -/
theorem load_row (w : Memref sig .tc .vmem S8x512 .f32) (hw : w.IsWhole) (d : Vec F S8x512 .f32) (g : ℕ) (hg : g < 8)
    (inb : ∀ a, (![g, 0] : Fin 2 → ℕ) a + S1x512.size a ≤ S8x512.size a) (l : Fin 512) :
    View.readAt (Elt F) w.view (Rect.unit (s := S8x512) ![g, 0] S1x512.size inb).toLoadRect (hw.unread d) (ix2 0 l) = d (ix2 ⟨g, hg⟩ l) := by
  rw [View.readAt_eq_ld, Memref.IsWhole.read_unread]
  pointwise

/-- and of thirty-two. -/
theorem load_tap (w : Memref sig .tc .vmem S32x512 .f32) (hw : w.IsWhole) (d : Vec F S32x512 .f32) (g : ℕ) (hg : g < 32)
    (inb : ∀ a, (![g, 0] : Fin 2 → ℕ) a + S1x512.size a ≤ S32x512.size a) (l : Fin 512) :
    View.readAt (Elt F) w.view (Rect.unit (s := S32x512) ![g, 0] S1x512.size inb).toLoadRect (hw.unread d) (ix2 0 l) = d (ix2 ⟨g, hg⟩ l) := by
  rw [View.readAt_eq_ld, Memref.IsWhole.read_unread]
  pointwise

/-- Where a rectangle of whole rows has its places. -/
theorem emb_rows {R a C : ℕ} (off : Fin 2 → ℕ) (inb : ∀ x, off x + (![a, C] : Fin 2 → ℕ) x ≤ (![R, C] : Fin 2 → ℕ) x) (o : ℕ) (ho : o + a ≤ R)
    (hoff : off = ![o, 0]) (r : Fin a) (l : Fin C) :
    (Rect.unit (s := ⟨2, ![R, C]⟩) off ![a, C] inb).emb (ix2 r l) = ix2 (⟨o + r.val, by omega⟩ : Fin R) l := by
  subst hoff
  funext x
  refine Fin.ext ?_
  rw [Rect.emb_apply]
  revert x
  refine Fin.forall_fin_two.mpr ⟨?_, ?_⟩
  · show o + 1 * r.val = o + r.val; omega
  · show 0 + 1 * l.val = l.val; omega

/-- The lined-up sequence, place by place. -/
def lineup (g : Fin 2048 → Fin 512 → EReal) (y : S2080x512.Idx) : EReal :=
  if h : 32 ≤ (y 0).val then g ⟨(y 0).val - 32, by have : (y 0).val < 2080 := (y 0).isLt; omega⟩ (y 1) else 0

/-- The writes of the trips of the gating loop are those of some trip. -/
theorem of_pb1 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (X : BufTy.Contents (Elt F) arg1.view.ty) (Y : BufTy.Contents (Elt F) arg2.view.ty) (n : ℕ) (hn : n ≤ k0_t1_loop.trips) (p : View.Piece (Elt F) S2080x512 .f32)
    (hp : p ∈ pb_k0_t1 (F := F) Variants.none c none i arg1 harg1 arg2 harg2 arg3 harg3 arg4 harg4 arg5 harg5 arg6 harg6 arg7 harg7 arg8 harg8 X Y n) :
    ∃ k : Fin k0_t1_loop.trips, p = ⟨Rect.unit (s := S2080x512) (k0_off2 k) S256x512.size (k0_off2_inb k),
          k0_pay2 (arg1.view.readAt (Elt F) (Rect.unit (s := S2048x512) (k0_off1 k) S256x512.size (k0_off1_inb k)).toLoadRect X)
            (arg2.view.readAt (Elt F) (Rect.unit (s := S2048x512) (k0_off1 k) S256x512.size (k0_off1_inb k)).toLoadRect Y)⟩ := by
  induction n with
  | zero => exact absurd hp List.not_mem_nil
  | succ n ih =>
    rw [pb_k0_t1_succ Variants.none c none i arg1 harg1 arg2 harg2 arg3 harg3 arg4 harg4 arg5 harg5 arg6 harg6 arg7 harg7 arg8 harg8 X Y ⟨n, hn⟩, tripL1_eq] at hp
    rcases List.mem_append.mp hp with h | h
    · exact ⟨_, List.mem_singleton.mp h⟩
    · exact ih (by omega) h

/-- The scratch, once lined up, holds the lined-up gated sequence. -/
theorem read_lined (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 x1 : Vec Ideal S2048x512 .f32) (f : BufTy.Contents (Elt Ideal) arg8.view.ty) (y : S2080x512.Idx) :
    arg8.view.read (Elt Ideal) (arg8.view.writes (Elt Ideal) f (lined (F := Ideal) c i arg1 harg1 arg2 harg2 arg3 harg3 arg4 harg4 arg5 harg5 arg6 harg6 arg7 harg7 arg8 harg8 (harg1.unread x0) (harg2.unread x1))) y
      = lineup (fun t l => x0 (ix2 t l) * sg (x1 (ix2 t l))) y := by
  refine View.read_writes_apply_of_pieces _ _ (lineup (fun t l => x0 (ix2 t l) * sg (x1 (ix2 t l)))) _ (fun p hp x => ?_) y
    (lined_cover c i arg1 harg1 arg2 harg2 arg3 harg3 arg4 harg4 arg5 harg5 arg6 harg6 arg7 harg7 arg8 harg8 (harg1.unread x0) (harg2.unread x1) y)
  unfold lined at hp
  rcases List.mem_append.mp hp with h | h
  · obtain ⟨k, rfl⟩ := of_pb1 c i arg1 harg1 arg2 harg2 arg3 harg3 arg4 harg4 arg5 harg5 arg6 harg6 arg7 harg7 arg8 harg8 _ _ _ (le_refl _) p h
    have hk : k.val < 8 := k.isLt
    idx_vars x
    rename_i X Y
    rw [emb_rows _ _ (256 * k.val + 32) (by omega) (k0_off2_eq k)]
    unfold lineup sg
    rw [dif_pos (by show 32 ≤ 256 * k.val + 32 + x0.val; omega)]
    unfold k0_pay2
    pointwise []
    rw [load_rows _ _ _ _ _ (256 * k.val) (by omega) (k0_off1_eq k), load_rows _ _ _ _ _ (256 * k.val) (by omega) (k0_off1_eq k), zero_sub]
    have e : (⟨256 * k.val + 32 + x0.val - 32, by omega⟩ : Fin 2048) = ⟨256 * k.val + x0.val, by omega⟩ := Fin.ext (by simp only; omega)
    exact congrArg (fun n => X (ix2 n x1) * Ideal.div 1 (1 + Ideal.exp (-Y (ix2 n x1)))) e.symm
  · obtain rfl := List.mem_singleton.mp h
    idx_vars x
    rw [emb_rows _ _ 0 (by omega) rfl]
    unfold lineup
    rw [dif_neg (by show ¬ 32 ≤ 0 + x0.val; omega)]
    pointwise [k0_pay1]

/-- A row of the weights fits among the thirty-two. -/
theorem tap_inb (n : Fin 32) : ∀ a, (![n.val, 0] : Fin 2 → ℕ) a + S1x512.size a ≤ S32x512.size a := by
  refine Fin.forall_fin_two.mpr ⟨?_, ?_⟩
  · show n.val + 1 ≤ 32; omega
  · show 0 + 512 ≤ 512; omega

/-- The loads of the weights. -/
def tapAt (arg4 : Memref sig .tc .vmem S32x512 .f32) (X4 : BufTy.Contents (Elt F) arg4.view.ty) (n : Fin 32) : Vec F S1x512 .f32 :=
  arg4.view.readAt (Elt F) (Rect.unit (s := S32x512) ![n.val, 0] S1x512.size (tap_inb n)).toLoadRect X4

/-- What one trip of the second loop writes. -/
theorem tripL2_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (X3 : BufTy.Contents (Elt F) arg3.view.ty) (X4 : BufTy.Contents (Elt F) arg4.view.ty) (X5 : BufTy.Contents (Elt F) arg5.view.ty) (X8 : BufTy.Contents (Elt F) arg8.view.ty) (k : Fin k0_t2_loop.trips) :
    tripL_k0_t2 (F := F) Variants.none c none i arg1 harg1 arg2 harg2 arg3 harg3 arg4 harg4 arg5 harg5 arg6 harg6 arg7 harg7 arg8 harg8 X3 X4 X5 X8 k
      = ([⟨Rect.unit (s := S2048x512) (k0_off4 k) S256x512.size (k0_off4_inb k), gated (F := F)
            (arg8.view.readAt (Elt F) (Rect.unit (s := S2080x512) (k0_off3 k) S288x512.size (k0_off3_inb k)).toLoadRect X8)
            (tapAt arg4 X4) (arg5.view.readAt (Elt F) (Rect.unit (s := S8x512) ![0, 0] S1x512.size inb_S8x512_S1x512_0_0).toLoadRect X5)
            (arg5.view.readAt (Elt F) (Rect.unit (s := S8x512) ![1, 0] S1x512.size inb_S8x512_S1x512_1_0).toLoadRect X5)
            (arg5.view.readAt (Elt F) (Rect.unit (s := S8x512) ![2, 0] S1x512.size inb_S8x512_S1x512_2_0).toLoadRect X5)
            (arg3.view.readAt (Elt F) (Rect.unit (s := S2048x512) (k0_off4 k) S256x512.size (k0_off4_inb k)).toLoadRect X3)⟩],
        [⟨Rect.unit (s := S2048x512) (k0_off4 k) S256x512.size (k0_off4_inb k), conv (F := F)
            (arg8.view.readAt (Elt F) (Rect.unit (s := S2080x512) (k0_off3 k) S288x512.size (k0_off3_inb k)).toLoadRect X8)
            (tapAt arg4 X4) (arg5.view.readAt (Elt F) (Rect.unit (s := S8x512) ![0, 0] S1x512.size inb_S8x512_S1x512_0_0).toLoadRect X5)⟩]) := by
  unfold tripL_k0_t2 trip_k0_t2; rfl

/-- The body's writes are those of the trips of the second loop. -/
theorem kernelRun_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 : Vec F S2048x512 .f32) (x1 : Vec F S2048x512 .f32) (x2 : Vec F S2048x512 .f32) (x3 : Vec F S32x512 .f32) (x4 : Vec F S8x512 .f32) :
    ((kernelRun0_A c i arg1 harg1 arg2 harg2 arg3 harg3 arg4 harg4 arg5 harg5 arg6 harg6 arg7 harg7 arg8 harg8 x0 x1 x2 x3 x4).1, (kernelRun0_A c i arg1 harg1 arg2 harg2 arg3 harg3 arg4 harg4 arg5 harg5 arg6 harg6 arg7 harg7 arg8 harg8 x0 x1 x2 x3 x4).2.1)
      = pb_k0_t2 (F := F) Variants.none c none i arg1 harg1 arg2 harg2 arg3 harg3 arg4 harg4 arg5 harg5 arg6 harg6 arg7 harg7 arg8 harg8
          (harg3.unread x2) (harg4.unread x3) (harg5.unread x4)
          (arg8.view.writes (Elt F) arg8.view.junk (lined (F := F) c i arg1 harg1 arg2 harg2 arg3 harg3 arg4 harg4 arg5 harg5 arg6 harg6 arg7 harg7 arg8 harg8 (harg1.unread x0) (harg2.unread x1)))
          (Scf.trips k0_t2_loop.lb k0_t2_loop.ub k0_t2_loop.st) := by
  unfold kernelRun0_A; rfl

/-- The writes of the trips of the second loop are those of some trip: the outputs', -/
theorem of_pb2 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (X3 : BufTy.Contents (Elt F) arg3.view.ty) (X4 : BufTy.Contents (Elt F) arg4.view.ty) (X5 : BufTy.Contents (Elt F) arg5.view.ty) (X8 : BufTy.Contents (Elt F) arg8.view.ty)
    (n : ℕ) (hn : n ≤ k0_t2_loop.trips) (p : View.Piece (Elt F) S2048x512 .bf16)
    (hp : p ∈ (pb_k0_t2 (F := F) Variants.none c none i arg1 harg1 arg2 harg2 arg3 harg3 arg4 harg4 arg5 harg5 arg6 harg6 arg7 harg7 arg8 harg8 X3 X4 X5 X8 n).1) :
    ∃ k : Fin k0_t2_loop.trips, p ∈ (tripL_k0_t2 (F := F) Variants.none c none i arg1 harg1 arg2 harg2 arg3 harg3 arg4 harg4 arg5 harg5 arg6 harg6 arg7 harg7 arg8 harg8 X3 X4 X5 X8 k).1 := by
  induction n with
  | zero => exact absurd hp List.not_mem_nil
  | succ n ih =>
    rw [pb_k0_t2_succ Variants.none c none i arg1 harg1 arg2 harg2 arg3 harg3 arg4 harg4 arg5 harg5 arg6 harg6 arg7 harg7 arg8 harg8 X3 X4 X5 X8 ⟨n, hn⟩] at hp
    rcases List.mem_append.mp hp with h | h
    · exact ⟨_, h⟩
    · exact ih (by omega) h

/-- and the convolution's. -/
theorem of_pb2' (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (X3 : BufTy.Contents (Elt F) arg3.view.ty) (X4 : BufTy.Contents (Elt F) arg4.view.ty) (X5 : BufTy.Contents (Elt F) arg5.view.ty) (X8 : BufTy.Contents (Elt F) arg8.view.ty)
    (n : ℕ) (hn : n ≤ k0_t2_loop.trips) (p : View.Piece (Elt F) S2048x512 .f32)
    (hp : p ∈ (pb_k0_t2 (F := F) Variants.none c none i arg1 harg1 arg2 harg2 arg3 harg3 arg4 harg4 arg5 harg5 arg6 harg6 arg7 harg7 arg8 harg8 X3 X4 X5 X8 n).2) :
    ∃ k : Fin k0_t2_loop.trips, p ∈ (tripL_k0_t2 (F := F) Variants.none c none i arg1 harg1 arg2 harg2 arg3 harg3 arg4 harg4 arg5 harg5 arg6 harg6 arg7 harg7 arg8 harg8 X3 X4 X5 X8 k).2 := by
  induction n with
  | zero => exact absurd hp List.not_mem_nil
  | succ n ih =>
    rw [pb_k0_t2_succ Variants.none c none i arg1 harg1 arg2 harg2 arg3 harg3 arg4 harg4 arg5 harg5 arg6 harg6 arg7 harg7 arg8 harg8 X3 X4 X5 X8 ⟨n, hn⟩] at hp
    rcases List.mem_append.mp hp with h | h
    · exact ⟨_, h⟩
    · exact ih (by omega) h

/-- The row of the block that a trip's row is. -/
def rowAt (k : Fin k0_t2_loop.trips) (r : Fin 256) : Fin 2048 := ⟨256 * k.val + r.val, by have hk : k.val < 8 := k.isLt; omega⟩

/-- What a trip is given, out of the blocks of a grid point. -/
def tripOf (I : In) (b : Fin 4) (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 : Vec Ideal S2048x512 .f32) (x1 : Vec Ideal S2048x512 .f32) (x2 : Vec Ideal S2048x512 .f32) (x3 : Vec Ideal S32x512 .f32) (x4 : Vec Ideal S8x512 .f32)
    (h0 : ∀ t (l : Fin 512), x0 (ix2 t l) = I.z (ix2 (row b t) ⟨l.val, by omega⟩)) (h1 : ∀ t (l : Fin 512), x1 (ix2 t l) = I.z (ix2 (row b t) ⟨512 + l.val, by omega⟩))
    (h2 : ∀ t (l : Fin 512), x2 (ix2 t l) = I.z (ix2 (row b t) ⟨1024 + l.val, by omega⟩))
    (h3 : ∀ (n : Fin 32) (hn : n.val < 31) (l : Fin 512), x3 (ix2 n l) = I.w n.val l)
    (h4 : ∀ l, x4 (ix2 0 l) = I.db (ix1 l)) (h5 : ∀ l, x4 (ix2 1 l) = I.lg (ix1 l)) (h6 : ∀ l, x4 (ix2 2 l) = I.lb (ix1 l))
    (k : Fin k0_t2_loop.trips) : Trip I b (rowAt k) where
  win := (arg8.view.readAt (Elt Ideal) (Rect.unit (s := S2080x512) (k0_off3 k) S288x512.size (k0_off3_inb k)).toLoadRect (arg8.view.writes (Elt Ideal) arg8.view.junk (lined (F := Ideal) c i arg1 harg1 arg2 harg2 arg3 harg3 arg4 harg4 arg5 harg5 arg6 harg6 arg7 harg7 arg8 harg8 (harg1.unread x0) (harg2.unread x1))))
  w := tapAt arg4 (harg4.unread x3)
  v0 := (arg5.view.readAt (Elt Ideal) (Rect.unit (s := S8x512) ![0, 0] S1x512.size inb_S8x512_S1x512_0_0).toLoadRect (harg5.unread x4))
  v1 := (arg5.view.readAt (Elt Ideal) (Rect.unit (s := S8x512) ![1, 0] S1x512.size inb_S8x512_S1x512_1_0).toLoadRect (harg5.unread x4))
  v2 := (arg5.view.readAt (Elt Ideal) (Rect.unit (s := S8x512) ![2, 0] S1x512.size inb_S8x512_S1x512_2_0).toLoadRect (harg5.unread x4))
  gate := (arg3.view.readAt (Elt Ideal) (Rect.unit (s := S2048x512) (k0_off4 k) S256x512.size (k0_off4_inb k)).toLoadRect (harg3.unread x2))
  hwin := fun r d hd l q hq => by
    have hk : k.val < 8 := k.isLt
    rw [View.readAt_eq_ld]
    show arg8.view.read (Elt Ideal) _ ((Rect.unit (s := S2080x512) (k0_off3 k) S288x512.size (k0_off3_inb k)).emb (ix2 q l)) = _
    rw [read_lined, emb_rows _ _ (256 * k.val) (by omega) (k0_off3_eq k)]
    unfold lineup
    by_cases hh : d ≤ 256 * k.val + r.val
    · rw [dif_pos (by show 32 ≤ 256 * k.val + q.val; omega)]
      unfold In.D
      rw [if_pos (show d ≤ (rowAt k r).val from hh)]
      refine (congrArg₂ (fun a c => a * sg c) (h0 _ _) (h1 _ _)).trans ?_
      exact congrArg (fun n => I.u b n l) (Fin.ext (by show 256 * k.val + q.val - 32 = 256 * k.val + r.val - d; omega))
    · rw [dif_neg (by show ¬ 32 ≤ 256 * k.val + q.val; omega)]
      unfold In.D
      rw [if_neg (show ¬ d ≤ (rowAt k r).val from hh)]
  hw := fun n hn l => by unfold tapAt; rw [load_tap _ _ _ n.val n.isLt]; exact h3 n hn l
  hv0 := fun l => by rw [load_row _ _ _ 0 (by omega)]; exact h4 l
  hv1 := fun l => by rw [load_row _ _ _ 1 (by omega)]; exact h5 l
  hv2 := fun l => by rw [load_row _ _ _ 2 (by omega)]; exact h6 l
  hgate := fun r l => by
    have hk : k.val < 8 := k.isLt
    rw [load_rows _ _ _ _ _ (256 * k.val) (by omega) (k0_off4_eq k), h2]; rfl

/-- What a grid point leaves: the reference's rows of the point's sequence, of the output, -/
theorem out_eq (I : In) (b : Fin 4) (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 : Vec Ideal S2048x512 .f32) (x1 : Vec Ideal S2048x512 .f32) (x2 : Vec Ideal S2048x512 .f32) (x3 : Vec Ideal S32x512 .f32) (x4 : Vec Ideal S8x512 .f32)
    (h0 : ∀ t (l : Fin 512), x0 (ix2 t l) = I.z (ix2 (row b t) ⟨l.val, by omega⟩)) (h1 : ∀ t (l : Fin 512), x1 (ix2 t l) = I.z (ix2 (row b t) ⟨512 + l.val, by omega⟩))
    (h2 : ∀ t (l : Fin 512), x2 (ix2 t l) = I.z (ix2 (row b t) ⟨1024 + l.val, by omega⟩))
    (h3 : ∀ (n : Fin 32) (hn : n.val < 31) (l : Fin 512), x3 (ix2 n l) = I.w n.val l)
    (h4 : ∀ l, x4 (ix2 0 l) = I.db (ix1 l)) (h5 : ∀ l, x4 (ix2 1 l) = I.lg (ix1 l)) (h6 : ∀ l, x4 (ix2 2 l) = I.lb (ix1 l)) (y : S2048x512.Idx) :
    out0_A_5 c i arg1 harg1 arg2 harg2 arg3 harg3 arg4 harg4 arg5 harg5 arg6 harg6 arg7 harg7 arg8 harg8 x0 x1 x2 x3 x4 y = I.out (ix2 (row b (y 0)) (y 1)) := by
  have hc := cover0_A_5 c i arg1 harg1 arg2 harg2 arg3 harg3 arg4 harg4 arg5 harg5 arg6 harg6 arg7 harg7 arg8 harg8 x0 x1 x2 x3 x4 y
  have he := congrArg (fun p => p.1) (kernelRun_eq c i arg1 harg1 arg2 harg2 arg3 harg3 arg4 harg4 arg5 harg5 arg6 harg6 arg7 harg7 arg8 harg8 x0 x1 x2 x3 x4)
  unfold out0_A_5
  simp only at he
  generalize (kernelRun0_A c i arg1 harg1 arg2 harg2 arg3 harg3 arg4 harg4 arg5 harg5 arg6 harg6 arg7 harg7 arg8 harg8 x0 x1 x2 x3 x4).1 = L at hc he ⊢
  refine View.read_writes_apply_of_pieces VO0_5 VO0_5.junk (fun y => I.out (ix2 (row b (y 0)) (y 1))) L (fun p hp x => ?_) y hc
  rw [he] at hp
  obtain ⟨k, hp⟩ := of_pb2 c i arg1 harg1 arg2 harg2 arg3 harg3 arg4 harg4 arg5 harg5 arg6 harg6 arg7 harg7 arg8 harg8 _ _ _ _ _ (le_refl _) p hp
  rw [tripL2_eq] at hp
  obtain rfl := List.mem_singleton.mp hp
  have hk : k.val < 8 := k.isLt
  idx_vars x
  rw [emb_rows _ _ (256 * k.val) (by omega) (k0_off4_eq k)]
  exact (tripOf I b c i arg1 harg1 arg2 harg2 arg3 harg3 arg4 harg4 arg5 harg5 arg6 harg6 arg7 harg7 arg8 harg8 _ _ _ _ _ h0 h1 h2 h3 h4 h5 h6 k).gated_apply _ _

/-- and of the convolution. -/
theorem u1_eq (I : In) (b : Fin 4) (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S32x512 .f32) (harg4 : arg4.IsWhole) (arg5 : Memref sig .tc .vmem S8x512 .f32) (harg5 : arg5.IsWhole) (arg6 : Memref sig .tc .vmem S2048x512 .bf16) (harg6 : arg6.IsWhole) (arg7 : Memref sig .tc .vmem S2048x512 .f32) (harg7 : arg7.IsWhole) (arg8 : Memref sig .tc .vmem S2080x512 .f32) (harg8 : arg8.IsWhole)
    (x0 : Vec Ideal S2048x512 .f32) (x1 : Vec Ideal S2048x512 .f32) (x2 : Vec Ideal S2048x512 .f32) (x3 : Vec Ideal S32x512 .f32) (x4 : Vec Ideal S8x512 .f32)
    (h0 : ∀ t (l : Fin 512), x0 (ix2 t l) = I.z (ix2 (row b t) ⟨l.val, by omega⟩)) (h1 : ∀ t (l : Fin 512), x1 (ix2 t l) = I.z (ix2 (row b t) ⟨512 + l.val, by omega⟩))
    (h2 : ∀ t (l : Fin 512), x2 (ix2 t l) = I.z (ix2 (row b t) ⟨1024 + l.val, by omega⟩))
    (h3 : ∀ (n : Fin 32) (hn : n.val < 31) (l : Fin 512), x3 (ix2 n l) = I.w n.val l)
    (h4 : ∀ l, x4 (ix2 0 l) = I.db (ix1 l)) (h5 : ∀ l, x4 (ix2 1 l) = I.lg (ix1 l)) (h6 : ∀ l, x4 (ix2 2 l) = I.lb (ix1 l)) (y : S2048x512.Idx) :
    out0_A_6 c i arg1 harg1 arg2 harg2 arg3 harg3 arg4 harg4 arg5 harg5 arg6 harg6 arg7 harg7 arg8 harg8 x0 x1 x2 x3 x4 y = I.u1 (ix2 (row b (y 0)) (y 1)) := by
  have hc := cover0_A_6 c i arg1 harg1 arg2 harg2 arg3 harg3 arg4 harg4 arg5 harg5 arg6 harg6 arg7 harg7 arg8 harg8 x0 x1 x2 x3 x4 y
  have he := congrArg (fun p => p.2) (kernelRun_eq c i arg1 harg1 arg2 harg2 arg3 harg3 arg4 harg4 arg5 harg5 arg6 harg6 arg7 harg7 arg8 harg8 x0 x1 x2 x3 x4)
  unfold out0_A_6
  simp only at he
  generalize (kernelRun0_A c i arg1 harg1 arg2 harg2 arg3 harg3 arg4 harg4 arg5 harg5 arg6 harg6 arg7 harg7 arg8 harg8 x0 x1 x2 x3 x4).2.1 = L at hc he ⊢
  refine View.read_writes_apply_of_pieces VO0_6 VO0_6.junk (fun y => I.u1 (ix2 (row b (y 0)) (y 1))) L (fun p hp x => ?_) y hc
  rw [he] at hp
  obtain ⟨k, hp⟩ := of_pb2' c i arg1 harg1 arg2 harg2 arg3 harg3 arg4 harg4 arg5 harg5 arg6 harg6 arg7 harg7 arg8 harg8 _ _ _ _ _ (le_refl _) p hp
  rw [tripL2_eq] at hp
  obtain rfl := List.mem_singleton.mp hp
  have hk : k.val < 8 := k.isLt
  idx_vars x
  rw [emb_rows _ _ (256 * k.val) (by omega) (k0_off4_eq k)]
  exact (tripOf I b c i arg1 harg1 arg2 harg2 arg3 harg3 arg4 harg4 arg5 harg5 arg6 harg6 arg7 harg7 arg8 harg8 _ _ _ _ _ h0 h1 h2 h3 h4 h5 h6 k).conv_apply _ _

end Cert.ConvFwd
-- ==== Proof.ConvFwd.lean ====
module

public import proofs.«01_k».proof.Proof.ConvFwdOut
public import Idealize.ShloMosaic.Lib.Pipeline.ValueKit
public import Idealize.ShloMosaic.Lib.Pipeline.ReadBack

/-! # The arrays the convolution's forward call ends with

Grid point `t` is given the rows of sequence `t` of the three groups of columns it reads, and the weights whole. -/

@[expose] public section

set_option maxRecDepth 16384

noncomputable section

open Idealize.ShloMosaic Idealize.ShloMosaic.TcCoe Idealize.SL.Sem
open Idealize.ShloMosaic.Pipeline (Dat)

namespace Cert.ConvFwd
open Cert.Kernel8Ideal Cert.Kernel8Ideal.Gen Cert.Kernel8Ideal.Hand
variable (m : (ℓ : Loc nD τ sig) → Buf (Elt Ideal) ℓ) (c : Dev nD)

/-- The arrays the program is given. -/
def inp : In where
  z := m ((c : Thread nD τ).loc main_arg0)
  dw := m ((c : Thread nD τ).loc main_arg1)
  db := m ((c : Thread nD τ).loc main_arg2)
  lg := m ((c : Thread nD τ).loc main_arg3)
  lb := m ((c : Thread nD τ).loc main_arg4)

/-- There are four grid points. -/
theorem pt_lt (t : Fin cfg0.N) : t.val < 4 := t.isLt

/-- The sequence of a grid point. -/
def seqAt (t : Fin cfg0.N) : Fin 4 := ⟨t.val, pt_lt t⟩

/-- Which block of each array a grid point takes. -/
theorem idx : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![t.val, 0] ∧ win0_6.index t = ![t.val, 0] :=
  (by decide +kernel : ∀ t : Fin grid0.N, _)

/-- A grid point is given its sequence of the columns to be gated, -/
theorem block0 (t : Fin cfg0.N) (r : Fin 2048) (l : Fin 512) :
    iblk m c 0 t (ix2 r l) = (inp m c).z (ix2 (row (seqAt t) r) ⟨l.val, by omega⟩) := by
  unfold row seqAt inp
  blk_ext [iblk, V, idx t]

/-- of the columns that gate them, -/
theorem block1 (t : Fin cfg0.N) (r : Fin 2048) (l : Fin 512) :
    iblk m c 1 t (ix2 r l) = (inp m c).z (ix2 (row (seqAt t) r) ⟨512 + l.val, by omega⟩) := by
  unfold row seqAt inp
  blk_ext [iblk, V, idx t]

/-- and of the output's gate. -/
theorem block2 (t : Fin cfg0.N) (r : Fin 2048) (l : Fin 512) :
    iblk m c 2 t (ix2 r l) = (inp m c).z (ix2 (row (seqAt t) r) ⟨1024 + l.val, by omega⟩) := by
  unfold row seqAt inp
  blk_ext [iblk, V, idx t]

/-- The array of thirty-two rows that the host lays out: the weights and a row of zeros. -/
theorem V_taps : V m c main_v0 = pad S32x512 ![0, 0] ![1, 0] ![0, 0] (inp m c).dw
    (sitofp (F := Ideal) .f32 (constantI S_ 32 0#32)) pads_S31x512_S32x512_010_000 h_S_ := by
  simp only [V, hostOps0, hostOps0_1, hostOps0_2, hostOps0_3, List.flatten_cons, List.flatten_nil, List.cons_append, List.nil_append, List.append_nil]
  after_results_simp
  rfl

/-- Its row of each weight. -/
theorem V_tap (n : Fin 32) (hn : n.val < 31) (l : Fin 512) : V m c main_v0 (ix2 n l) = (inp m c).w n.val l := by
  rw [V_taps]
  unfold In.w
  have e : (⟨n.val % 31, Nat.mod_lt _ (by omega)⟩ : Fin 31) = ⟨n.val, hn⟩ := Fin.ext (Nat.mod_eq_of_lt hn)
  rw [e]
  pointwise []
  exact dif_pos hn

/-- The block of weights is that array. -/
theorem block3 (t : Fin cfg0.N) (n : Fin 32) (l : Fin 512) : iblk m c 3 t (ix2 n l) = V m c main_v0 (ix2 n l) := by
  blk_ext [iblk, idx t]

/-- The array of eight rows that the host lays out: the biases, the gain, the shift, and five rows of zeros. -/
theorem V_rows : V m c main_v5 = pad S8x512 ![0, 0] ![5, 0] ![0, 0]
    (concatenate S3x512 0 [⟨S1x512, broadcastInDim S1x512 ![1] bcast_S512_S1x512_1 (inp m c).db⟩,
      ⟨S1x512, broadcastInDim S1x512 ![1] bcast_S512_S1x512_1 (inp m c).lg⟩,
      ⟨S1x512, broadcastInDim S1x512 ![1] bcast_S512_S1x512_1 (inp m c).lb⟩] concatenates_S1x512_S1x512_S1x512_S3x512_d0)
    (sitofp (F := Ideal) .f32 (constantI S_ 32 0#32)) pads_S3x512_S8x512_050_000 h_S_ := by
  simp only [V, hostOps0, hostOps0_1, hostOps0_2, hostOps0_3, List.flatten_cons, List.flatten_nil, List.cons_append, List.nil_append, List.append_nil]
  after_results_simp
  rfl

/-- Its first row, -/
theorem V_bias (l : Fin 512) : V m c main_v5 (ix2 0 l) = (inp m c).db (ix1 l) := by
  rw [V_rows]
  pointwise []

/-- its second, -/
theorem V_gain (l : Fin 512) : V m c main_v5 (ix2 1 l) = (inp m c).lg (ix1 l) := by
  rw [V_rows]
  pointwise []

/-- and its third. -/
theorem V_shift (l : Fin 512) : V m c main_v5 (ix2 2 l) = (inp m c).lb (ix1 l) := by
  rw [V_rows]
  pointwise []

/-- The block of biases, gain and shift is that array. -/
theorem block4 (t : Fin cfg0.N) (g : Fin 8) (l : Fin 512) : iblk m c 4 t (ix2 g l) = V m c main_v5 (ix2 g l) := by
  blk_ext [iblk, idx t]

/-- What a grid point leaves of the output, row by row, -/
theorem point5 (t : Fin cfg0.N) (r : Fin 2048) (l : Fin 512) : outsAt5 m c t (ix2 r l) = (inp m c).out (ix2 (row (seqAt t) r) l) := by
  unfold outsAt5
  exact out_eq (inp m c) (seqAt t) c _ _ _ _ _ _ _ _ _ _ _ _ _ _ _ _ _ _ _ _ _ _ (block0 m c t) (block1 m c t) (block2 m c t)
    (fun n hn l => (block3 m c t n l).trans (V_tap m c n hn l)) (fun l => (block4 m c t 0 l).trans (V_bias m c l))
    (fun l => (block4 m c t 1 l).trans (V_gain m c l)) (fun l => (block4 m c t 2 l).trans (V_shift m c l)) (ix2 r l)

/-- and of the convolution. -/
theorem point6 (t : Fin cfg0.N) (r : Fin 2048) (l : Fin 512) : outsAt6 m c t (ix2 r l) = (inp m c).u1 (ix2 (row (seqAt t) r) l) := by
  unfold outsAt6
  exact u1_eq (inp m c) (seqAt t) c _ _ _ _ _ _ _ _ _ _ _ _ _ _ _ _ _ _ _ _ _ _ (block0 m c t) (block1 m c t) (block2 m c t)
    (fun n hn l => (block3 m c t n l).trans (V_tap m c n hn l)) (fun l => (block4 m c t 0 l).trans (V_bias m c l))
    (fun l => (block4 m c t 1 l).trans (V_gain m c l)) (fun l => (block4 m c t 2 l).trans (V_shift m c l)) (ix2 r l)

/-- The output's array is the reference's, -/
theorem out5 : (dats m 0 c).arrAt 5 cfg0.N = (inp m c).out := by
  refine (dats m 0 c).arrAt_eq_of_covers 5 _ (by decide +kernel) fun t _ y => ?_
  blk_simp [idx t]; rw [after0_5]
  idx_vars y
  refine (point5 m c t y0 y1).trans ?_
  unfold row seqAt; blk_ext [idx t]

/-- and so is the convolution's. -/
theorem out6 : (dats m 0 c).arrAt 6 cfg0.N = (inp m c).u1 := by
  refine (dats m 0 c).arrAt_eq_of_covers 6 _ (by decide +kernel) fun t _ y => ?_
  blk_simp [idx t]; rw [after0_6]
  idx_vars y
  refine (point6 m c t y0 y1).trans ?_
  unfold row seqAt; blk_ext [idx t]

end Cert.ConvFwd
-- ==== Proof.ConvFwdClaim.lean ====
module

public import proofs.«01_k».proof.Defs
public import proofs.«01_k».proof.Proof.ConvFwd
public import proofs.«01_k».proof.Proof.Gen.Kernel8
public import proofs.«01_k».proof.Proof.Gen.Reference8Ideal.Run
public import proofs.«01_k».proof.Proof.Gen.Reference8Ideal.Read
public import Idealize.ShloMosaic.Lib.Quiescent

/-! # The claims about the convolution's forward call -/

@[expose] public section

set_option maxRecDepth 16384

noncomputable section

open Idealize.ShloMosaic Idealize.ShloMosaic.TcCoe Idealize.SL.Sem
open Idealize.ShloMosaic.Pipeline (Dat)

namespace Cert.ConvFwd
open Cert.Kernel8Ideal Cert.Kernel8Ideal.Gen

/-- The kernel and the ideal kernel have the same text, so their tables of bodies are the same over the machine's floats, -/
theorem bodies_eq : Cert.Kernel8.defs₀ (F := Bits) = Cert.Kernel8Ideal.defs₀ (F := Bits) := by
  unfold Cert.Kernel8.defs₀ Cert.Kernel8Ideal.defs₀
  refine congrArg Defs.onTc (funext fun l => funext fun a => ?_)
  match l, a with
  | 0, (t, s) => rfl
  | ⟨_ + 1, h⟩, _ => exact absurd h (Nat.not_lt.2 (Nat.le_add_left _ _))

/-- with their pipelines too. -/
theorem tables_eq : Cert.Kernel8.defs (F := Bits) = Cert.Kernel8Ideal.defs (F := Bits) := by
  unfold Cert.Kernel8.defs Cert.Kernel8Ideal.defs
  exact congrArg (Pipeline.defs _) bodies_eq

/-- The kernel runs to its end and keeps its arguments. -/
theorem frame_kernel : Cert.quiescent_Kernel8 := fun m ρ _ => by
  rw [tables_eq]
  exact Cert.Kernel8Ideal.Hand.frame (F := Bits) m ρ

/-- So does the kernel over the extended reals, -/
theorem frame_ideal : Cert.quiescent_Kernel8Ideal := fun m ρ _ => Cert.Kernel8Ideal.Hand.frame (F := Ideal) m ρ
/-- and so does the reference. -/
theorem frame_reference : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

/-- The arrays in the reference's buffers. -/
def ofVal (V : Valuation Cert.Reference8Ideal.τ Cert.Reference8Ideal.sig (Elt Ideal)) : In where
  z := V (Proc.devRef .tc Cert.Reference8Ideal.main_arg0)
  dw := V (Proc.devRef .tc Cert.Reference8Ideal.main_arg1)
  db := V (Proc.devRef .tc Cert.Reference8Ideal.main_arg2)
  lg := V (Proc.devRef .tc Cert.Reference8Ideal.main_arg3)
  lb := V (Proc.devRef .tc Cert.Reference8Ideal.main_arg4)

/-- The reference's results, by their names: the output, -/
theorem out_def (V : Valuation Cert.Reference8Ideal.τ Cert.Reference8Ideal.sig (Elt Ideal)) :
    Cert.Reference8Ideal.Read.val_main_v269 (F := Ideal) (V (Proc.devRef .tc Cert.Reference8Ideal.main_arg0)) (V (Proc.devRef .tc Cert.Reference8Ideal.main_arg1)) (V (Proc.devRef .tc Cert.Reference8Ideal.main_arg2)) (V (Proc.devRef .tc Cert.Reference8Ideal.main_arg3)) (V (Proc.devRef .tc Cert.Reference8Ideal.main_arg4))
      = (ofVal V).out := rfl

/-- and the convolution. -/
theorem u1_def (V : Valuation Cert.Reference8Ideal.τ Cert.Reference8Ideal.sig (Elt Ideal)) :
    Cert.Reference8Ideal.Read.val_main_v231 (F := Ideal) (V (Proc.devRef .tc Cert.Reference8Ideal.main_arg0)) (V (Proc.devRef .tc Cert.Reference8Ideal.main_arg1)) (V (Proc.devRef .tc Cert.Reference8Ideal.main_arg2))
      = (ofVal V).u1 := rfl

/-- Where the two programs are given the same arrays, the reference's buffers hold the kernel's arrays. -/
theorem inp_eq (m : (ℓ : Loc nD τ sig) → Buf (Elt Ideal) ℓ)
    (m' : (ℓ : Loc Cert.Reference8Ideal.nD Cert.Reference8Ideal.τ Cert.Reference8Ideal.sig) → Buf (Elt Ideal) ℓ) (c : Dev nD)
    (h : m' ((c.tc : Thread Cert.Reference8Ideal.nD Cert.Reference8Ideal.τ).loc Cert.Reference8Ideal.main_arg0) = m ((c.tc : Thread nD τ).loc main_arg0)
      ∧ m' ((c.tc : Thread Cert.Reference8Ideal.nD Cert.Reference8Ideal.τ).loc Cert.Reference8Ideal.main_arg1) = m ((c.tc : Thread nD τ).loc main_arg1)
      ∧ m' ((c.tc : Thread Cert.Reference8Ideal.nD Cert.Reference8Ideal.τ).loc Cert.Reference8Ideal.main_arg2) = m ((c.tc : Thread nD τ).loc main_arg2)
      ∧ m' ((c.tc : Thread Cert.Reference8Ideal.nD Cert.Reference8Ideal.τ).loc Cert.Reference8Ideal.main_arg3) = m ((c.tc : Thread nD τ).loc main_arg3)
      ∧ m' ((c.tc : Thread Cert.Reference8Ideal.nD Cert.Reference8Ideal.τ).loc Cert.Reference8Ideal.main_arg4) = m ((c.tc : Thread nD τ).loc main_arg4)) :
    ofVal (StableHlo.launchContents m' c) = inp m c := by
  obtain ⟨a0, a1, a2, a3, a4⟩ := h
  unfold ofVal inp; congr 1 <;> assumption

/-- The kernel's two results are the values that the reference computes. -/
theorem algebraic : Cert.algebraic_Kernel8Ideal_Reference8Ideal := by
  intro m ρ m' ρ' _ hagree
  refine ⟨fun c => (inp m c).out, fun c => (inp m c).u1, ?_, ?_⟩
  · refine (θ_run Cert.Kernel8Ideal.defs _ _).mono (fun _ h c => ?_) (Cert.Kernel8Ideal.Hand.run_blocks (F := Ideal) m ρ)
    obtain ⟨h0, h1, hr⟩ := h c
    rw [out5] at h0; rw [out6] at h1
    exact ⟨h0, h1, hr⟩
  · refine (θ_run Cert.Reference8Ideal.defs _ _).mono (fun _ h c => ?_) (Cert.Reference8Ideal.Value.run (F := Ideal) m' ρ')
    obtain ⟨h0, h1, hr⟩ := h c
    have hin := inp_eq m m' c (hagree c)
    rw [Cert.Reference8Ideal.Read.val_main_v269_eq] at h0
    rw [Cert.Reference8Ideal.Read.val_main_v231_eq] at h1
    exact ⟨h0.trans ((out_def (StableHlo.launchContents m' c)).trans (congrArg In.out hin)),
      h1.trans ((u1_def (StableHlo.launchContents m' c)).trans (congrArg In.u1 hin)), hr⟩

end Cert.ConvFwd
-- ==== Proof.Adam.lean ====
module

public import Idealize.ShloMosaic.Lib.Pipeline.ValueKit

/-! # The optimiser's step on one entry -/

@[expose] public section

set_option maxRecDepth 16384

noncomputable section

open Idealize.ShloMosaic Idealize.ShloMosaic.TcCoe Idealize.SL.Sem
open Idealize.ShloMosaic.Pipeline (Dat)

namespace Cert.Adam

/-- The new first moment of an entry with gradient `g` and first moment `m`, -/
def newM (g m : EReal) : EReal := Ideal.ofBits .f32 0x3F666666#32 * m + Ideal.ofBits .f32 0x3DCCCCCD#32 * g

/-- the new second moment, -/
def newV (g v : EReal) : EReal := Ideal.ofBits .f32 0x3F7FBE77#32 * v + Ideal.ofBits .f32 0x3A83126F#32 * (g * g)

/-- and what is to be added to the entry `w`. -/
def delta (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

end Cert.Adam
-- ==== Proof.Adam9.lean ====
module

public import proofs.«01_k».proof.Proof.Adam
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack

/-! # The optimiser on the input weights

Grid point `t` takes 256 rows of the gradient, the parameter and the two moments. -/

@[expose] public section

set_option maxRecDepth 16384

noncomputable section

open Idealize.ShloMosaic Idealize.ShloMosaic.TcCoe Idealize.SL.Sem
open Idealize.ShloMosaic.Pipeline (Dat)

namespace Cert.Adam9
open Cert.Adam Cert.Kernel9Ideal Cert.Kernel9Ideal.Gen

/-- The arrays both programs are given: the gradient, the parameter, and its two moments. -/
structure In where
  g : Vec Ideal S2x1024x1920 .f32
  w : Vec Ideal S2x1024x1920 .f32
  mo : Vec Ideal S2x1024x1920 .f32
  v : Vec Ideal S2x1024x1920 .f32

namespace In
variable (I : In)

/-- What the reference computes: what is added to the parameter, -/
def delta : Vec Ideal S2048x1920 .f32 := Cert.Reference9Ideal.Read.val_main_v24 (F := Ideal) I.g I.w I.mo I.v
/-- the first moment, -/
def newM : Vec Ideal S2048x1920 .f32 := Cert.Reference9Ideal.Read.val_main_v25 (F := Ideal) I.g I.mo
/-- and the second. -/
def newV : Vec Ideal S2048x1920 .f32 := Cert.Reference9Ideal.Read.val_main_v26 (F := Ideal) I.g I.v

/-- The gradient, row by row, -/
def gF : Vec Ideal S2048x1920 .f32 := shapeCast S2048x1920 I.g shapeCasts_S2x1024x1920_S2048x1920
/-- the parameter, -/
def wF : Vec Ideal S2048x1920 .f32 := shapeCast S2048x1920 I.w shapeCasts_S2x1024x1920_S2048x1920
/-- the first moment, -/
def moF : Vec Ideal S2048x1920 .f32 := shapeCast S2048x1920 I.mo shapeCasts_S2x1024x1920_S2048x1920
/-- and the second. -/
def vF : Vec Ideal S2048x1920 .f32 := shapeCast S2048x1920 I.v shapeCasts_S2x1024x1920_S2048x1920

theorem newM_apply (i : S2048x1920.Idx) : I.newM i = Adam.newM (I.gF i) (I.moF i) := rfl
theorem newV_apply (i : S2048x1920.Idx) : I.newV i = Adam.newV (I.gF i) (I.vF i) := rfl
theorem delta_apply (i : S2048x1920.Idx) : I.delta i = Adam.delta (I.gF i) (I.wF i) (I.moF i) (I.vF i) := rfl

end In

variable (m : (ℓ : Loc nD τ sig) → Buf (Elt Ideal) ℓ) (c : Dev nD)

/-- The arrays the program is given. -/
def inp : In where
  g := m ((c : Thread nD τ).loc main_arg0)
  w := m ((c : Thread nD τ).loc main_arg1)
  mo := m ((c : Thread nD τ).loc main_arg2)
  v := m ((c : Thread nD τ).loc main_arg3)

/-- Which block of each array a grid point takes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem pt_lt (t : Fin cfg0.N) : t.val < 8 := t.isLt

/-- The row of the arrays that row `r` of a grid point's blocks is. -/
def rowAt (t : Fin cfg0.N) (r : Fin 256) : Fin 2048 := ⟨t.val * 256 + r.val, by have := pt_lt t; omega⟩

theorem V_g : V m c main_v0 = (inp m c).gF := by
  unfold V; after_results; rfl
theorem block0 (t : Fin cfg0.N) (r : Fin 256) (l : Fin 1920) : iblk m c 0 t (ix2 r l) = (inp m c).gF (ix2 (rowAt t r) l) := by
  rw [← V_g]
  unfold rowAt; blk_ext [iblk, idx t]
theorem V_w : V m c main_v1 = (inp m c).wF := by
  unfold V; after_results; rfl
theorem block1 (t : Fin cfg0.N) (r : Fin 256) (l : Fin 1920) : iblk m c 1 t (ix2 r l) = (inp m c).wF (ix2 (rowAt t r) l) := by
  rw [← V_w]
  unfold rowAt; blk_ext [iblk, idx t]
theorem V_mo : V m c main_v2 = (inp m c).moF := by
  unfold V; after_results; rfl
theorem block2 (t : Fin cfg0.N) (r : Fin 256) (l : Fin 1920) : iblk m c 2 t (ix2 r l) = (inp m c).moF (ix2 (rowAt t r) l) := by
  rw [← V_mo]
  unfold rowAt; blk_ext [iblk, idx t]
theorem V_v : V m c main_v3 = (inp m c).vF := by
  unfold V; after_results; rfl
theorem block3 (t : Fin cfg0.N) (r : Fin 256) (l : Fin 1920) : iblk m c 3 t (ix2 r l) = (inp m c).vF (ix2 (rowAt t r) l) := by
  rw [← V_v]
  unfold rowAt; blk_ext [iblk, idx t]

/-- What a grid point leaves of what is added to the parameter, -/
theorem out0_4_apply (x0 x1 x2 x3 : Vec Ideal S256x1920 .f32) (r : Fin 256) (l : Fin 1920) : out0_4 x0 x1 x2 x3 (ix2 r l) = Adam.delta (x0 (ix2 r l)) (x1 (ix2 r l)) (x2 (ix2 r l)) (x3 (ix2 r l)) := by
  frame_out
  unfold Adam.delta Adam.newM Adam.newV
  pointwise [k0_pay4, k0_pay2, k0_pay3, k0_pay1]

/-- and the array of it. -/
theorem arr4 : (dats m 0 c).arrAt 4 cfg0.N = (inp m c).delta := by
  refine (dats m 0 c).arrAt_eq_of_covers 4 _ (by decide +kernel) fun t _ y => ?_
  blk_simp [idx t]; rw [after0_4]
  idx_vars y
  rw [out0_4_apply, block0 m c t, block1 m c t, block2 m c t, block3 m c t, ← In.delta_apply]
  unfold rowAt; blk_ext [idx t]

/-- What a grid point leaves of the first moment, -/
theorem out0_5_apply (x0 x1 x2 x3 : Vec Ideal S256x1920 .f32) (r : Fin 256) (l : Fin 1920) : out0_5 x0 x1 x2 x3 (ix2 r l) = Adam.newM (x0 (ix2 r l)) (x2 (ix2 r l)) := by
  frame_out
  unfold Adam.newM
  pointwise [k0_pay2, k0_pay1]

/-- and the array of it. -/
theorem arr5 : (dats m 0 c).arrAt 5 cfg0.N = (inp m c).newM := by
  refine (dats m 0 c).arrAt_eq_of_covers 5 _ (by decide +kernel) fun t _ y => ?_
  blk_simp [idx t]; rw [after0_5]
  idx_vars y
  rw [out0_5_apply, block0 m c t, block2 m c t, ← In.newM_apply]
  unfold rowAt; blk_ext [idx t]

/-- What a grid point leaves of the second moment, -/
theorem out0_6_apply (x0 x1 x2 x3 : Vec Ideal S256x1920 .f32) (r : Fin 256) (l : Fin 1920) : out0_6 x0 x1 x2 x3 (ix2 r l) = Adam.newV (x0 (ix2 r l)) (x3 (ix2 r l)) := by
  frame_out
  unfold Adam.newV
  pointwise [k0_pay3, k0_pay1]

/-- and the array of it. -/
theorem arr6 : (dats m 0 c).arrAt 6 cfg0.N = (inp m c).newV := by
  refine (dats m 0 c).arrAt_eq_of_covers 6 _ (by decide +kernel) fun t _ y => ?_
  blk_simp [idx t]; rw [after0_6]
  idx_vars y
  rw [out0_6_apply, block0 m c t, block3 m c t, ← In.newV_apply]
  unfold rowAt; blk_ext [idx t]

end Cert.Adam9
-- ==== Proof.Adam9Claim.lean ====
module

public import proofs.«01_k».proof.Defs
public import proofs.«01_k».proof.Proof.Adam9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Quiescent

/-! # The claims about the optimiser on the input weights -/

@[expose] public section

set_option maxRecDepth 16384

noncomputable section

open Idealize.ShloMosaic Idealize.ShloMosaic.TcCoe Idealize.SL.Sem
open Idealize.ShloMosaic.Pipeline (Dat)

namespace Cert.Adam9
open Cert.Kernel9Ideal Cert.Kernel9Ideal.Gen

theorem frame_kernel : Cert.quiescent_Kernel9 := fun m ρ _ => Cert.Kernel9.Gen.frame m ρ
theorem frame_ideal : Cert.quiescent_Kernel9Ideal := fun m ρ _ => Cert.Kernel9Ideal.Gen.frame (F := Ideal) m ρ
theorem frame_reference : Cert.quiescent_Reference9Ideal := fun m ρ _ =>
  (θ_run Cert.Reference9Ideal.defs _ _).mono (fun r h => ⟨fun c => (h c).2.2.2,
      Idealize.ShloMosaic.sem_eq_zero_of_no_sems (by decide) r.2⟩)
    (Cert.Reference9Ideal.Value.run (F := Ideal) m ρ)

/-- The arrays in the reference's buffers. -/
def ofVal (V : Valuation Cert.Reference9Ideal.τ Cert.Reference9Ideal.sig (Elt Ideal)) : In where
  g := V (Proc.devRef .tc Cert.Reference9Ideal.main_arg0)
  w := V (Proc.devRef .tc Cert.Reference9Ideal.main_arg1)
  mo := V (Proc.devRef .tc Cert.Reference9Ideal.main_arg2)
  v := V (Proc.devRef .tc Cert.Reference9Ideal.main_arg3)

theorem delta_eq (V : Valuation Cert.Reference9Ideal.τ Cert.Reference9Ideal.sig (Elt Ideal)) :
    Cert.Reference9Ideal.Read.val_main_v24 (F := Ideal) (V (Proc.devRef .tc Cert.Reference9Ideal.main_arg0)) (V (Proc.devRef .tc Cert.Reference9Ideal.main_arg1)) (V (Proc.devRef .tc Cert.Reference9Ideal.main_arg2)) (V (Proc.devRef .tc Cert.Reference9Ideal.main_arg3))
      = (ofVal V).delta := rfl

theorem newM_eq (V : Valuation Cert.Reference9Ideal.τ Cert.Reference9Ideal.sig (Elt Ideal)) :
    Cert.Reference9Ideal.Read.val_main_v25 (F := Ideal) (V (Proc.devRef .tc Cert.Reference9Ideal.main_arg0)) (V (Proc.devRef .tc Cert.Reference9Ideal.main_arg2))
      = (ofVal V).newM := rfl

theorem newV_eq (V : Valuation Cert.Reference9Ideal.τ Cert.Reference9Ideal.sig (Elt Ideal)) :
    Cert.Reference9Ideal.Read.val_main_v26 (F := Ideal) (V (Proc.devRef .tc Cert.Reference9Ideal.main_arg0)) (V (Proc.devRef .tc Cert.Reference9Ideal.main_arg3))
      = (ofVal V).newV := rfl

/-- Where the two programs are given the same arrays, the reference's buffers hold the kernel's arrays. -/
theorem inp_eq (m : (ℓ : Loc nD τ sig) → Buf (Elt Ideal) ℓ)
    (m' : (ℓ : Loc Cert.Reference9Ideal.nD Cert.Reference9Ideal.τ Cert.Reference9Ideal.sig) → Buf (Elt Ideal) ℓ) (c : Dev nD)
    (h : m' ((c.tc : Thread Cert.Reference9Ideal.nD Cert.Reference9Ideal.τ).loc Cert.Reference9Ideal.main_arg0) = m ((c.tc : Thread nD τ).loc main_arg0)
      ∧ m' ((c.tc : Thread Cert.Reference9Ideal.nD Cert.Reference9Ideal.τ).loc Cert.Reference9Ideal.main_arg1) = m ((c.tc : Thread nD τ).loc main_arg1)
      ∧ m' ((c.tc : Thread Cert.Reference9Ideal.nD Cert.Reference9Ideal.τ).loc Cert.Reference9Ideal.main_arg2) = m ((c.tc : Thread nD τ).loc main_arg2)
      ∧ m' ((c.tc : Thread Cert.Reference9Ideal.nD Cert.Reference9Ideal.τ).loc Cert.Reference9Ideal.main_arg3) = m ((c.tc : Thread nD τ).loc main_arg3)) :
    ofVal (StableHlo.launchContents m' c) = inp m c := by
  obtain ⟨a0, a1, a2, a3⟩ := h
  unfold ofVal inp; congr 1 <;> assumption

/-- The kernel's three results are the values that the reference computes. -/
theorem algebraic : Cert.algebraic_Kernel9Ideal_Reference9Ideal := by
  intro m ρ m' ρ' _ hagree
  refine ⟨fun c => (inp m c).delta, fun c => (inp m c).newM, fun c => (inp m c).newV, ?_, ?_⟩
  · refine (θ_run Cert.Kernel9Ideal.defs _ _).mono (fun _ h c => ?_) (Cert.Kernel9Ideal.Value.run_blocks (F := Ideal) m ρ)
    obtain ⟨h0, h1, h2, hr⟩ := h c
    rw [arr4] at h0; rw [arr5] at h1; rw [arr6] at h2
    exact ⟨h0, h1, h2, hr⟩
  · refine (θ_run Cert.Reference9Ideal.defs _ _).mono (fun _ h c => ?_) (Cert.Reference9Ideal.Value.run (F := Ideal) m' ρ')
    obtain ⟨h0, h1, h2, hr⟩ := h c
    have hin := inp_eq m m' c (hagree c)
    rw [Cert.Reference9Ideal.Read.val_main_v24_eq] at h0
    rw [Cert.Reference9Ideal.Read.val_main_v25_eq] at h1
    rw [Cert.Reference9Ideal.Read.val_main_v26_eq] at h2
    exact ⟨h0.trans ((delta_eq (StableHlo.launchContents m' c)).trans (congrArg In.delta hin)),
      h1.trans ((newM_eq (StableHlo.launchContents m' c)).trans (congrArg In.newM hin)),
      h2.trans ((newV_eq (StableHlo.launchContents m' c)).trans (congrArg In.newV hin)), hr⟩

end Cert.Adam9
-- ==== Proof.Adam10.lean ====
module

public import proofs.«01_k».proof.Proof.Adam
public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack

/-! # The optimiser on the output weights of a branch

Grid point `t` takes 512 rows of the gradient, the parameter and the two moments. -/

@[expose] public section

set_option maxRecDepth 16384

noncomputable section

open Idealize.ShloMosaic Idealize.ShloMosaic.TcCoe Idealize.SL.Sem
open Idealize.ShloMosaic.Pipeline (Dat)

namespace Cert.Adam10
open Cert.Adam Cert.Kernel10Ideal Cert.Kernel10Ideal.Gen

/-- The arrays both programs are given: the gradient, the parameter, and its two moments. -/
structure In where
  g : Vec Ideal S2x512x256 .f32
  w : Vec Ideal S2x512x256 .f32
  mo : Vec Ideal S2x512x256 .f32
  v : Vec Ideal S2x512x256 .f32

namespace In
variable (I : In)

/-- What the reference computes: what is added to the parameter, -/
def delta : Vec Ideal S1024x256 .f32 := Cert.Reference10Ideal.Read.val_main_v24 (F := Ideal) I.g I.w I.mo I.v
/-- the first moment, -/
def newM : Vec Ideal S1024x256 .f32 := Cert.Reference10Ideal.Read.val_main_v25 (F := Ideal) I.g I.mo
/-- and the second. -/
def newV : Vec Ideal S1024x256 .f32 := Cert.Reference10Ideal.Read.val_main_v26 (F := Ideal) I.g I.v

/-- The gradient, row by row, -/
def gF : Vec Ideal S1024x256 .f32 := shapeCast S1024x256 I.g shapeCasts_S2x512x256_S1024x256
/-- the parameter, -/
def wF : Vec Ideal S1024x256 .f32 := shapeCast S1024x256 I.w shapeCasts_S2x512x256_S1024x256
/-- the first moment, -/
def moF : Vec Ideal S1024x256 .f32 := shapeCast S1024x256 I.mo shapeCasts_S2x512x256_S1024x256
/-- and the second. -/
def vF : Vec Ideal S1024x256 .f32 := shapeCast S1024x256 I.v shapeCasts_S2x512x256_S1024x256

theorem newM_apply (i : S1024x256.Idx) : I.newM i = Adam.newM (I.gF i) (I.moF i) := rfl
theorem newV_apply (i : S1024x256.Idx) : I.newV i = Adam.newV (I.gF i) (I.vF i) := rfl
theorem delta_apply (i : S1024x256.Idx) : I.delta i = Adam.delta (I.gF i) (I.wF i) (I.moF i) (I.vF i) := rfl

end In

variable (m : (ℓ : Loc nD τ sig) → Buf (Elt Ideal) ℓ) (c : Dev nD)

/-- The arrays the program is given. -/
def inp : In where
  g := m ((c : Thread nD τ).loc main_arg0)
  w := m ((c : Thread nD τ).loc main_arg1)
  mo := m ((c : Thread nD τ).loc main_arg2)
  v := m ((c : Thread nD τ).loc main_arg3)

/-- Which block of each array a grid point takes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem pt_lt (t : Fin cfg0.N) : t.val < 2 := t.isLt

/-- The row of the arrays that row `r` of a grid point's blocks is. -/
def rowAt (t : Fin cfg0.N) (r : Fin 512) : Fin 1024 := ⟨t.val * 512 + r.val, by have := pt_lt t; omega⟩

theorem V_g : V m c main_v0 = (inp m c).gF := by
  unfold V; after_results; rfl
theorem block0 (t : Fin cfg0.N) (r : Fin 512) (l : Fin 256) : iblk m c 0 t (ix2 r l) = (inp m c).gF (ix2 (rowAt t r) l) := by
  rw [← V_g]
  unfold rowAt; blk_ext [iblk, idx t]
theorem V_w : V m c main_v1 = (inp m c).wF := by
  unfold V; after_results; rfl
theorem block1 (t : Fin cfg0.N) (r : Fin 512) (l : Fin 256) : iblk m c 1 t (ix2 r l) = (inp m c).wF (ix2 (rowAt t r) l) := by
  rw [← V_w]
  unfold rowAt; blk_ext [iblk, idx t]
theorem V_mo : V m c main_v2 = (inp m c).moF := by
  unfold V; after_results; rfl
theorem block2 (t : Fin cfg0.N) (r : Fin 512) (l : Fin 256) : iblk m c 2 t (ix2 r l) = (inp m c).moF (ix2 (rowAt t r) l) := by
  rw [← V_mo]
  unfold rowAt; blk_ext [iblk, idx t]
theorem V_v : V m c main_v3 = (inp m c).vF := by
  unfold V; after_results; rfl
theorem block3 (t : Fin cfg0.N) (r : Fin 512) (l : Fin 256) : iblk m c 3 t (ix2 r l) = (inp m c).vF (ix2 (rowAt t r) l) := by
  rw [← V_v]
  unfold rowAt; blk_ext [iblk, idx t]

/-- What a grid point leaves of what is added to the parameter, -/
theorem out0_4_apply (x0 x1 x2 x3 : Vec Ideal S512x256 .f32) (r : Fin 512) (l : Fin 256) : out0_4 x0 x1 x2 x3 (ix2 r l) = Adam.delta (x0 (ix2 r l)) (x1 (ix2 r l)) (x2 (ix2 r l)) (x3 (ix2 r l)) := by
  frame_out
  unfold Adam.delta Adam.newM Adam.newV
  pointwise [k0_pay4, k0_pay2, k0_pay3, k0_pay1]

/-- and the array of it. -/
theorem arr4 : (dats m 0 c).arrAt 4 cfg0.N = (inp m c).delta := by
  refine (dats m 0 c).arrAt_eq_of_covers 4 _ (by decide +kernel) fun t _ y => ?_
  blk_simp [idx t]; rw [after0_4]
  idx_vars y
  rw [out0_4_apply, block0 m c t, block1 m c t, block2 m c t, block3 m c t, ← In.delta_apply]
  unfold rowAt; blk_ext [idx t]

/-- What a grid point leaves of the first moment, -/
theorem out0_5_apply (x0 x1 x2 x3 : Vec Ideal S512x256 .f32) (r : Fin 512) (l : Fin 256) : out0_5 x0 x1 x2 x3 (ix2 r l) = Adam.newM (x0 (ix2 r l)) (x2 (ix2 r l)) := by
  frame_out
  unfold Adam.newM
  pointwise [k0_pay2, k0_pay1]

/-- and the array of it. -/
theorem arr5 : (dats m 0 c).arrAt 5 cfg0.N = (inp m c).newM := by
  refine (dats m 0 c).arrAt_eq_of_covers 5 _ (by decide +kernel) fun t _ y => ?_
  blk_simp [idx t]; rw [after0_5]
  idx_vars y
  rw [out0_5_apply, block0 m c t, block2 m c t, ← In.newM_apply]
  unfold rowAt; blk_ext [idx t]

/-- What a grid point leaves of the second moment, -/
theorem out0_6_apply (x0 x1 x2 x3 : Vec Ideal S512x256 .f32) (r : Fin 512) (l : Fin 256) : out0_6 x0 x1 x2 x3 (ix2 r l) = Adam.newV (x0 (ix2 r l)) (x3 (ix2 r l)) := by
  frame_out
  unfold Adam.newV
  pointwise [k0_pay3, k0_pay1]

/-- and the array of it. -/
theorem arr6 : (dats m 0 c).arrAt 6 cfg0.N = (inp m c).newV := by
  refine (dats m 0 c).arrAt_eq_of_covers 6 _ (by decide +kernel) fun t _ y => ?_
  blk_simp [idx t]; rw [after0_6]
  idx_vars y
  rw [out0_6_apply, block0 m c t, block3 m c t, ← In.newV_apply]
  unfold rowAt; blk_ext [idx t]

end Cert.Adam10
-- ==== Proof.Adam10Claim.lean ====
module

public import proofs.«01_k».proof.Defs
public import proofs.«01_k».proof.Proof.Adam10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Quiescent

/-! # The claims about the optimiser on the output weights of a branch -/

@[expose] public section

set_option maxRecDepth 16384

noncomputable section

open Idealize.ShloMosaic Idealize.ShloMosaic.TcCoe Idealize.SL.Sem
open Idealize.ShloMosaic.Pipeline (Dat)

namespace Cert.Adam10
open Cert.Kernel10Ideal Cert.Kernel10Ideal.Gen

theorem frame_kernel : Cert.quiescent_Kernel10 := fun m ρ _ => Cert.Kernel10.Gen.frame m ρ
theorem frame_ideal : Cert.quiescent_Kernel10Ideal := fun m ρ _ => Cert.Kernel10Ideal.Gen.frame (F := Ideal) m ρ
theorem frame_reference : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)

/-- The arrays in the reference's buffers. -/
def ofVal (V : Valuation Cert.Reference10Ideal.τ Cert.Reference10Ideal.sig (Elt Ideal)) : In where
  g := V (Proc.devRef .tc Cert.Reference10Ideal.main_arg0)
  w := V (Proc.devRef .tc Cert.Reference10Ideal.main_arg1)
  mo := V (Proc.devRef .tc Cert.Reference10Ideal.main_arg2)
  v := V (Proc.devRef .tc Cert.Reference10Ideal.main_arg3)

theorem delta_eq (V : Valuation Cert.Reference10Ideal.τ Cert.Reference10Ideal.sig (Elt Ideal)) :
    Cert.Reference10Ideal.Read.val_main_v24 (F := Ideal) (V (Proc.devRef .tc Cert.Reference10Ideal.main_arg0)) (V (Proc.devRef .tc Cert.Reference10Ideal.main_arg1)) (V (Proc.devRef .tc Cert.Reference10Ideal.main_arg2)) (V (Proc.devRef .tc Cert.Reference10Ideal.main_arg3))
      = (ofVal V).delta := rfl

theorem newM_eq (V : Valuation Cert.Reference10Ideal.τ Cert.Reference10Ideal.sig (Elt Ideal)) :
    Cert.Reference10Ideal.Read.val_main_v25 (F := Ideal) (V (Proc.devRef .tc Cert.Reference10Ideal.main_arg0)) (V (Proc.devRef .tc Cert.Reference10Ideal.main_arg2))
      = (ofVal V).newM := rfl

theorem newV_eq (V : Valuation Cert.Reference10Ideal.τ Cert.Reference10Ideal.sig (Elt Ideal)) :
    Cert.Reference10Ideal.Read.val_main_v26 (F := Ideal) (V (Proc.devRef .tc Cert.Reference10Ideal.main_arg0)) (V (Proc.devRef .tc Cert.Reference10Ideal.main_arg3))
      = (ofVal V).newV := rfl

/-- Where the two programs are given the same arrays, the reference's buffers hold the kernel's arrays. -/
theorem inp_eq (m : (ℓ : Loc nD τ sig) → Buf (Elt Ideal) ℓ)
    (m' : (ℓ : Loc Cert.Reference10Ideal.nD Cert.Reference10Ideal.τ Cert.Reference10Ideal.sig) → Buf (Elt Ideal) ℓ) (c : Dev nD)
    (h : m' ((c.tc : Thread Cert.Reference10Ideal.nD Cert.Reference10Ideal.τ).loc Cert.Reference10Ideal.main_arg0) = m ((c.tc : Thread nD τ).loc main_arg0)
      ∧ m' ((c.tc : Thread Cert.Reference10Ideal.nD Cert.Reference10Ideal.τ).loc Cert.Reference10Ideal.main_arg1) = m ((c.tc : Thread nD τ).loc main_arg1)
      ∧ m' ((c.tc : Thread Cert.Reference10Ideal.nD Cert.Reference10Ideal.τ).loc Cert.Reference10Ideal.main_arg2) = m ((c.tc : Thread nD τ).loc main_arg2)
      ∧ m' ((c.tc : Thread Cert.Reference10Ideal.nD Cert.Reference10Ideal.τ).loc Cert.Reference10Ideal.main_arg3) = m ((c.tc : Thread nD τ).loc main_arg3)) :
    ofVal (StableHlo.launchContents m' c) = inp m c := by
  obtain ⟨a0, a1, a2, a3⟩ := h
  unfold ofVal inp; congr 1 <;> assumption

/-- The kernel's three results are the values that the reference computes. -/
theorem algebraic : Cert.algebraic_Kernel10Ideal_Reference10Ideal := by
  intro m ρ m' ρ' _ hagree
  refine ⟨fun c => (inp m c).delta, fun c => (inp m c).newM, fun c => (inp m c).newV, ?_, ?_⟩
  · refine (θ_run Cert.Kernel10Ideal.defs _ _).mono (fun _ h c => ?_) (Cert.Kernel10Ideal.Value.run_blocks (F := Ideal) m ρ)
    obtain ⟨h0, h1, h2, hr⟩ := h c
    rw [arr4] at h0; rw [arr5] at h1; rw [arr6] at h2
    exact ⟨h0, h1, h2, hr⟩
  · refine (θ_run Cert.Reference10Ideal.defs _ _).mono (fun _ h c => ?_) (Cert.Reference10Ideal.Value.run (F := Ideal) m' ρ')
    obtain ⟨h0, h1, h2, hr⟩ := h c
    have hin := inp_eq m m' c (hagree c)
    rw [Cert.Reference10Ideal.Read.val_main_v24_eq] at h0
    rw [Cert.Reference10Ideal.Read.val_main_v25_eq] at h1
    rw [Cert.Reference10Ideal.Read.val_main_v26_eq] at h2
    exact ⟨h0.trans ((delta_eq (StableHlo.launchContents m' c)).trans (congrArg In.delta hin)),
      h1.trans ((newM_eq (StableHlo.launchContents m' c)).trans (congrArg In.newM hin)),
      h2.trans ((newV_eq (StableHlo.launchContents m' c)).trans (congrArg In.newV hin)), hr⟩

end Cert.Adam10
-- ==== Proof.Adam11.lean ====
module

public import proofs.«01_k».proof.Proof.Adam
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack

/-! # The optimiser on the output weights

Grid point `t` takes 512 rows of the gradient, the parameter and the two moments. -/

@[expose] public section

set_option maxRecDepth 16384

noncomputable section

open Idealize.ShloMosaic Idealize.ShloMosaic.TcCoe Idealize.SL.Sem
open Idealize.ShloMosaic.Pipeline (Dat)

namespace Cert.Adam11
open Cert.Adam Cert.Kernel11Ideal Cert.Kernel11Ideal.Gen

/-- The arrays both programs are given: the gradient, the parameter, and its two moments. -/
structure In where
  g : Vec Ideal S2x256x1024 .f32
  w : Vec Ideal S2x256x1024 .f32
  mo : Vec Ideal S2x256x1024 .f32
  v : Vec Ideal S2x256x1024 .f32

namespace In
variable (I : In)

/-- What the reference computes: what is added to the parameter, -/
def delta : Vec Ideal S512x1024 .f32 := Cert.Reference11Ideal.Read.val_main_v24 (F := Ideal) I.g I.w I.mo I.v
/-- the first moment, -/
def newM : Vec Ideal S512x1024 .f32 := Cert.Reference11Ideal.Read.val_main_v25 (F := Ideal) I.g I.mo
/-- and the second. -/
def newV : Vec Ideal S512x1024 .f32 := Cert.Reference11Ideal.Read.val_main_v26 (F := Ideal) I.g I.v

/-- The gradient, row by row, -/
def gF : Vec Ideal S512x1024 .f32 := shapeCast S512x1024 I.g shapeCasts_S2x256x1024_S512x1024
/-- the parameter, -/
def wF : Vec Ideal S512x1024 .f32 := shapeCast S512x1024 I.w shapeCasts_S2x256x1024_S512x1024
/-- the first moment, -/
def moF : Vec Ideal S512x1024 .f32 := shapeCast S512x1024 I.mo shapeCasts_S2x256x1024_S512x1024
/-- and the second. -/
def vF : Vec Ideal S512x1024 .f32 := shapeCast S512x1024 I.v shapeCasts_S2x256x1024_S512x1024

theorem newM_apply (i : S512x1024.Idx) : I.newM i = Adam.newM (I.gF i) (I.moF i) := rfl
theorem newV_apply (i : S512x1024.Idx) : I.newV i = Adam.newV (I.gF i) (I.vF i) := rfl
theorem delta_apply (i : S512x1024.Idx) : I.delta i = Adam.delta (I.gF i) (I.wF i) (I.moF i) (I.vF i) := rfl

end In

variable (m : (ℓ : Loc nD τ sig) → Buf (Elt Ideal) ℓ) (c : Dev nD)

/-- The arrays the program is given. -/
def inp : In where
  g := m ((c : Thread nD τ).loc main_arg0)
  w := m ((c : Thread nD τ).loc main_arg1)
  mo := m ((c : Thread nD τ).loc main_arg2)
  v := m ((c : Thread nD τ).loc main_arg3)

/-- Which block of each array a grid point takes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem pt_lt (t : Fin cfg0.N) : t.val < 1 := t.isLt

/-- The row of the arrays that row `r` of a grid point's blocks is. -/
def rowAt (t : Fin cfg0.N) (r : Fin 512) : Fin 512 := ⟨t.val * 512 + r.val, by have := pt_lt t; omega⟩

theorem V_g : V m c main_v0 = (inp m c).gF := by
  unfold V; after_results; rfl
theorem block0 (t : Fin cfg0.N) (r : Fin 512) (l : Fin 1024) : iblk m c 0 t (ix2 r l) = (inp m c).gF (ix2 (rowAt t r) l) := by
  rw [← V_g]
  unfold rowAt; blk_ext [iblk, idx t]
theorem V_w : V m c main_v1 = (inp m c).wF := by
  unfold V; after_results; rfl
theorem block1 (t : Fin cfg0.N) (r : Fin 512) (l : Fin 1024) : iblk m c 1 t (ix2 r l) = (inp m c).wF (ix2 (rowAt t r) l) := by
  rw [← V_w]
  unfold rowAt; blk_ext [iblk, idx t]
theorem V_mo : V m c main_v2 = (inp m c).moF := by
  unfold V; after_results; rfl
theorem block2 (t : Fin cfg0.N) (r : Fin 512) (l : Fin 1024) : iblk m c 2 t (ix2 r l) = (inp m c).moF (ix2 (rowAt t r) l) := by
  rw [← V_mo]
  unfold rowAt; blk_ext [iblk, idx t]
theorem V_v : V m c main_v3 = (inp m c).vF := by
  unfold V; after_results; rfl
theorem block3 (t : Fin cfg0.N) (r : Fin 512) (l : Fin 1024) : iblk m c 3 t (ix2 r l) = (inp m c).vF (ix2 (rowAt t r) l) := by
  rw [← V_v]
  unfold rowAt; blk_ext [iblk, idx t]

/-- What a grid point leaves of what is added to the parameter, -/
theorem out0_4_apply (x0 x1 x2 x3 : Vec Ideal S512x1024 .f32) (r : Fin 512) (l : Fin 1024) : out0_4 x0 x1 x2 x3 (ix2 r l) = Adam.delta (x0 (ix2 r l)) (x1 (ix2 r l)) (x2 (ix2 r l)) (x3 (ix2 r l)) := by
  frame_out
  unfold Adam.delta Adam.newM Adam.newV
  pointwise [k0_pay4, k0_pay2, k0_pay3, k0_pay1]

/-- and the array of it. -/
theorem arr4 : (dats m 0 c).arrAt 4 cfg0.N = (inp m c).delta := by
  refine (dats m 0 c).arrAt_eq_of_covers 4 _ (by decide +kernel) fun t _ y => ?_
  blk_simp [idx t]; rw [after0_4]
  idx_vars y
  rw [out0_4_apply, block0 m c t, block1 m c t, block2 m c t, block3 m c t, ← In.delta_apply]
  unfold rowAt; blk_ext [idx t]

/-- What a grid point leaves of the first moment, -/
theorem out0_5_apply (x0 x1 x2 x3 : Vec Ideal S512x1024 .f32) (r : Fin 512) (l : Fin 1024) : out0_5 x0 x1 x2 x3 (ix2 r l) = Adam.newM (x0 (ix2 r l)) (x2 (ix2 r l)) := by
  frame_out
  unfold Adam.newM
  pointwise [k0_pay2, k0_pay1]

/-- and the array of it. -/
theorem arr5 : (dats m 0 c).arrAt 5 cfg0.N = (inp m c).newM := by
  refine (dats m 0 c).arrAt_eq_of_covers 5 _ (by decide +kernel) fun t _ y => ?_
  blk_simp [idx t]; rw [after0_5]
  idx_vars y
  rw [out0_5_apply, block0 m c t, block2 m c t, ← In.newM_apply]
  unfold rowAt; blk_ext [idx t]

/-- What a grid point leaves of the second moment, -/
theorem out0_6_apply (x0 x1 x2 x3 : Vec Ideal S512x1024 .f32) (r : Fin 512) (l : Fin 1024) : out0_6 x0 x1 x2 x3 (ix2 r l) = Adam.newV (x0 (ix2 r l)) (x3 (ix2 r l)) := by
  frame_out
  unfold Adam.newV
  pointwise [k0_pay3, k0_pay1]

/-- and the array of it. -/
theorem arr6 : (dats m 0 c).arrAt 6 cfg0.N = (inp m c).newV := by
  refine (dats m 0 c).arrAt_eq_of_covers 6 _ (by decide +kernel) fun t _ y => ?_
  blk_simp [idx t]; rw [after0_6]
  idx_vars y
  rw [out0_6_apply, block0 m c t, block3 m c t, ← In.newV_apply]
  unfold rowAt; blk_ext [idx t]

end Cert.Adam11
-- ==== Proof.Adam11Claim.lean ====
module

public import proofs.«01_k».proof.Defs
public import proofs.«01_k».proof.Proof.Adam11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Quiescent

/-! # The claims about the optimiser on the output weights -/

@[expose] public section

set_option maxRecDepth 16384

noncomputable section

open Idealize.ShloMosaic Idealize.ShloMosaic.TcCoe Idealize.SL.Sem
open Idealize.ShloMosaic.Pipeline (Dat)

namespace Cert.Adam11
open Cert.Kernel11Ideal Cert.Kernel11Ideal.Gen

theorem frame_kernel : Cert.quiescent_Kernel11 := fun m ρ _ => Cert.Kernel11.Gen.frame m ρ
theorem frame_ideal : Cert.quiescent_Kernel11Ideal := fun m ρ _ => Cert.Kernel11Ideal.Gen.frame (F := Ideal) m ρ
theorem frame_reference : Cert.quiescent_Reference11Ideal := fun m ρ _ =>
  (θ_run Cert.Reference11Ideal.defs _ _).mono (fun r h => ⟨fun c => (h c).2.2.2,
      Idealize.ShloMosaic.sem_eq_zero_of_no_sems (by decide) r.2⟩)
    (Cert.Reference11Ideal.Value.run (F := Ideal) m ρ)

/-- The arrays in the reference's buffers. -/
def ofVal (V : Valuation Cert.Reference11Ideal.τ Cert.Reference11Ideal.sig (Elt Ideal)) : In where
  g := V (Proc.devRef .tc Cert.Reference11Ideal.main_arg0)
  w := V (Proc.devRef .tc Cert.Reference11Ideal.main_arg1)
  mo := V (Proc.devRef .tc Cert.Reference11Ideal.main_arg2)
  v := V (Proc.devRef .tc Cert.Reference11Ideal.main_arg3)

theorem delta_eq (V : Valuation Cert.Reference11Ideal.τ Cert.Reference11Ideal.sig (Elt Ideal)) :
    Cert.Reference11Ideal.Read.val_main_v24 (F := Ideal) (V (Proc.devRef .tc Cert.Reference11Ideal.main_arg0)) (V (Proc.devRef .tc Cert.Reference11Ideal.main_arg1)) (V (Proc.devRef .tc Cert.Reference11Ideal.main_arg2)) (V (Proc.devRef .tc Cert.Reference11Ideal.main_arg3))
      = (ofVal V).delta := rfl

theorem newM_eq (V : Valuation Cert.Reference11Ideal.τ Cert.Reference11Ideal.sig (Elt Ideal)) :
    Cert.Reference11Ideal.Read.val_main_v25 (F := Ideal) (V (Proc.devRef .tc Cert.Reference11Ideal.main_arg0)) (V (Proc.devRef .tc Cert.Reference11Ideal.main_arg2))
      = (ofVal V).newM := rfl

theorem newV_eq (V : Valuation Cert.Reference11Ideal.τ Cert.Reference11Ideal.sig (Elt Ideal)) :
    Cert.Reference11Ideal.Read.val_main_v26 (F := Ideal) (V (Proc.devRef .tc Cert.Reference11Ideal.main_arg0)) (V (Proc.devRef .tc Cert.Reference11Ideal.main_arg3))
      = (ofVal V).newV := rfl

/-- Where the two programs are given the same arrays, the reference's buffers hold the kernel's arrays. -/
theorem inp_eq (m : (ℓ : Loc nD τ sig) → Buf (Elt Ideal) ℓ)
    (m' : (ℓ : Loc Cert.Reference11Ideal.nD Cert.Reference11Ideal.τ Cert.Reference11Ideal.sig) → Buf (Elt Ideal) ℓ) (c : Dev nD)
    (h : m' ((c.tc : Thread Cert.Reference11Ideal.nD Cert.Reference11Ideal.τ).loc Cert.Reference11Ideal.main_arg0) = m ((c.tc : Thread nD τ).loc main_arg0)
      ∧ m' ((c.tc : Thread Cert.Reference11Ideal.nD Cert.Reference11Ideal.τ).loc Cert.Reference11Ideal.main_arg1) = m ((c.tc : Thread nD τ).loc main_arg1)
      ∧ m' ((c.tc : Thread Cert.Reference11Ideal.nD Cert.Reference11Ideal.τ).loc Cert.Reference11Ideal.main_arg2) = m ((c.tc : Thread nD τ).loc main_arg2)
      ∧ m' ((c.tc : Thread Cert.Reference11Ideal.nD Cert.Reference11Ideal.τ).loc Cert.Reference11Ideal.main_arg3) = m ((c.tc : Thread nD τ).loc main_arg3)) :
    ofVal (StableHlo.launchContents m' c) = inp m c := by
  obtain ⟨a0, a1, a2, a3⟩ := h
  unfold ofVal inp; congr 1 <;> assumption

/-- The kernel's three results are the values that the reference computes. -/
theorem algebraic : Cert.algebraic_Kernel11Ideal_Reference11Ideal := by
  intro m ρ m' ρ' _ hagree
  refine ⟨fun c => (inp m c).delta, fun c => (inp m c).newM, fun c => (inp m c).newV, ?_, ?_⟩
  · refine (θ_run Cert.Kernel11Ideal.defs _ _).mono (fun _ h c => ?_) (Cert.Kernel11Ideal.Value.run_blocks (F := Ideal) m ρ)
    obtain ⟨h0, h1, h2, hr⟩ := h c
    rw [arr4] at h0; rw [arr5] at h1; rw [arr6] at h2
    exact ⟨h0, h1, h2, hr⟩
  · refine (θ_run Cert.Reference11Ideal.defs _ _).mono (fun _ h c => ?_) (Cert.Reference11Ideal.Value.run (F := Ideal) m' ρ')
    obtain ⟨h0, h1, h2, hr⟩ := h c
    have hin := inp_eq m m' c (hagree c)
    rw [Cert.Reference11Ideal.Read.val_main_v24_eq] at h0
    rw [Cert.Reference11Ideal.Read.val_main_v25_eq] at h1
    rw [Cert.Reference11Ideal.Read.val_main_v26_eq] at h2
    exact ⟨h0.trans ((delta_eq (StableHlo.launchContents m' c)).trans (congrArg In.delta hin)),
      h1.trans ((newM_eq (StableHlo.launchContents m' c)).trans (congrArg In.newM hin)),
      h2.trans ((newV_eq (StableHlo.launchContents m' c)).trans (congrArg In.newV hin)), hr⟩

end Cert.Adam11
-- ==== Proof.Adam12.lean ====
module

public import proofs.«01_k».proof.Proof.Adam
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack

/-! # The optimiser on the convolution's weights

Grid point `t` takes 62 rows of the gradient, the parameter and the two moments. -/

@[expose] public section

set_option maxRecDepth 16384

noncomputable section

open Idealize.ShloMosaic Idealize.ShloMosaic.TcCoe Idealize.SL.Sem
open Idealize.ShloMosaic.Pipeline (Dat)

namespace Cert.Adam12
open Cert.Adam Cert.Kernel12Ideal Cert.Kernel12Ideal.Gen

/-- The arrays both programs are given: the gradient, the parameter, and its two moments. -/
structure In where
  g : Vec Ideal S2x31x128 .f32
  w : Vec Ideal S2x31x128 .f32
  mo : Vec Ideal S2x31x128 .f32
  v : Vec Ideal S2x31x128 .f32

namespace In
variable (I : In)

/-- What the reference computes: what is added to the parameter, -/
def delta : Vec Ideal S62x128 .f32 := Cert.Reference12Ideal.Read.val_main_v24 (F := Ideal) I.g I.w I.mo I.v
/-- the first moment, -/
def newM : Vec Ideal S62x128 .f32 := Cert.Reference12Ideal.Read.val_main_v25 (F := Ideal) I.g I.mo
/-- and the second. -/
def newV : Vec Ideal S62x128 .f32 := Cert.Reference12Ideal.Read.val_main_v26 (F := Ideal) I.g I.v

/-- The gradient, row by row, -/
def gF : Vec Ideal S62x128 .f32 := shapeCast S62x128 I.g shapeCasts_S2x31x128_S62x128
/-- the parameter, -/
def wF : Vec Ideal S62x128 .f32 := shapeCast S62x128 I.w shapeCasts_S2x31x128_S62x128
/-- the first moment, -/
def moF : Vec Ideal S62x128 .f32 := shapeCast S62x128 I.mo shapeCasts_S2x31x128_S62x128
/-- and the second. -/
def vF : Vec Ideal S62x128 .f32 := shapeCast S62x128 I.v shapeCasts_S2x31x128_S62x128

theorem newM_apply (i : S62x128.Idx) : I.newM i = Adam.newM (I.gF i) (I.moF i) := rfl
theorem newV_apply (i : S62x128.Idx) : I.newV i = Adam.newV (I.gF i) (I.vF i) := rfl
theorem delta_apply (i : S62x128.Idx) : I.delta i = Adam.delta (I.gF i) (I.wF i) (I.moF i) (I.vF i) := rfl

end In

variable (m : (ℓ : Loc nD τ sig) → Buf (Elt Ideal) ℓ) (c : Dev nD)

/-- The arrays the program is given. -/
def inp : In where
  g := m ((c : Thread nD τ).loc main_arg0)
  w := m ((c : Thread nD τ).loc main_arg1)
  mo := m ((c : Thread nD τ).loc main_arg2)
  v := m ((c : Thread nD τ).loc main_arg3)

/-- Which block of each array a grid point takes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem pt_lt (t : Fin cfg0.N) : t.val < 1 := t.isLt

/-- The row of the arrays that row `r` of a grid point's blocks is. -/
def rowAt (t : Fin cfg0.N) (r : Fin 62) : Fin 62 := ⟨t.val * 62 + r.val, by have := pt_lt t; omega⟩

theorem V_g : V m c main_v0 = (inp m c).gF := by
  unfold V; after_results; rfl
theorem block0 (t : Fin cfg0.N) (r : Fin 62) (l : Fin 128) : iblk m c 0 t (ix2 r l) = (inp m c).gF (ix2 (rowAt t r) l) := by
  rw [← V_g]
  unfold rowAt; blk_ext [iblk, idx t]
theorem V_w : V m c main_v1 = (inp m c).wF := by
  unfold V; after_results; rfl
theorem block1 (t : Fin cfg0.N) (r : Fin 62) (l : Fin 128) : iblk m c 1 t (ix2 r l) = (inp m c).wF (ix2 (rowAt t r) l) := by
  rw [← V_w]
  unfold rowAt; blk_ext [iblk, idx t]
theorem V_mo : V m c main_v2 = (inp m c).moF := by
  unfold V; after_results; rfl
theorem block2 (t : Fin cfg0.N) (r : Fin 62) (l : Fin 128) : iblk m c 2 t (ix2 r l) = (inp m c).moF (ix2 (rowAt t r) l) := by
  rw [← V_mo]
  unfold rowAt; blk_ext [iblk, idx t]
theorem V_v : V m c main_v3 = (inp m c).vF := by
  unfold V; after_results; rfl
theorem block3 (t : Fin cfg0.N) (r : Fin 62) (l : Fin 128) : iblk m c 3 t (ix2 r l) = (inp m c).vF (ix2 (rowAt t r) l) := by
  rw [← V_v]
  unfold rowAt; blk_ext [iblk, idx t]

/-- What a grid point leaves of what is added to the parameter, -/
theorem out0_4_apply (x0 x1 x2 x3 : Vec Ideal S62x128 .f32) (r : Fin 62) (l : Fin 128) : out0_4 x0 x1 x2 x3 (ix2 r l) = Adam.delta (x0 (ix2 r l)) (x1 (ix2 r l)) (x2 (ix2 r l)) (x3 (ix2 r l)) := by
  frame_out
  unfold Adam.delta Adam.newM Adam.newV
  pointwise [k0_pay4, k0_pay2, k0_pay3, k0_pay1]

/-- and the array of it. -/
theorem arr4 : (dats m 0 c).arrAt 4 cfg0.N = (inp m c).delta := by
  refine (dats m 0 c).arrAt_eq_of_covers 4 _ (by decide +kernel) fun t _ y => ?_
  blk_simp [idx t]; rw [after0_4]
  idx_vars y
  rw [out0_4_apply, block0 m c t, block1 m c t, block2 m c t, block3 m c t, ← In.delta_apply]
  unfold rowAt; blk_ext [idx t]

/-- What a grid point leaves of the first moment, -/
theorem out0_5_apply (x0 x1 x2 x3 : Vec Ideal S62x128 .f32) (r : Fin 62) (l : Fin 128) : out0_5 x0 x1 x2 x3 (ix2 r l) = Adam.newM (x0 (ix2 r l)) (x2 (ix2 r l)) := by
  frame_out
  unfold Adam.newM
  pointwise [k0_pay2, k0_pay1]

/-- and the array of it. -/
theorem arr5 : (dats m 0 c).arrAt 5 cfg0.N = (inp m c).newM := by
  refine (dats m 0 c).arrAt_eq_of_covers 5 _ (by decide +kernel) fun t _ y => ?_
  blk_simp [idx t]; rw [after0_5]
  idx_vars y
  rw [out0_5_apply, block0 m c t, block2 m c t, ← In.newM_apply]
  unfold rowAt; blk_ext [idx t]

/-- What a grid point leaves of the second moment, -/
theorem out0_6_apply (x0 x1 x2 x3 : Vec Ideal S62x128 .f32) (r : Fin 62) (l : Fin 128) : out0_6 x0 x1 x2 x3 (ix2 r l) = Adam.newV (x0 (ix2 r l)) (x3 (ix2 r l)) := by
  frame_out
  unfold Adam.newV
  pointwise [k0_pay3, k0_pay1]

/-- and the array of it. -/
theorem arr6 : (dats m 0 c).arrAt 6 cfg0.N = (inp m c).newV := by
  refine (dats m 0 c).arrAt_eq_of_covers 6 _ (by decide +kernel) fun t _ y => ?_
  blk_simp [idx t]; rw [after0_6]
  idx_vars y
  rw [out0_6_apply, block0 m c t, block3 m c t, ← In.newV_apply]
  unfold rowAt; blk_ext [idx t]

end Cert.Adam12
-- ==== Proof.Adam12Claim.lean ====
module

public import proofs.«01_k».proof.Defs
public import proofs.«01_k».proof.Proof.Adam12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Quiescent

/-! # The claims about the optimiser on the convolution's weights -/

@[expose] public section

set_option maxRecDepth 16384

noncomputable section

open Idealize.ShloMosaic Idealize.ShloMosaic.TcCoe Idealize.SL.Sem
open Idealize.ShloMosaic.Pipeline (Dat)

namespace Cert.Adam12
open Cert.Kernel12Ideal Cert.Kernel12Ideal.Gen

theorem frame_kernel : Cert.quiescent_Kernel12 := fun m ρ _ => Cert.Kernel12.Gen.frame m ρ
theorem frame_ideal : Cert.quiescent_Kernel12Ideal := fun m ρ _ => Cert.Kernel12Ideal.Gen.frame (F := Ideal) m ρ
theorem frame_reference : Cert.quiescent_Reference12Ideal := fun m ρ _ =>
  (θ_run Cert.Reference12Ideal.defs _ _).mono (fun r h => ⟨fun c => (h c).2.2.2,
      Idealize.ShloMosaic.sem_eq_zero_of_no_sems (by decide) r.2⟩)
    (Cert.Reference12Ideal.Value.run (F := Ideal) m ρ)

/-- The arrays in the reference's buffers. -/
def ofVal (V : Valuation Cert.Reference12Ideal.τ Cert.Reference12Ideal.sig (Elt Ideal)) : In where
  g := V (Proc.devRef .tc Cert.Reference12Ideal.main_arg0)
  w := V (Proc.devRef .tc Cert.Reference12Ideal.main_arg1)
  mo := V (Proc.devRef .tc Cert.Reference12Ideal.main_arg2)
  v := V (Proc.devRef .tc Cert.Reference12Ideal.main_arg3)

theorem delta_eq (V : Valuation Cert.Reference12Ideal.τ Cert.Reference12Ideal.sig (Elt Ideal)) :
    Cert.Reference12Ideal.Read.val_main_v24 (F := Ideal) (V (Proc.devRef .tc Cert.Reference12Ideal.main_arg0)) (V (Proc.devRef .tc Cert.Reference12Ideal.main_arg1)) (V (Proc.devRef .tc Cert.Reference12Ideal.main_arg2)) (V (Proc.devRef .tc Cert.Reference12Ideal.main_arg3))
      = (ofVal V).delta := rfl

theorem newM_eq (V : Valuation Cert.Reference12Ideal.τ Cert.Reference12Ideal.sig (Elt Ideal)) :
    Cert.Reference12Ideal.Read.val_main_v25 (F := Ideal) (V (Proc.devRef .tc Cert.Reference12Ideal.main_arg0)) (V (Proc.devRef .tc Cert.Reference12Ideal.main_arg2))
      = (ofVal V).newM := rfl

theorem newV_eq (V : Valuation Cert.Reference12Ideal.τ Cert.Reference12Ideal.sig (Elt Ideal)) :
    Cert.Reference12Ideal.Read.val_main_v26 (F := Ideal) (V (Proc.devRef .tc Cert.Reference12Ideal.main_arg0)) (V (Proc.devRef .tc Cert.Reference12Ideal.main_arg3))
      = (ofVal V).newV := rfl

/-- Where the two programs are given the same arrays, the reference's buffers hold the kernel's arrays. -/
theorem inp_eq (m : (ℓ : Loc nD τ sig) → Buf (Elt Ideal) ℓ)
    (m' : (ℓ : Loc Cert.Reference12Ideal.nD Cert.Reference12Ideal.τ Cert.Reference12Ideal.sig) → Buf (Elt Ideal) ℓ) (c : Dev nD)
    (h : m' ((c.tc : Thread Cert.Reference12Ideal.nD Cert.Reference12Ideal.τ).loc Cert.Reference12Ideal.main_arg0) = m ((c.tc : Thread nD τ).loc main_arg0)
      ∧ m' ((c.tc : Thread Cert.Reference12Ideal.nD Cert.Reference12Ideal.τ).loc Cert.Reference12Ideal.main_arg1) = m ((c.tc : Thread nD τ).loc main_arg1)
      ∧ m' ((c.tc : Thread Cert.Reference12Ideal.nD Cert.Reference12Ideal.τ).loc Cert.Reference12Ideal.main_arg2) = m ((c.tc : Thread nD τ).loc main_arg2)
      ∧ m' ((c.tc : Thread Cert.Reference12Ideal.nD Cert.Reference12Ideal.τ).loc Cert.Reference12Ideal.main_arg3) = m ((c.tc : Thread nD τ).loc main_arg3)) :
    ofVal (StableHlo.launchContents m' c) = inp m c := by
  obtain ⟨a0, a1, a2, a3⟩ := h
  unfold ofVal inp; congr 1 <;> assumption

/-- The kernel's three results are the values that the reference computes. -/
theorem algebraic : Cert.algebraic_Kernel12Ideal_Reference12Ideal := by
  intro m ρ m' ρ' _ hagree
  refine ⟨fun c => (inp m c).delta, fun c => (inp m c).newM, fun c => (inp m c).newV, ?_, ?_⟩
  · refine (θ_run Cert.Kernel12Ideal.defs _ _).mono (fun _ h c => ?_) (Cert.Kernel12Ideal.Value.run_blocks (F := Ideal) m ρ)
    obtain ⟨h0, h1, h2, hr⟩ := h c
    rw [arr4] at h0; rw [arr5] at h1; rw [arr6] at h2
    exact ⟨h0, h1, h2, hr⟩
  · refine (θ_run Cert.Reference12Ideal.defs _ _).mono (fun _ h c => ?_) (Cert.Reference12Ideal.Value.run (F := Ideal) m' ρ')
    obtain ⟨h0, h1, h2, hr⟩ := h c
    have hin := inp_eq m m' c (hagree c)
    rw [Cert.Reference12Ideal.Read.val_main_v24_eq] at h0
    rw [Cert.Reference12Ideal.Read.val_main_v25_eq] at h1
    rw [Cert.Reference12Ideal.Read.val_main_v26_eq] at h2
    exact ⟨h0.trans ((delta_eq (StableHlo.launchContents m' c)).trans (congrArg In.delta hin)),
      h1.trans ((newM_eq (StableHlo.launchContents m' c)).trans (congrArg In.newM hin)),
      h2.trans ((newV_eq (StableHlo.launchContents m' c)).trans (congrArg In.newV hin)), hr⟩

end Cert.Adam12
-- ==== Proof.Adam13.lean ====
module

public import proofs.«01_k».proof.Proof.Adam
public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack

/-! # The optimiser on the packed small parameters

Grid point `t` takes 64 rows of the gradient, the parameter and the two moments. -/

@[expose] public section

set_option maxRecDepth 16384

noncomputable section

open Idealize.ShloMosaic Idealize.ShloMosaic.TcCoe Idealize.SL.Sem
open Idealize.ShloMosaic.Pipeline (Dat)

namespace Cert.Adam13
open Cert.Adam Cert.Kernel13Ideal Cert.Kernel13Ideal.Gen

/-- The arrays both programs are given: the gradient, the parameter, and its two moments. -/
structure In where
  g : Vec Ideal S448x512 .f32
  w : Vec Ideal S448x512 .f32
  mo : Vec Ideal S448x512 .f32
  v : Vec Ideal S448x512 .f32

namespace In
variable (I : In)

/-- What the reference computes: what is added to the parameter, -/
def delta : Vec Ideal S448x512 .f32 := Cert.Reference13Ideal.Read.val_main_v23 (F := Ideal) I.g I.w I.mo I.v
/-- the first moment, -/
def newM : Vec Ideal S448x512 .f32 := Cert.Reference13Ideal.Read.val_main_v4 (F := Ideal) I.g I.mo
/-- and the second. -/
def newV : Vec Ideal S448x512 .f32 := Cert.Reference13Ideal.Read.val_main_v10 (F := Ideal) I.g I.v

/-- The gradient, row by row, -/
def gF : Vec Ideal S448x512 .f32 := I.g
/-- the parameter, -/
def wF : Vec Ideal S448x512 .f32 := I.w
/-- the first moment, -/
def moF : Vec Ideal S448x512 .f32 := I.mo
/-- and the second. -/
def vF : Vec Ideal S448x512 .f32 := I.v

theorem newM_apply (i : S448x512.Idx) : I.newM i = Adam.newM (I.gF i) (I.moF i) := rfl
theorem newV_apply (i : S448x512.Idx) : I.newV i = Adam.newV (I.gF i) (I.vF i) := rfl
theorem delta_apply (i : S448x512.Idx) : I.delta i = Adam.delta (I.gF i) (I.wF i) (I.moF i) (I.vF i) := rfl

end In

variable (m : (ℓ : Loc nD τ sig) → Buf (Elt Ideal) ℓ) (c : Dev nD)

/-- The arrays the program is given. -/
def inp : In where
  g := m ((c : Thread nD τ).loc main_arg0)
  w := m ((c : Thread nD τ).loc main_arg1)
  mo := m ((c : Thread nD τ).loc main_arg2)
  v := m ((c : Thread nD τ).loc main_arg3)

/-- Which block of each array a grid point takes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem pt_lt (t : Fin cfg0.N) : t.val < 7 := t.isLt

/-- The row of the arrays that row `r` of a grid point's blocks is. -/
def rowAt (t : Fin cfg0.N) (r : Fin 64) : Fin 448 := ⟨t.val * 64 + r.val, by have := pt_lt t; omega⟩

theorem V_g : V m c main_arg0 = (inp m c).gF := by
  unfold V; rfl
theorem block0 (t : Fin cfg0.N) (r : Fin 64) (l : Fin 512) : iblk m c 0 t (ix2 r l) = (inp m c).gF (ix2 (rowAt t r) l) := by
  rw [← V_g]
  unfold rowAt; blk_ext [iblk, idx t]
theorem V_w : V m c main_arg1 = (inp m c).wF := by
  unfold V; rfl
theorem block1 (t : Fin cfg0.N) (r : Fin 64) (l : Fin 512) : iblk m c 1 t (ix2 r l) = (inp m c).wF (ix2 (rowAt t r) l) := by
  rw [← V_w]
  unfold rowAt; blk_ext [iblk, idx t]
theorem V_mo : V m c main_arg2 = (inp m c).moF := by
  unfold V; rfl
theorem block2 (t : Fin cfg0.N) (r : Fin 64) (l : Fin 512) : iblk m c 2 t (ix2 r l) = (inp m c).moF (ix2 (rowAt t r) l) := by
  rw [← V_mo]
  unfold rowAt; blk_ext [iblk, idx t]
theorem V_v : V m c main_arg3 = (inp m c).vF := by
  unfold V; rfl
theorem block3 (t : Fin cfg0.N) (r : Fin 64) (l : Fin 512) : iblk m c 3 t (ix2 r l) = (inp m c).vF (ix2 (rowAt t r) l) := by
  rw [← V_v]
  unfold rowAt; blk_ext [iblk, idx t]

/-- What a grid point leaves of what is added to the parameter, -/
theorem out0_4_apply (x0 x1 x2 x3 : Vec Ideal S64x512 .f32) (r : Fin 64) (l : Fin 512) : out0_4 x0 x1 x2 x3 (ix2 r l) = Adam.delta (x0 (ix2 r l)) (x1 (ix2 r l)) (x2 (ix2 r l)) (x3 (ix2 r l)) := by
  frame_out
  unfold Adam.delta Adam.newM Adam.newV
  pointwise [k0_pay3, k0_pay1, k0_pay2]

/-- and the array of it. -/
theorem arr4 : (dats m 0 c).arrAt 4 cfg0.N = (inp m c).delta := by
  refine (dats m 0 c).arrAt_eq_of_covers 4 _ (by decide +kernel) fun t _ y => ?_
  blk_simp [idx t]; rw [after0_4]
  idx_vars y
  rw [out0_4_apply, block0 m c t, block1 m c t, block2 m c t, block3 m c t, ← In.delta_apply]
  unfold rowAt; blk_ext [idx t]

/-- What a grid point leaves of the first moment, -/
theorem out0_5_apply (x0 x1 x2 x3 : Vec Ideal S64x512 .f32) (r : Fin 64) (l : Fin 512) : out0_5 x0 x1 x2 x3 (ix2 r l) = Adam.newM (x0 (ix2 r l)) (x2 (ix2 r l)) := by
  frame_out
  unfold Adam.newM
  pointwise [k0_pay1]

/-- and the array of it. -/
theorem arr5 : (dats m 0 c).arrAt 5 cfg0.N = (inp m c).newM := by
  refine (dats m 0 c).arrAt_eq_of_covers 5 _ (by decide +kernel) fun t _ y => ?_
  blk_simp [idx t]; rw [after0_5]
  idx_vars y
  rw [out0_5_apply, block0 m c t, block2 m c t, ← In.newM_apply]
  unfold rowAt; blk_ext [idx t]

/-- What a grid point leaves of the second moment, -/
theorem out0_6_apply (x0 x1 x2 x3 : Vec Ideal S64x512 .f32) (r : Fin 64) (l : Fin 512) : out0_6 x0 x1 x2 x3 (ix2 r l) = Adam.newV (x0 (ix2 r l)) (x3 (ix2 r l)) := by
  frame_out
  unfold Adam.newV
  pointwise [k0_pay2]

/-- and the array of it. -/
theorem arr6 : (dats m 0 c).arrAt 6 cfg0.N = (inp m c).newV := by
  refine (dats m 0 c).arrAt_eq_of_covers 6 _ (by decide +kernel) fun t _ y => ?_
  blk_simp [idx t]; rw [after0_6]
  idx_vars y
  rw [out0_6_apply, block0 m c t, block3 m c t, ← In.newV_apply]
  unfold rowAt; blk_ext [idx t]

end Cert.Adam13
-- ==== Proof.Adam13Claim.lean ====
module

public import proofs.«01_k».proof.Defs
public import proofs.«01_k».proof.Proof.Adam13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Quiescent

/-! # The claims about the optimiser on the packed small parameters -/

@[expose] public section

set_option maxRecDepth 16384

noncomputable section

open Idealize.ShloMosaic Idealize.ShloMosaic.TcCoe Idealize.SL.Sem
open Idealize.ShloMosaic.Pipeline (Dat)

namespace Cert.Adam13
open Cert.Kernel13Ideal Cert.Kernel13Ideal.Gen

theorem frame_kernel : Cert.quiescent_Kernel13 := fun m ρ _ => Cert.Kernel13.Gen.frame m ρ
theorem frame_ideal : Cert.quiescent_Kernel13Ideal := fun m ρ _ => Cert.Kernel13Ideal.Gen.frame (F := Ideal) m ρ
theorem frame_reference : Cert.quiescent_Reference13Ideal := fun m ρ _ =>
  (θ_run Cert.Reference13Ideal.defs _ _).mono (fun r h => ⟨fun c => (h c).2.2.2,
      Idealize.ShloMosaic.sem_eq_zero_of_no_sems (by decide) r.2⟩)
    (Cert.Reference13Ideal.Value.run (F := Ideal) m ρ)

/-- The arrays in the reference's buffers. -/
def ofVal (V : Valuation Cert.Reference13Ideal.τ Cert.Reference13Ideal.sig (Elt Ideal)) : In where
  g := V (Proc.devRef .tc Cert.Reference13Ideal.main_arg0)
  w := V (Proc.devRef .tc Cert.Reference13Ideal.main_arg1)
  mo := V (Proc.devRef .tc Cert.Reference13Ideal.main_arg2)
  v := V (Proc.devRef .tc Cert.Reference13Ideal.main_arg3)

theorem delta_eq (V : Valuation Cert.Reference13Ideal.τ Cert.Reference13Ideal.sig (Elt Ideal)) :
    Cert.Reference13Ideal.Read.val_main_v23 (F := Ideal) (V (Proc.devRef .tc Cert.Reference13Ideal.main_arg0)) (V (Proc.devRef .tc Cert.Reference13Ideal.main_arg1)) (V (Proc.devRef .tc Cert.Reference13Ideal.main_arg2)) (V (Proc.devRef .tc Cert.Reference13Ideal.main_arg3))
      = (ofVal V).delta := rfl

theorem newM_eq (V : Valuation Cert.Reference13Ideal.τ Cert.Reference13Ideal.sig (Elt Ideal)) :
    Cert.Reference13Ideal.Read.val_main_v4 (F := Ideal) (V (Proc.devRef .tc Cert.Reference13Ideal.main_arg0)) (V (Proc.devRef .tc Cert.Reference13Ideal.main_arg2))
      = (ofVal V).newM := rfl

theorem newV_eq (V : Valuation Cert.Reference13Ideal.τ Cert.Reference13Ideal.sig (Elt Ideal)) :
    Cert.Reference13Ideal.Read.val_main_v10 (F := Ideal) (V (Proc.devRef .tc Cert.Reference13Ideal.main_arg0)) (V (Proc.devRef .tc Cert.Reference13Ideal.main_arg3))
      = (ofVal V).newV := rfl

/-- Where the two programs are given the same arrays, the reference's buffers hold the kernel's arrays. -/
theorem inp_eq (m : (ℓ : Loc nD τ sig) → Buf (Elt Ideal) ℓ)
    (m' : (ℓ : Loc Cert.Reference13Ideal.nD Cert.Reference13Ideal.τ Cert.Reference13Ideal.sig) → Buf (Elt Ideal) ℓ) (c : Dev nD)
    (h : m' ((c.tc : Thread Cert.Reference13Ideal.nD Cert.Reference13Ideal.τ).loc Cert.Reference13Ideal.main_arg0) = m ((c.tc : Thread nD τ).loc main_arg0)
      ∧ m' ((c.tc : Thread Cert.Reference13Ideal.nD Cert.Reference13Ideal.τ).loc Cert.Reference13Ideal.main_arg1) = m ((c.tc : Thread nD τ).loc main_arg1)
      ∧ m' ((c.tc : Thread Cert.Reference13Ideal.nD Cert.Reference13Ideal.τ).loc Cert.Reference13Ideal.main_arg2) = m ((c.tc : Thread nD τ).loc main_arg2)
      ∧ m' ((c.tc : Thread Cert.Reference13Ideal.nD Cert.Reference13Ideal.τ).loc Cert.Reference13Ideal.main_arg3) = m ((c.tc : Thread nD τ).loc main_arg3)) :
    ofVal (StableHlo.launchContents m' c) = inp m c := by
  obtain ⟨a0, a1, a2, a3⟩ := h
  unfold ofVal inp; congr 1 <;> assumption

/-- The kernel's three results are the values that the reference computes. -/
theorem algebraic : Cert.algebraic_Kernel13Ideal_Reference13Ideal := by
  intro m ρ m' ρ' _ hagree
  refine ⟨fun c => (inp m c).delta, fun c => (inp m c).newM, fun c => (inp m c).newV, ?_, ?_⟩
  · refine (θ_run Cert.Kernel13Ideal.defs _ _).mono (fun _ h c => ?_) (Cert.Kernel13Ideal.Value.run_blocks (F := Ideal) m ρ)
    obtain ⟨h0, h1, h2, hr⟩ := h c
    rw [arr4] at h0; rw [arr5] at h1; rw [arr6] at h2
    exact ⟨h0, h1, h2, hr⟩
  · refine (θ_run Cert.Reference13Ideal.defs _ _).mono (fun _ h c => ?_) (Cert.Reference13Ideal.Value.run (F := Ideal) m' ρ')
    obtain ⟨h0, h1, h2, hr⟩ := h c
    have hin := inp_eq m m' c (hagree c)
    rw [Cert.Reference13Ideal.Read.val_main_v23_eq] at h0
    rw [Cert.Reference13Ideal.Read.val_main_v4_eq] at h1
    rw [Cert.Reference13Ideal.Read.val_main_v10_eq] at h2
    exact ⟨h0.trans ((delta_eq (StableHlo.launchContents m' c)).trans (congrArg In.delta hin)),
      h1.trans ((newM_eq (StableHlo.launchContents m' c)).trans (congrArg In.newM hin)),
      h2.trans ((newV_eq (StableHlo.launchContents m' c)).trans (congrArg In.newV hin)), hr⟩

end Cert.Adam13
-- ==== Proof.PreNorm.lean ====
module

public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack

/-! # The norm before the first layer

Grid point `t` norms 512 tokens and stores them as they are and transposed. -/

@[expose] public section

set_option maxRecDepth 16384

noncomputable section

open Idealize.ShloMosaic Idealize.ShloMosaic.TcCoe Idealize.SL.Sem
open Idealize.ShloMosaic.Pipeline (Dat)

namespace Cert.PreNorm
open Cert.Kernel14Ideal Cert.Kernel14Ideal.Gen

/-- The arrays both programs are given: the tokens and the gain. -/
structure In where
  x : Vec Ideal S8192x1024 .f32
  g : Vec Ideal S1024 .f32

/-- A row divided by the root of the mean of its squares. -/
def normed (x : Fin 1024 → EReal) (l : Fin 1024) : EReal :=
  x l * Ideal.rsqrt (Ideal.div (∑ k, x k * x k) (Ideal.ofBits .f32 0x44800000#32) + Ideal.ofBits .f32 0x358637BD#32)

namespace In
variable (I : In)

/-- What the reference computes: the normed tokens, -/
def h : Vec Ideal S8192x1024 .bf16 := Cert.Reference14Ideal.Read.val_main_v13 (F := Ideal) I.x I.g
/-- and their transpose. -/
def hT : Vec Ideal S1024x8192 .bf16 := Cert.Reference14Ideal.Read.val_main_v14 (F := Ideal) I.x I.g

theorem h_apply (n : Fin 8192) (l : Fin 1024) : I.h (ix2 n l) = normed (fun k => I.x (ix2 n k)) l * I.g (ix1 l) := by
  unfold h normed
  obtain ⟨x, g⟩ := I
  pointwise [Cert.Reference14Ideal.Read.val_main_v13, Cert.Reference14Ideal.Read.val_main_v12, Cert.Reference14Ideal.Read.val_main_v11, Cert.Reference14Ideal.Read.val_main_v10, Cert.Reference14Ideal.Read.val_main_v9, Cert.Reference14Ideal.Read.val_main_v8, Cert.Reference14Ideal.Read.val_main_v7, Cert.Reference14Ideal.Read.val_main_v6, Cert.Reference14Ideal.Read.val_main_v5, Cert.Reference14Ideal.Read.val_main_v4, Cert.Reference14Ideal.Read.val_main_v3, Cert.Reference14Ideal.Read.val_main_v2, Cert.Reference14Ideal.Read.val_main_v1, Cert.Reference14Ideal.Read.val_main_v0, Cert.Reference14Ideal.Read.val_main_cst, Cert.Reference14Ideal.Read.val_main_cst_0, Cert.Reference14Ideal.Read.val_main_cst_1]
theorem hT_apply (l : Fin 1024) (n : Fin 8192) : I.hT (ix2 l n) = I.h (ix2 n l) := by
  unfold hT h
  pointwise [Cert.Reference14Ideal.Read.val_main_v14]

end In

variable (m : (ℓ : Loc nD τ sig) → Buf (Elt Ideal) ℓ) (c : Dev nD)

/-- The arrays the program is given. -/
def inp : In where
  x := m ((c : Thread nD τ).loc main_arg0)
  g := m ((c : Thread nD τ).loc main_arg1)

/-- Which block of each array a grid point takes. -/
theorem idx : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

theorem pt_lt (t : Fin cfg0.N) : t.val < 16 := t.isLt

/-- The token that row `r` of a grid point's blocks is. -/
def rowAt (t : Fin cfg0.N) (r : Fin 512) : Fin 8192 := ⟨t.val * 512 + r.val, by have := pt_lt t; omega⟩

theorem V_g (l : Fin 1024) : V m c main_v0 (ix2 0 l) = (inp m c).g (ix1 l) := by
  unfold V; after_results; pointwise; rfl

theorem block0 (t : Fin cfg0.N) (r : Fin 512) (l : Fin 1024) : iblk m c 0 t (ix2 r l) = (inp m c).x (ix2 (rowAt t r) l) := by
  unfold rowAt inp; blk_ext [iblk, V, idx t]
theorem block1 (t : Fin cfg0.N) (l : Fin 1024) : iblk m c 1 t (ix2 0 l) = (inp m c).g (ix1 l) := by
  rw [← V_g]
  blk_ext [iblk, idx t]

/-- What a grid point leaves of the normed tokens, -/
theorem out0_2_apply (x0 : Vec Ideal S512x1024 .f32) (x1 : Vec Ideal S1x1024 .f32) (r : Fin 512) (l : Fin 1024) :
    out0_2 x0 x1 (ix2 r l) = normed (fun k => x0 (ix2 r k)) l * x1 (ix2 0 l) := by
  frame_out
  unfold normed
  pointwise [k0_pay2, k0_pay1]

/-- and of their transpose. -/
theorem out0_3_apply (x0 : Vec Ideal S512x1024 .f32) (x1 : Vec Ideal S1x1024 .f32) (l : Fin 1024) (r : Fin 512) :
    out0_3 x0 x1 (ix2 l r) = normed (fun k => x0 (ix2 r k)) l * x1 (ix2 0 l) := by
  frame_out
  unfold normed
  pointwise [k0_pay3, k0_pay1]

/-- The array of the normed tokens is the reference's, -/
theorem arr2 : (dats m 0 c).arrAt 2 cfg0.N = (inp m c).h := by
  refine (dats m 0 c).arrAt_eq_of_covers 2 _ (by decide +kernel) fun t _ y => ?_
  blk_simp [idx t]; rw [after0_2]
  idx_vars y
  rw [out0_2_apply, block1 m c t]
  simp only [block0 m c t]
  rw [← In.h_apply]
  unfold rowAt; blk_ext [idx t]

/-- and so is that of their transpose. -/
theorem arr3 : (dats m 0 c).arrAt 3 cfg0.N = (inp m c).hT := by
  refine (dats m 0 c).arrAt_eq_of_covers 3 _ (by decide +kernel) fun t _ y => ?_
  blk_simp [idx t]; rw [after0_3]
  idx_vars y
  rw [out0_3_apply, block1 m c t]
  simp only [block0 m c t]
  rw [← In.h_apply, ← In.hT_apply]
  unfold rowAt; blk_ext [idx t]

end Cert.PreNorm
-- ==== Proof.PreNormClaim.lean ====
module

public import proofs.«01_k».proof.Defs
public import proofs.«01_k».proof.Proof.PreNorm
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Quiescent

/-! # The claims about the norm before the first layer -/

@[expose] public section

set_option maxRecDepth 16384

noncomputable section

open Idealize.ShloMosaic Idealize.ShloMosaic.TcCoe Idealize.SL.Sem
open Idealize.ShloMosaic.Pipeline (Dat)

namespace Cert.PreNorm
open Cert.Kernel14Ideal Cert.Kernel14Ideal.Gen

theorem frame_kernel : Cert.quiescent_Kernel14 := fun m ρ _ => Cert.Kernel14.Gen.frame m ρ
theorem frame_ideal : Cert.quiescent_Kernel14Ideal := fun m ρ _ => Cert.Kernel14Ideal.Gen.frame (F := Ideal) m ρ
theorem frame_reference : Cert.quiescent_Reference14Ideal := fun m ρ _ =>
  (θ_run Cert.Reference14Ideal.defs _ _).mono (fun r h => ⟨fun c => (h c).2.2,
      Idealize.ShloMosaic.sem_eq_zero_of_no_sems (by decide) r.2⟩)
    (Cert.Reference14Ideal.Value.run (F := Ideal) m ρ)

/-- The arrays in the reference's buffers. -/
def ofVal (V : Valuation Cert.Reference14Ideal.τ Cert.Reference14Ideal.sig (Elt Ideal)) : In where
  x := V (Proc.devRef .tc Cert.Reference14Ideal.main_arg0)
  g := V (Proc.devRef .tc Cert.Reference14Ideal.main_arg1)

theorem h_eq (V : Valuation Cert.Reference14Ideal.τ Cert.Reference14Ideal.sig (Elt Ideal)) :
    Cert.Reference14Ideal.Read.val_main_v13 (F := Ideal) (V (Proc.devRef .tc Cert.Reference14Ideal.main_arg0)) (V (Proc.devRef .tc Cert.Reference14Ideal.main_arg1))
      = (ofVal V).h := rfl

theorem hT_eq (V : Valuation Cert.Reference14Ideal.τ Cert.Reference14Ideal.sig (Elt Ideal)) :
    Cert.Reference14Ideal.Read.val_main_v14 (F := Ideal) (V (Proc.devRef .tc Cert.Reference14Ideal.main_arg0)) (V (Proc.devRef .tc Cert.Reference14Ideal.main_arg1))
      = (ofVal V).hT := rfl

/-- Where the two programs are given the same arrays, the reference's buffers hold the kernel's arrays. -/
theorem inp_eq (m : (ℓ : Loc nD τ sig) → Buf (Elt Ideal) ℓ)
    (m' : (ℓ : Loc Cert.Reference14Ideal.nD Cert.Reference14Ideal.τ Cert.Reference14Ideal.sig) → Buf (Elt Ideal) ℓ) (c : Dev nD)
    (h : m' ((c.tc : Thread Cert.Reference14Ideal.nD Cert.Reference14Ideal.τ).loc Cert.Reference14Ideal.main_arg0) = m ((c.tc : Thread nD τ).loc main_arg0)
      ∧ m' ((c.tc : Thread Cert.Reference14Ideal.nD Cert.Reference14Ideal.τ).loc Cert.Reference14Ideal.main_arg1) = m ((c.tc : Thread nD τ).loc main_arg1)) :
    ofVal (StableHlo.launchContents m' c) = inp m c := by
  obtain ⟨a0, a1⟩ := h
  unfold ofVal inp; congr 1 <;> assumption

/-- The kernel's results are the values that the reference computes. -/
theorem algebraic : Cert.algebraic_Kernel14Ideal_Reference14Ideal := by
  intro m ρ m' ρ' _ hagree
  refine ⟨fun c => (inp m c).h, fun c => (inp m c).hT, ?_, ?_⟩
  · refine (θ_run Cert.Kernel14Ideal.defs _ _).mono (fun _ h c => ?_) (Cert.Kernel14Ideal.Value.run_blocks (F := Ideal) m ρ)
    obtain ⟨h0, h1, hr⟩ := h c
    rw [arr2] at h0; rw [arr3] at h1
    exact ⟨h0, h1, hr⟩
  · refine (θ_run Cert.Reference14Ideal.defs _ _).mono (fun _ h c => ?_) (Cert.Reference14Ideal.Value.run (F := Ideal) m' ρ')
    obtain ⟨h0, h1, hr⟩ := h c
    have hin := inp_eq m m' c (hagree c)
    rw [Cert.Reference14Ideal.Read.val_main_v13_eq] at h0
    rw [Cert.Reference14Ideal.Read.val_main_v14_eq] at h1
    exact ⟨h0.trans ((h_eq (StableHlo.launchContents m' c)).trans (congrArg In.h hin)),
      h1.trans ((hT_eq (StableHlo.launchContents m' c)).trans (congrArg In.hT hin)), hr⟩

end Cert.PreNorm
-- ==== Proof.Sum15.lean ====
module

public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack

/-! # The sum of the small gradients of a layer over the devices

Grid point `t` adds up 32 rows of the eight devices' arrays. -/

@[expose] public section

set_option maxRecDepth 16384

noncomputable section

open Idealize.ShloMosaic Idealize.ShloMosaic.TcCoe Idealize.SL.Sem
open Idealize.ShloMosaic.Pipeline (Dat)

namespace Cert.Sum15
open Cert.Kernel15Ideal Cert.Kernel15Ideal.Gen

/-- What both programs are given: the devices' arrays, gathered. -/
structure In where
  p : Vec Ideal S8x224x512 .f32

/-- What the reference computes. -/
def In.sum (I : In) : Vec Ideal S224x512 .f32 := Cert.Reference15Ideal.Read.val_main_v0 (F := Ideal) I.p

theorem In.sum_apply (I : In) (n : Fin 224) (l : Fin 512) : I.sum (ix2 n l) = ∑ s, I.p (ix3 s n l) := by
  unfold In.sum
  obtain ⟨p⟩ := I
  pointwise [Cert.Reference15Ideal.Read.val_main_v0, Cert.Reference15Ideal.Read.val_main_cst]

variable (m : (ℓ : Loc nD τ sig) → Buf (Elt Ideal) ℓ) (c : Dev nD)

/-- The array the program is given. -/
def inp : In where
  p := m ((c : Thread nD τ).loc main_arg0)

/-- Which block of each array a grid point takes. -/
theorem idx : ∀ t : Fin cfg0.N, win0_0.index t = ![0, t.val, 0] ∧ win0_1.index t = ![t.val, 0] :=
  (by decide +kernel : ∀ t : Fin grid0.N, _)

theorem pt_lt (t : Fin cfg0.N) : t.val < 7 := t.isLt

/-- The row of the arrays that row `r` of a grid point's blocks is. -/
def rowAt (t : Fin cfg0.N) (r : Fin 32) : Fin 224 := ⟨t.val * 32 + r.val, by have := pt_lt t; omega⟩

theorem block0 (t : Fin cfg0.N) (s : Fin 8) (r : Fin 32) (l : Fin 512) : iblk m c 0 t (ix3 s r l) = (inp m c).p (ix3 s (rowAt t r) l) := by
  unfold rowAt inp; blk_ext [iblk, V, idx t]

/-- What a grid point leaves, -/
theorem out0_1_apply (x0 : Vec Ideal S8x32x512 .f32) (r : Fin 32) (l : Fin 512) : out0_1 x0 (ix2 r l) = ∑ s, x0 (ix3 s r l) := by
  rw [Fin.sum_univ_eight]
  frame_out
  pointwise [k0_pay1]

/-- and the array of it. -/
theorem arr1 : (dats m 0 c).arrAt 1 cfg0.N = (inp m c).sum := by
  refine (dats m 0 c).arrAt_eq_of_covers 1 _ (by decide +kernel) fun t _ y => ?_
  blk_simp [idx t]; rw [after0_1]
  idx_vars y
  rw [out0_1_apply]
  simp only [block0 m c t]
  rw [← In.sum_apply]
  unfold rowAt; blk_ext [idx t]

end Cert.Sum15
-- ==== Proof.Sum15Claim.lean ====
module

public import proofs.«01_k».proof.Defs
public import proofs.«01_k».proof.Proof.Sum15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Quiescent

/-! # The claims about the sum of the small gradients of a layer over the devices -/

@[expose] public section

set_option maxRecDepth 16384

noncomputable section

open Idealize.ShloMosaic Idealize.ShloMosaic.TcCoe Idealize.SL.Sem
open Idealize.ShloMosaic.Pipeline (Dat)

namespace Cert.Sum15
open Cert.Kernel15Ideal Cert.Kernel15Ideal.Gen

theorem frame_kernel : Cert.quiescent_Kernel15 := fun m ρ _ => Cert.Kernel15.Gen.frame m ρ
theorem frame_ideal : Cert.quiescent_Kernel15Ideal := fun m ρ _ => Cert.Kernel15Ideal.Gen.frame (F := Ideal) m ρ
theorem frame_reference : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

/-- The arrays in the reference's buffers. -/
def ofVal (V : Valuation Cert.Reference15Ideal.τ Cert.Reference15Ideal.sig (Elt Ideal)) : In where
  p := V (Proc.devRef .tc Cert.Reference15Ideal.main_arg0)

theorem sum_eq (V : Valuation Cert.Reference15Ideal.τ Cert.Reference15Ideal.sig (Elt Ideal)) :
    Cert.Reference15Ideal.Read.val_main_v0 (F := Ideal) (V (Proc.devRef .tc Cert.Reference15Ideal.main_arg0))
      = (ofVal V).sum := rfl

/-- Where the two programs are given the same arrays, the reference's buffers hold the kernel's arrays. -/
theorem inp_eq (m : (ℓ : Loc nD τ sig) → Buf (Elt Ideal) ℓ)
    (m' : (ℓ : Loc Cert.Reference15Ideal.nD Cert.Reference15Ideal.τ Cert.Reference15Ideal.sig) → Buf (Elt Ideal) ℓ) (c : Dev nD)
    (h : m' ((c.tc : Thread Cert.Reference15Ideal.nD Cert.Reference15Ideal.τ).loc Cert.Reference15Ideal.main_arg0) = m ((c.tc : Thread nD τ).loc main_arg0)) :
    ofVal (StableHlo.launchContents m' c) = inp m c := by
  have a0 := h
  unfold ofVal inp; congr 1 <;> assumption

/-- The kernel's result is the value that the reference computes. -/
theorem algebraic : Cert.algebraic_Kernel15Ideal_Reference15Ideal := by
  intro m ρ m' ρ' _ hagree
  refine ⟨fun c => (inp m c).sum, ?_, ?_⟩
  · refine (θ_run Cert.Kernel15Ideal.defs _ _).mono (fun _ h c => ?_) (Cert.Kernel15Ideal.Value.run_blocks (F := Ideal) m ρ)
    obtain ⟨h0, hr⟩ := h c
    rw [arr1] at h0
    exact ⟨h0, hr⟩
  · refine (θ_run Cert.Reference15Ideal.defs _ _).mono (fun _ h c => ?_) (Cert.Reference15Ideal.Value.run (F := Ideal) m' ρ')
    obtain ⟨h0, hr⟩ := h c
    have hin := inp_eq m m' c (hagree c)
    rw [Cert.Reference15Ideal.Read.val_main_v0_eq] at h0
    exact ⟨h0.trans ((sum_eq (StableHlo.launchContents m' c)).trans (congrArg In.sum hin)), hr⟩

end Cert.Sum15
-- ==== Proof.Sum16.lean ====
module

public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack

/-! # The sum of the gradients of the gains over the devices

Grid point `t` adds up 16 rows of the eight devices' arrays. -/

@[expose] public section

set_option maxRecDepth 16384

noncomputable section

open Idealize.ShloMosaic Idealize.ShloMosaic.TcCoe Idealize.SL.Sem
open Idealize.ShloMosaic.Pipeline (Dat)

namespace Cert.Sum16
open Cert.Kernel16Ideal Cert.Kernel16Ideal.Gen

/-- What both programs are given: the devices' arrays, gathered. -/
structure In where
  p : Vec Ideal S8x16x1024 .f32

/-- What the reference computes. -/
def In.sum (I : In) : Vec Ideal S16x1024 .f32 := Cert.Reference16Ideal.Read.val_main_v0 (F := Ideal) I.p

theorem In.sum_apply (I : In) (n : Fin 16) (l : Fin 1024) : I.sum (ix2 n l) = ∑ s, I.p (ix3 s n l) := by
  unfold In.sum
  obtain ⟨p⟩ := I
  pointwise [Cert.Reference16Ideal.Read.val_main_v0, Cert.Reference16Ideal.Read.val_main_cst]

variable (m : (ℓ : Loc nD τ sig) → Buf (Elt Ideal) ℓ) (c : Dev nD)

/-- The array the program is given. -/
def inp : In where
  p := m ((c : Thread nD τ).loc main_arg0)

/-- Which block of each array a grid point takes. -/
theorem idx : ∀ t : Fin cfg0.N, win0_0.index t = ![0, t.val, 0] ∧ win0_1.index t = ![t.val, 0] :=
  (by decide +kernel : ∀ t : Fin grid0.N, _)

theorem pt_lt (t : Fin cfg0.N) : t.val < 1 := t.isLt

/-- The row of the arrays that row `r` of a grid point's blocks is. -/
def rowAt (t : Fin cfg0.N) (r : Fin 16) : Fin 16 := ⟨t.val * 16 + r.val, by have := pt_lt t; omega⟩

theorem block0 (t : Fin cfg0.N) (s : Fin 8) (r : Fin 16) (l : Fin 1024) : iblk m c 0 t (ix3 s r l) = (inp m c).p (ix3 s (rowAt t r) l) := by
  unfold rowAt inp; blk_ext [iblk, V, idx t]

/-- What a grid point leaves, -/
theorem out0_1_apply (x0 : Vec Ideal S8x16x1024 .f32) (r : Fin 16) (l : Fin 1024) : out0_1 x0 (ix2 r l) = ∑ s, x0 (ix3 s r l) := by
  rw [Fin.sum_univ_eight]
  frame_out
  pointwise [k0_pay1]

/-- and the array of it. -/
theorem arr1 : (dats m 0 c).arrAt 1 cfg0.N = (inp m c).sum := by
  refine (dats m 0 c).arrAt_eq_of_covers 1 _ (by decide +kernel) fun t _ y => ?_
  blk_simp [idx t]; rw [after0_1]
  idx_vars y
  rw [out0_1_apply]
  simp only [block0 m c t]
  rw [← In.sum_apply]
  unfold rowAt; blk_ext [idx t]

end Cert.Sum16
-- ==== Proof.Sum16Claim.lean ====
module

public import proofs.«01_k».proof.Defs
public import proofs.«01_k».proof.Proof.Sum16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import Idealize.ShloMosaic.Lib.Quiescent

/-! # The claims about the sum of the gradients of the gains over the devices -/

@[expose] public section

set_option maxRecDepth 16384

noncomputable section

open Idealize.ShloMosaic Idealize.ShloMosaic.TcCoe Idealize.SL.Sem
open Idealize.ShloMosaic.Pipeline (Dat)

namespace Cert.Sum16
open Cert.Kernel16Ideal Cert.Kernel16Ideal.Gen

theorem frame_kernel : Cert.quiescent_Kernel16 := fun m ρ _ => Cert.Kernel16.Gen.frame m ρ
theorem frame_ideal : Cert.quiescent_Kernel16Ideal := fun m ρ _ => Cert.Kernel16Ideal.Gen.frame (F := Ideal) m ρ
theorem frame_reference : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

/-- The arrays in the reference's buffers. -/
def ofVal (V : Valuation Cert.Reference16Ideal.τ Cert.Reference16Ideal.sig (Elt Ideal)) : In where
  p := V (Proc.devRef .tc Cert.Reference16Ideal.main_arg0)

theorem sum_eq (V : Valuation Cert.Reference16Ideal.τ Cert.Reference16Ideal.sig (Elt Ideal)) :
    Cert.Reference16Ideal.Read.val_main_v0 (F := Ideal) (V (Proc.devRef .tc Cert.Reference16Ideal.main_arg0))
      = (ofVal V).sum := rfl

/-- Where the two programs are given the same arrays, the reference's buffers hold the kernel's arrays. -/
theorem inp_eq (m : (ℓ : Loc nD τ sig) → Buf (Elt Ideal) ℓ)
    (m' : (ℓ : Loc Cert.Reference16Ideal.nD Cert.Reference16Ideal.τ Cert.Reference16Ideal.sig) → Buf (Elt Ideal) ℓ) (c : Dev nD)
    (h : m' ((c.tc : Thread Cert.Reference16Ideal.nD Cert.Reference16Ideal.τ).loc Cert.Reference16Ideal.main_arg0) = m ((c.tc : Thread nD τ).loc main_arg0)) :
    ofVal (StableHlo.launchContents m' c) = inp m c := by
  have a0 := h
  unfold ofVal inp; congr 1 <;> assumption

/-- The kernel's result is the value that the reference computes. -/
theorem algebraic : Cert.algebraic_Kernel16Ideal_Reference16Ideal := by
  intro m ρ m' ρ' _ hagree
  refine ⟨fun c => (inp m c).sum, ?_, ?_⟩
  · refine (θ_run Cert.Kernel16Ideal.defs _ _).mono (fun _ h c => ?_) (Cert.Kernel16Ideal.Value.run_blocks (F := Ideal) m ρ)
    obtain ⟨h0, hr⟩ := h c
    rw [arr1] at h0
    exact ⟨h0, hr⟩
  · refine (θ_run Cert.Reference16Ideal.defs _ _).mono (fun _ h c => ?_) (Cert.Reference16Ideal.Value.run (F := Ideal) m' ρ')
    obtain ⟨h0, hr⟩ := h c
    have hin := inp_eq m m' c (hagree c)
    rw [Cert.Reference16Ideal.Read.val_main_v0_eq] at h0
    exact ⟨h0.trans ((sum_eq (StableHlo.launchContents m' c)).trans (congrArg In.sum hin)), hr⟩

end Cert.Sum16
-- ==== Proof.lean ====
/- The claims about the calls of the training step, each proved in a module of its own. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame.Runs
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame.Runs
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.On_gates_written
public import proofs.«01_k».proof.Proof.TailClaim
public import proofs.«01_k».proof.Proof.InDxClaim
public import proofs.«01_k».proof.Proof.InGradClaim
public import proofs.«01_k».proof.Proof.InProjClaim
public import proofs.«01_k».proof.Proof.TailFwdClaim
public import proofs.«01_k».proof.Proof.TailNextClaim
public import proofs.«01_k».proof.Proof.PoolFwdClaim
public import proofs.«01_k».proof.Proof.ConvFwdClaim
public import proofs.«01_k».proof.Proof.Adam9Claim
public import proofs.«01_k».proof.Proof.Adam10Claim
public import proofs.«01_k».proof.Proof.Adam11Claim
public import proofs.«01_k».proof.Proof.Adam12Claim
public import proofs.«01_k».proof.Proof.Adam13Claim
public import proofs.«01_k».proof.Proof.PreNormClaim
public import proofs.«01_k».proof.Proof.Sum15Claim
public import proofs.«01_k».proof.Proof.Sum16Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.On_gates_written.Gen.facts,
  Cert.Tail.frame_kernel, Cert.Tail.frame_ideal, Cert.Tail.frame_reference,
  Cert.InDx.frame_kernel, Cert.InDx.frame_ideal, Cert.InDx.frame_reference,
  Cert.InGrad.frame_kernel, Cert.InGrad.frame_ideal, Cert.InGrad.frame_reference,
  Cert.InProj.frame_kernel, Cert.InProj.frame_ideal, Cert.InProj.frame_reference,
  Cert.TailFwd.frame_kernel, Cert.TailFwd.frame_ideal, Cert.TailFwd.frame_reference,
  Cert.TailNext.frame_kernel, Cert.TailNext.frame_ideal, Cert.TailNext.frame_reference,
  Cert.PoolFwd.frame_kernel, Cert.PoolFwd.frame_ideal, Cert.PoolFwd.frame_reference,
  Cert.ConvFwd.frame_kernel, Cert.ConvFwd.frame_ideal, Cert.ConvFwd.frame_reference,
  Cert.Adam9.frame_kernel, Cert.Adam9.frame_ideal, Cert.Adam9.frame_reference,
  Cert.Adam10.frame_kernel, Cert.Adam10.frame_ideal, Cert.Adam10.frame_reference,
  Cert.Adam11.frame_kernel, Cert.Adam11.frame_ideal, Cert.Adam11.frame_reference,
  Cert.Adam12.frame_kernel, Cert.Adam12.frame_ideal, Cert.Adam12.frame_reference,
  Cert.Adam13.frame_kernel, Cert.Adam13.frame_ideal, Cert.Adam13.frame_reference,
  Cert.PreNorm.frame_kernel, Cert.PreNorm.frame_ideal, Cert.PreNorm.frame_reference,
  Cert.Sum15.frame_kernel, Cert.Sum15.frame_ideal, Cert.Sum15.frame_reference,
  Cert.Sum16.frame_kernel, Cert.Sum16.frame_ideal, Cert.Sum16.frame_reference,
  trivial, Cert.Tail.algebraic,
  trivial, Cert.InDx.algebraic,
  trivial, Cert.InGrad.algebraic,
  trivial, Cert.InProj.algebraic,
  trivial, Cert.TailFwd.algebraic,
  trivial, Cert.TailNext.algebraic,
  trivial, Cert.PoolFwd.algebraic,
  trivial, Cert.ConvFwd.algebraic,
  trivial, Cert.Adam9.algebraic,
  trivial, Cert.Adam10.algebraic,
  trivial, Cert.Adam11.algebraic,
  trivial, Cert.Adam12.algebraic,
  trivial, Cert.Adam13.algebraic,
  trivial, Cert.PreNorm.algebraic,
  trivial, Cert.Sum15.algebraic,
  trivial, Cert.Sum16.algebraic⟩

end Cert.Proof

end
